-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v32)) (v4 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_v33) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22_0) = v0 c
          ∧ r.2.mem ((c.tc : Thread Cert.ReferenceIdeal.nD Cert.ReferenceIdeal.τ).loc Cert.ReferenceIdeal.main_v22_1) = v1 c
          ∧ r.2.mem ((c.tc : Thread Cert.ReferenceIdeal.nD Cert.ReferenceIdeal.τ).loc Cert.ReferenceIdeal.main_v22_2) = v2 c
          ∧ r.2.mem ((c.tc : Thread Cert.ReferenceIdeal.nD Cert.ReferenceIdeal.τ).loc Cert.ReferenceIdeal.main_v22_3) = v3 c
          ∧ r.2.mem ((c.tc : Thread Cert.ReferenceIdeal.nD Cert.ReferenceIdeal.τ).loc Cert.ReferenceIdeal.main_v22_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2560x8x96 : Shape := ⟨3, ![2560, 8, 96]⟩
abbrev S73728x4x96 : Shape := ⟨3, ![73728, 4, 96]⟩
abbrev S73728x4 : Shape := ⟨2, ![73728, 4]⟩
abbrev S1 : Shape := ⟨1, ![1]⟩
abbrev S73728 : Shape := ⟨1, ![73728]⟩
abbrev S2304 : Shape := ⟨1, ![2304]⟩
abbrev S8x96x2560 : Shape := ⟨3, ![8, 96, 2560]⟩
abbrev S4x96x73728 : Shape := ⟨3, ![4, 96, 73728]⟩
abbrev S4x73728 : Shape := ⟨2, ![4, 73728]⟩
abbrev S8x2560 : Shape := ⟨2, ![8, 2560]⟩
abbrev S320x64x128 : Shape := ⟨3, ![320, 64, 128]⟩
abbrev S8x96x512 : Shape := ⟨3, ![8, 96, 512]⟩
abbrev S8x512 : Shape := ⟨2, ![8, 512]⟩
abbrev S64x64x128 : Shape := ⟨3, ![64, 64, 128]⟩
abbrev S32x512 : Shape := ⟨2, ![32, 512]⟩
abbrev S1x96x512 : Shape := ⟨3, ![1, 96, 512]⟩
abbrev S96x512 : Shape := ⟨2, ![96, 512]⟩
abbrev S512 : Shape := ⟨1, ![512]⟩
abbrev S1x512 : Shape := ⟨2, ![1, 512]⟩
abbrev S128x512 : Shape := ⟨2, ![128, 512]⟩
abbrev S512x128 : Shape := ⟨2, ![512, 128]⟩
abbrev S64x8x128 : Shape := ⟨3, ![64, 8, 128]⟩
abbrev S2304x1 : Shape := ⟨2, ![2304, 1]⟩
abbrev S32 : Shape := ⟨1, ![32]⟩
abbrev S1x32 : Shape := ⟨2, ![1, 32]⟩
abbrev S2304x32 : Shape := ⟨2, ![2304, 32]⟩
abbrev S_ : Shape := ⟨0, ![]⟩
abbrev S1x73728 : Shape := ⟨2, ![1, 73728]⟩
abbrev S72x32 : Shape := ⟨2, ![72, 32]⟩
abbrev S72 : Shape := ⟨1, ![72]⟩
abbrev S2560x73728 : Shape := ⟨2, ![2560, 73728]⟩
abbrev S2560x128 : Shape := ⟨2, ![2560, 128]⟩
abbrev S4x96x512 : Shape := ⟨3, ![4, 96, 512]⟩
abbrev S4x512 : Shape := ⟨2, ![4, 512]⟩
abbrev S2560x512 : Shape := ⟨2, ![2560, 512]⟩
abbrev S8x128 : Shape := ⟨2, ![8, 128]⟩
abbrev S4x64x128 : Shape := ⟨3, ![4, 64, 128]⟩
abbrev S256x128 : Shape := ⟨2, ![256, 128]⟩
abbrev S256x96 : Shape := ⟨2, ![256, 96]⟩
abbrev S256x512 : Shape := ⟨2, ![256, 512]⟩
abbrev S1x128 : Shape := ⟨2, ![1, 128]⟩
abbrev S1x8x128 : Shape := ⟨3, ![1, 8, 128]⟩
abbrev S8 : Shape := ⟨1, ![8]⟩
abbrev S8x1 : Shape := ⟨2, ![8, 1]⟩
abbrev S2560x72 : Shape := ⟨2, ![2560, 72]⟩
abbrev S72x1024x4x96 : Shape := ⟨4, ![72, 1024, 4, 96]⟩
abbrev S72x3x4x96 : Shape := ⟨4, ![72, 3, 4, 96]⟩
abbrev S864x96 : Shape := ⟨2, ![864, 96]⟩
abbrev S72x1024x4 : Shape := ⟨3, ![72, 1024, 4]⟩
abbrev S72x3x4 : Shape := ⟨3, ![72, 3, 4]⟩
abbrev S864x1 : Shape := ⟨2, ![864, 1]⟩
abbrev S864x128 : Shape := ⟨2, ![864, 128]⟩
abbrev S216x32x2560 : Shape := ⟨3, ![216, 32, 2560]⟩
abbrev S288x96 : Shape := ⟨2, ![288, 96]⟩
abbrev S288x128 : Shape := ⟨2, ![288, 128]⟩
abbrev S8x96x256 : Shape := ⟨3, ![8, 96, 256]⟩
abbrev S8x256 : Shape := ⟨2, ![8, 256]⟩
abbrev S72x32x256 : Shape := ⟨3, ![72, 32, 256]⟩
abbrev S1x96x256 : Shape := ⟨3, ![1, 96, 256]⟩
abbrev S96x256 : Shape := ⟨2, ![96, 256]⟩
abbrev S288x256 : Shape := ⟨2, ![288, 256]⟩
abbrev S1x256 : Shape := ⟨2, ![1, 256]⟩
abbrev S288x1 : Shape := ⟨2, ![288, 1]⟩
abbrev S72x4x256 : Shape := ⟨3, ![72, 4, 256]⟩
abbrev S2560x216x32 : Shape := ⟨3, ![2560, 216, 32]⟩
abbrev S2560x72x3x32 : Shape := ⟨4, ![2560, 72, 3, 32]⟩
abbrev S2560x8 : Shape := ⟨2, ![2560, 8]⟩

abbrev nBuf : Space → Nat
  | .hbm => 51
  | .vmem => 33
  | .smem => 2
  | _ => 0

abbrev bufTy : (tb : Table) → Fin (tcTables nBuf tb) → BufTy
  | .hbm, ⟨0, _⟩ => ⟨S2560x8x96, .bf16⟩
  | .hbm, ⟨1, _⟩ => ⟨S73728x4x96, .i8⟩
  | .hbm, ⟨2, _⟩ => ⟨S73728x4, .f32⟩
  | .hbm, ⟨3, _⟩ => ⟨S1, .f32⟩
  | .hbm, ⟨4, _⟩ => ⟨S73728, .f32⟩
  | .hbm, ⟨5, _⟩ => ⟨S2304, .i32⟩
  | .hbm, ⟨6, _⟩ => ⟨S8x96x2560, .bf16⟩
  | .hbm, ⟨7, _⟩ => ⟨S4x96x73728, .i8⟩
  | .hbm, ⟨8, _⟩ => ⟨S4x73728, .f32⟩
  | .hbm, ⟨9, _⟩ => ⟨S8x96x2560, .i8⟩
  | .hbm, ⟨10, _⟩ => ⟨S8x2560, .f32⟩
  | .hbm, ⟨11, _⟩ => ⟨S320x64x128, .bf16⟩
  | .hbm, ⟨12, _⟩ => ⟨S320x64x128, .f32⟩
  | .hbm, ⟨13, _⟩ => ⟨S2304x1, .i32⟩
  | .hbm, ⟨14, _⟩ => ⟨S32, .i32⟩
  | .hbm, ⟨15, _⟩ => ⟨S1x32, .i32⟩
  | .hbm, ⟨16, _⟩ => ⟨S2304x32, .i32⟩
  | .hbm, ⟨17, _⟩ => ⟨S2304x32, .i32⟩
  | .hbm, ⟨18, _⟩ => ⟨S2304x32, .i32⟩
  | .hbm, ⟨19, _⟩ => ⟨S_, .i32⟩
  | .hbm, ⟨20, _⟩ => ⟨S2304x32, .i32⟩
  | .hbm, ⟨21, _⟩ => ⟨S2304x32, .i32⟩
  | .hbm, ⟨22, _⟩ => ⟨S1x73728, .i32⟩
  | .hbm, ⟨23, _⟩ => ⟨S1x73728, .f32⟩
  | .hbm, ⟨24, _⟩ => ⟨S72x32, .i32⟩
  | .hbm, ⟨25, _⟩ => ⟨S_, .i32⟩
  | .hbm, ⟨26, _⟩ => ⟨S72x32, .i32⟩
  | .hbm, ⟨27, _⟩ => ⟨S72x32, .i1⟩
  | .hbm, ⟨28, _⟩ => ⟨S_, .i1⟩
  | .hbm, ⟨29, _⟩ => ⟨S72, .i1⟩
  | .hbm, ⟨30, _⟩ => ⟨S1x73728, .f32⟩
  | .hbm, ⟨31, _⟩ => ⟨S2560x73728, .bf16⟩
  | .hbm, ⟨32, _⟩ => ⟨S2560x128, .f32⟩
  | .hbm, ⟨33, _⟩ => ⟨S2560x72, .f32⟩
  | .hbm, ⟨34, _⟩ => ⟨S_, .f32⟩
  | .hbm, ⟨35, _⟩ => ⟨S_, .f32⟩
  | .hbm, ⟨36, _⟩ => ⟨S2560x72, .i1⟩
  | .hbm, ⟨37, _⟩ => ⟨S2560x72, .f32⟩
  | .hbm, ⟨38, _⟩ => ⟨S2560x72, .f32⟩
  | .hbm, ⟨39, _⟩ => ⟨S72x1024x4x96, .i8⟩
  | .hbm, ⟨40, _⟩ => ⟨S72x3x4x96, .i8⟩
  | .hbm, ⟨41, _⟩ => ⟨S864x96, .i8⟩
  | .hbm, ⟨42, _⟩ => ⟨S72x1024x4, .f32⟩
  | .hbm, ⟨43, _⟩ => ⟨S72x3x4, .f32⟩
  | .hbm, ⟨44, _⟩ => ⟨S864x1, .f32⟩
  | .hbm, ⟨45, _⟩ => ⟨S864x128, .f32⟩
  | .hbm, ⟨46, _⟩ => ⟨S216x32x2560, .f32⟩
  | .hbm, ⟨47, _⟩ => ⟨S2560x216x32, .f32⟩
  | .hbm, ⟨48, _⟩ => ⟨S2560x72x3x32, .f32⟩
  | .hbm, ⟨49, _⟩ => ⟨S2560x8x96, .i8⟩
  | .hbm, ⟨50, _⟩ => ⟨S2560x8, .f32⟩
  | .local _ .vmem, ⟨0, _⟩ => ⟨S8x96x512, .bf16⟩
  | .local _ .vmem, ⟨1, _⟩ => ⟨S8x96x512, .bf16⟩
  | .local _ .vmem, ⟨2, _⟩ => ⟨S8x96x512, .i8⟩
  | .local _ .vmem, ⟨3, _⟩ => ⟨S8x96x512, .i8⟩
  | .local _ .vmem, ⟨4, _⟩ => ⟨S8x512, .f32⟩
  | .local _ .vmem, ⟨5, _⟩ => ⟨S8x512, .f32⟩
  | .local _ .vmem, ⟨6, _⟩ => ⟨S64x64x128, .bf16⟩
  | .local _ .vmem, ⟨7, _⟩ => ⟨S64x64x128, .bf16⟩
  | .local _ .vmem, ⟨8, _⟩ => ⟨S64x64x128, .f32⟩
  | .local _ .vmem, ⟨9, _⟩ => ⟨S64x64x128, .f32⟩
  | .local _ .vmem, ⟨10, _⟩ => ⟨S320x64x128, .bf16⟩
  | .local _ .vmem, ⟨11, _⟩ => ⟨S320x64x128, .f32⟩
  | .local _ .vmem, ⟨12, _⟩ => ⟨S4x96x512, .i8⟩
  | .local _ .vmem, ⟨13, _⟩ => ⟨S4x96x512, .i8⟩
  | .local _ .vmem, ⟨14, _⟩ => ⟨S4x512, .f32⟩
  | .local _ .vmem, ⟨15, _⟩ => ⟨S4x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S2560x512, .bf16⟩
  | .local _ .vmem, ⟨21, _⟩ => ⟨S2560x512, .bf16⟩
  | .local _ .vmem, ⟨22, _⟩ => ⟨S2560x128, .f32⟩
  | .local _ .vmem, ⟨23, _⟩ => ⟨S288x96, .i8⟩
  | .local _ .vmem, ⟨24, _⟩ => ⟨S288x96, .i8⟩
  | .local _ .vmem, ⟨25, _⟩ => ⟨S288x128, .f32⟩
  | .local _ .vmem, ⟨26, _⟩ => ⟨S288x128, .f32⟩
  | .local _ .vmem, ⟨27, _⟩ => ⟨S8x96x256, .i8⟩
  | .local _ .vmem, ⟨28, _⟩ => ⟨S8x96x256, .i8⟩
  | .local _ .vmem, ⟨29, _⟩ => ⟨S8x256, .f32⟩
  | .local _ .vmem, ⟨30, _⟩ => ⟨S8x256, .f32⟩
  | .local _ .vmem, ⟨31, _⟩ => ⟨S72x32x256, .f32⟩
  | .local _ .vmem, ⟨32, _⟩ => ⟨S72x32x256, .f32⟩
  | .local _ .smem, ⟨0, _⟩ => ⟨S1, .f32⟩
  | .local _ .smem, ⟨1, _⟩ => ⟨S1, .f32⟩
  | _, _ => ⟨S2560x8x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v20 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc0_stg0_0 : Ref sig .tc := ⟨.smem, 0, rfl⟩
abbrev cc2_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc2_sem0_0 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![5], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x96x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x96x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![144], ![false]⟩

@[reducible] def k1_t1_loop : Scf.Loop 32 :=
  let c0_i32_14 : BitVec 32 := 0#32
  let c80_i32 : BitVec 32 := 80#32
  let v33 : BitVec 32 := Scalar.addi c0_i32_14 c80_i32
  let c1_i32_15 : BitVec 32 := 1#32
  ⟨c0_i32_14, v33, c1_i32_15⟩
def k1_off1 (k1_t1 : Fin k1_t1_loop.trips) : Fin 3 → Nat :=
  let c0_i32_14 : BitVec 32 := 0#32
  let c1_i32_15 : BitVec 32 := 1#32
  let arg9 : BitVec 32 := Scf.iv c0_i32_14 c1_i32_15 k1_t1
  let c4_i32 : BitVec 32 := 4#32
  let v34 : BitVec 32 := Scalar.muli arg9 c4_i32
  let v35 : Index := Scalar.indexCast v34
  let c0_17 : Index := 0#32
  let c0_18 : Index := 0#32
  ![v35.toNat, 0, 0]
def k1_mult1 (k1_t1 : Fin k1_t1_loop.trips) : BitVec 32 :=
  let c0_i32_14 : BitVec 32 := 0#32
  let c1_i32_15 : BitVec 32 := 1#32
  let arg9 : BitVec 32 := Scf.iv c0_i32_14 c1_i32_15 k1_t1
  let c4_i32 : BitVec 32 := 4#32
  let v34 : BitVec 32 := Scalar.muli arg9 c4_i32
  let c0_i32_90 : BitVec 32 := 0#32
  let v1448 : BitVec 32 := Scalar.addi v34 c0_i32_90
  let c8_i32 : BitVec 32 := 8#32
  let v1449 : BitVec 32 := Scalar.muli v1448 c8_i32
  v1449
def k1_off2 (k1_t1 : Fin k1_t1_loop.trips) (c0_i32_90 : BitVec 32) : Fin 2 → Nat :=
  let c0_i32_14 : BitVec 32 := 0#32
  let c1_i32_15 : BitVec 32 := 1#32
  let arg9 : BitVec 32 := Scf.iv c0_i32_14 c1_i32_15 k1_t1
  let c4_i32 : BitVec 32 := 4#32
  let v34 : BitVec 32 := Scalar.muli arg9 c4_i32
  let v1448 : BitVec 32 := Scalar.addi v34 c0_i32_90
  let c8_i32 : BitVec 32 := 8#32
  let v1449 : BitVec 32 := Scalar.muli v1448 c8_i32
  let v1450 : BitVec 32 := v1449
  let v1453 : Index := Scalar.indexCast v1450
  let c0_91 : Index := 0#32
  ![v1453.toNat, 0]
def k1_off3 (k1_t1 : Fin k1_t1_loop.trips) (c0_i32_90 : BitVec 32) : Fin 2 → Nat :=
  let c0_i32_14 : BitVec 32 := 0#32
  let c1_i32_15 : BitVec 32 := 1#32
  let arg9 : BitVec 32 := Scf.iv c0_i32_14 c1_i32_15 k1_t1
  let c4_i32 : BitVec 32 := 4#32
  let v34 : BitVec 32 := Scalar.muli arg9 c4_i32
  let v1448 : BitVec 32 := Scalar.addi v34 c0_i32_90
  let c8_i32 : BitVec 32 := 8#32
  let v1449 : BitVec 32 := Scalar.muli v1448 c8_i32
  let v1450 : BitVec 32 := v1449
  let v1457 : Index := Scalar.indexCast v1450
  let c0_93 : Index := 0#32
  ![v1457.toNat, 0]
def k1_mult2 (k1_t1 : Fin k1_t1_loop.trips) : BitVec 32 :=
  let c0_i32_14 : BitVec 32 := 0#32
  let c1_i32_15 : BitVec 32 := 1#32
  let arg9 : BitVec 32 := Scf.iv c0_i32_14 c1_i32_15 k1_t1
  let c4_i32 : BitVec 32 := 4#32
  let v34 : BitVec 32 := Scalar.muli arg9 c4_i32
  let c1_i32_164 : BitVec 32 := 1#32
  let v2868 : BitVec 32 := Scalar.addi v34 c1_i32_164
  let c8_i32_165 : BitVec 32 := 8#32
  let v2869 : BitVec 32 := Scalar.muli v2868 c8_i32_165
  v2869
def k1_mult3 (k1_t1 : Fin k1_t1_loop.trips) : BitVec 32 :=
  let c0_i32_14 : BitVec 32 := 0#32
  let c1_i32_15 : BitVec 32 := 1#32
  let arg9 : BitVec 32 := Scf.iv c0_i32_14 c1_i32_15 k1_t1
  let c4_i32 : BitVec 32 := 4#32
  let v34 : BitVec 32 := Scalar.muli arg9 c4_i32
  let c2_i32_239 : BitVec 32 := 2#32
  let v4288 : BitVec 32 := Scalar.addi v34 c2_i32_239
  let c8_i32_240 : BitVec 32 := 8#32
  let v4289 : BitVec 32 := Scalar.muli v4288 c8_i32_240
  v4289
def k1_mult4 (k1_t1 : Fin k1_t1_loop.trips) : BitVec 32 :=
  let c0_i32_14 : BitVec 32 := 0#32
  let c1_i32_15 : BitVec 32 := 1#32
  let arg9 : BitVec 32 := Scf.iv c0_i32_14 c1_i32_15 k1_t1
  let c4_i32 : BitVec 32 := 4#32
  let v34 : BitVec 32 := Scalar.muli arg9 c4_i32
  let c3_i32 : BitVec 32 := 3#32
  let v5708 : BitVec 32 := Scalar.addi v34 c3_i32
  let c8_i32_314 : BitVec 32 := 8#32
  let v5709 : BitVec 32 := Scalar.muli v5708 c8_i32_314
  v5709
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S320x64x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S320x64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x96x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2560x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2560x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨2, ![3, 10], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S288x96 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S288x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S8x96x256 .i8 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S8x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S72x32x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== ReferenceIdeal.lean ====
abbrev S2560x8x96 : Shape := ⟨3, ![2560, 8, 96]⟩
abbrev S73728x4x96 : Shape := ⟨3, ![73728, 4, 96]⟩
abbrev S73728x4 : Shape := ⟨2, ![73728, 4]⟩
abbrev S1 : Shape := ⟨1, ![1]⟩
abbrev S73728 : Shape := ⟨1, ![73728]⟩
abbrev S2304 : Shape := ⟨1, ![2304]⟩
abbrev S2304x1 : Shape := ⟨2, ![2304, 1]⟩
abbrev S32 : Shape := ⟨1, ![32]⟩
abbrev S1x32 : Shape := ⟨2, ![1, 32]⟩
abbrev S2304x32 : Shape := ⟨2, ![2304, 32]⟩
abbrev S_ : Shape := ⟨0, ![]⟩
abbrev S1x73728 : Shape := ⟨2, ![1, 73728]⟩
abbrev S72x1024x4x96 : Shape := ⟨4, ![72, 1024, 4, 96]⟩
abbrev S72x3x4x96 : Shape := ⟨4, ![72, 3, 4, 96]⟩
abbrev S216x4x96 : Shape := ⟨3, ![216, 4, 96]⟩
abbrev S72x1024x4 : Shape := ⟨3, ![72, 1024, 4]⟩
abbrev S72x3x4 : Shape := ⟨3, ![72, 3, 4]⟩
abbrev S216x4 : Shape := ⟨2, ![216, 4]⟩
abbrev S4x73728x96 : Shape := ⟨3, ![4, 73728, 96]⟩
abbrev S4x73728 : Shape := ⟨2, ![4, 73728]⟩
abbrev S4x1x73728 : Shape := ⟨3, ![4, 1, 73728]⟩
abbrev S4x216x96 : Shape := ⟨3, ![4, 216, 96]⟩
abbrev S4x216 : Shape := ⟨2, ![4, 216]⟩
abbrev S4x1x216 : Shape := ⟨3, ![4, 1, 216]⟩
abbrev S2560x73728 : Shape := ⟨2, ![2560, 73728]⟩
abbrev S2560x72 : Shape := ⟨2, ![2560, 72]⟩
abbrev S2560x72x3x32 : Shape := ⟨4, ![2560, 72, 3, 32]⟩
abbrev S2560x8 : Shape := ⟨2, ![2560, 8]⟩
abbrev S2560x8x1 : Shape := ⟨3, ![2560, 8, 1]⟩
abbrev S20480x96 : Shape := ⟨2, ![20480, 96]⟩
abbrev S1x73728x96 : Shape := ⟨3, ![1, 73728, 96]⟩
abbrev S73728x96 : Shape := ⟨2, ![73728, 96]⟩
abbrev S96x73728 : Shape := ⟨2, ![96, 73728]⟩
abbrev S20480x73728 : Shape := ⟨2, ![20480, 73728]⟩
abbrev S2560x8x73728 : Shape := ⟨3, ![2560, 8, 73728]⟩
abbrev S1x1x73728 : Shape := ⟨3, ![1, 1, 73728]⟩
abbrev S2560x1x73728 : Shape := ⟨3, ![2560, 1, 73728]⟩
abbrev S2560x72x1024 : Shape := ⟨3, ![2560, 72, 1024]⟩
abbrev S1x72x1024 : Shape := ⟨3, ![1, 72, 1024]⟩
abbrev S1x72 : Shape := ⟨2, ![1, 72]⟩
abbrev S1x216x96 : Shape := ⟨3, ![1, 216, 96]⟩
abbrev S216x96 : Shape := ⟨2, ![216, 96]⟩
abbrev S96x216 : Shape := ⟨2, ![96, 216]⟩
abbrev S20480x216 : Shape := ⟨2, ![20480, 216]⟩
abbrev S2560x8x216 : Shape := ⟨3, ![2560, 8, 216]⟩
abbrev S1x1x216 : Shape := ⟨3, ![1, 1, 216]⟩
abbrev S1x216 : Shape := ⟨2, ![1, 216]⟩
abbrev S2560x8x1x216 : Shape := ⟨4, ![2560, 8, 1, 216]⟩
abbrev S2560x8x4x216 : Shape := ⟨4, ![2560, 8, 4, 216]⟩
abbrev S2560x32x216 : Shape := ⟨3, ![2560, 32, 216]⟩
abbrev S2560x216x32 : Shape := ⟨3, ![2560, 216, 32]⟩

abbrev nBuf : Space → Nat
  | .hbm => 34
  | .vmem => 12
  | .smem => 1
  | _ => 0

abbrev bufTy : (tb : Table) → Fin (tcTables nBuf tb) → BufTy
  | .hbm, ⟨0, _⟩ => ⟨S2560x8x96, .bf16⟩
  | .hbm, ⟨1, _⟩ => ⟨S73728x4x96, .i8⟩
  | .hbm, ⟨2, _⟩ => ⟨S73728x4, .f32⟩
  | .hbm, ⟨3, _⟩ => ⟨S1, .f32⟩
  | .hbm, ⟨4, _⟩ => ⟨S73728, .f32⟩
  | .hbm, ⟨5, _⟩ => ⟨S2304, .i32⟩
  | .hbm, ⟨6, _⟩ => ⟨S2304x1, .i32⟩
  | .hbm, ⟨7, _⟩ => ⟨S32, .i32⟩
  | .hbm, ⟨8, _⟩ => ⟨S1x32, .i32⟩
  | .hbm, ⟨9, _⟩ => ⟨S2304x32, .i32⟩
  | .hbm, ⟨10, _⟩ => ⟨S2304x32, .i32⟩
  | .hbm, ⟨11, _⟩ => ⟨S2304x32, .i32⟩
  | .hbm, ⟨12, _⟩ => ⟨S_, .i32⟩
  | .hbm, ⟨13, _⟩ => ⟨S2304x32, .i32⟩
  | .hbm, ⟨14, _⟩ => ⟨S2304x32, .i32⟩
  | .hbm, ⟨15, _⟩ => ⟨S1x73728, .i32⟩
  | .hbm, ⟨16, _⟩ => ⟨S72x1024x4x96, .i8⟩
  | .hbm, ⟨17, _⟩ => ⟨S72x3x4x96, .i8⟩
  | .hbm, ⟨18, _⟩ => ⟨S216x4x96, .i8⟩
  | .hbm, ⟨19, _⟩ => ⟨S72x1024x4, .f32⟩
  | .hbm, ⟨20, _⟩ => ⟨S72x3x4, .f32⟩
  | .hbm, ⟨21, _⟩ => ⟨S216x4, .f32⟩
  | .hbm, ⟨22, _⟩ => ⟨S4x73728x96, .i8⟩
  | .hbm, ⟨23, _⟩ => ⟨S4x73728, .f32⟩
  | .hbm, ⟨24, _⟩ => ⟨S4x1x73728, .f32⟩
  | .hbm, ⟨25, _⟩ => ⟨S1x73728, .f32⟩
  | .hbm, ⟨26, _⟩ => ⟨S4x216x96, .i8⟩
  | .hbm, ⟨27, _⟩ => ⟨S4x216, .f32⟩
  | .hbm, ⟨28, _⟩ => ⟨S4x1x216, .f32⟩
  | .hbm, ⟨29, _⟩ => ⟨S2560x73728, .bf16⟩
  | .hbm, ⟨30, _⟩ => ⟨S2560x72, .f32⟩
  | .hbm, ⟨31, _⟩ => ⟨S2560x72x3x32, .f32⟩
  | .hbm, ⟨32, _⟩ => ⟨S2560x8x96, .i8⟩
  | .hbm, ⟨33, _⟩ => ⟨S2560x8, .f32⟩
  | .local _ .vmem, ⟨0, _⟩ => ⟨S2560x8x96, .bf16⟩
  | .local _ .vmem, ⟨1, _⟩ => ⟨S4x73728x96, .i8⟩
  | .local _ .vmem, ⟨2, _⟩ => ⟨S4x1x73728, .f32⟩
  | .local _ .vmem, ⟨3, _⟩ => ⟨S1x73728, .f32⟩
  | .local _ .vmem, ⟨4, _⟩ => ⟨S1x73728, .i32⟩
  | .local _ .vmem, ⟨5, _⟩ => ⟨S4x216x96, .i8⟩
  | .local _ .vmem, ⟨6, _⟩ => ⟨S4x1x216, .f32⟩
  | .local _ .vmem, ⟨7, _⟩ => ⟨S2560x73728, .bf16⟩
  | .local _ .vmem, ⟨8, _⟩ => ⟨S2560x72, .f32⟩
  | .local _ .vmem, ⟨9, _⟩ => ⟨S2560x72x3x32, .f32⟩
  | .local _ .vmem, ⟨10, _⟩ => ⟨S2560x8x96, .i8⟩
  | .local _ .vmem, ⟨11, _⟩ => ⟨S2560x8, .f32⟩
  | .local _ .smem, ⟨0, _⟩ => ⟨S1, .f32⟩
  | _, _ => ⟨S2560x8x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v22_3 : Ref sig .tc := ⟨.hbm, 32, rfl⟩
abbrev main_v22_4 : Ref sig .tc := ⟨.hbm, 33, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2560x8x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x73728x96 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1x73728 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x73728 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x73728 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x216x96 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1x216 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2560x73728 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2560x72 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2560x72x3x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2560x8x96 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2560x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.QuantRegion.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

/-! The first call of the kernel (quantising the users) as a region of @main: what each point leaves in its
output blocks, as a function of the arrays the region is entered with, and the obligation of its body. -/

namespace Cert.KernelIdeal.Quant

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The kernel body at point `t`, on what the pipeline calls it with (`defs₀`'s row at the slots). -/
abbrev bodyAt0 (t : Fin cfg0.N) : Prog (TpuEff nD τ sig (Elt F) Λ₀ .tc) PUnit :=
  cc0_quantise_users (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S8x96x512 .i8 := (Memref.whole cc0_stg2_0 : Memref sig .tc .vmem S8x96x512 .i8).view
/-- One staging buffer of output window 3, through which its contents are stated (`View.read_writes_of_cover`: the
    choice does not matter). -/
abbrev VO0_3 : View sig .tc .vmem S8x512 .f32 := (Memref.whole cc0_stg3_0 : Memref sig .tc .vmem S8x512 .f32).view
/-- One staging buffer of output window 4, through which its contents are stated (`View.read_writes_of_cover`: the
    choice does not matter). -/
abbrev VO0_4 : View sig .tc .vmem S64x64x128 .bf16 := (Memref.whole cc0_stg4_0 : Memref sig .tc .vmem S64x64x128 .bf16).view
/-- One staging buffer of output window 5, through which its contents are stated (`View.read_writes_of_cover`: the
    choice does not matter). -/
abbrev VO0_5 : View sig .tc .vmem S64x64x128 .f32 := (Memref.whole cc0_stg5_0 : Memref sig .tc .vmem S64x64x128 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x96x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x96x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64x128 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) :
    Σ' (L2 : List (View.Piece (Elt F) S8x96x512 .i8)), Σ' (L3 : List (View.Piece (Elt F) S8x512 .f32)), Σ' (L4 : List (View.Piece (Elt F) S64x64x128 .bf16)), { L5 : List (View.Piece (Elt F) S64x64x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_quantise_users i arg1 harg1 arg2 harg2 arg3 harg3 arg4 harg4 arg5 harg5 arg6 harg6) K } := by
  refine ⟨?_, ?_, ?_, ?_, fun E K => ?run⟩
  case run =>
    simp only [cc0_quantise_users_eq_skeleton]; unfold cc0_quantise_users_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

/-- The run's pieces for output 2 tile its block (8 stores of `S1x96x512`, checked by the kernel's evaluation: Lib/Ring.lean `Piece.tiledL`, linear in the pieces, through a loop's `@[irreducible]` trip theorem too), so they cover it. -/
theorem cover0_A_2 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) (y : S8x96x512.Idx) :
    ∃ pc ∈ (kernelRun0_A c i arg1 harg1 arg2 harg2 arg3 harg3 arg4 harg4 arg5 harg5 arg6 harg6 x0 x1).1, y ∈ pc.1.set :=
  View.cover_of_tiledL (kernelRun0_A c i arg1 harg1 arg2 harg2 arg3 harg3 arg4 harg4 arg5 harg5 arg6 harg6 x0 x1).1 S1x96x512.size (by sl_kernel_rfl) y

/-- What the run leaves in output 2's staging buffer: its pieces read back over junk. -/
def out0_A_2 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) : Vec F S8x96x512 .i8 :=
  VO0_2.read (Elt F) (VO0_2.writes (Elt F) VO0_2.junk (kernelRun0_A c i arg1 harg1 arg2 harg2 arg3 harg3 arg4 harg4 arg5 harg5 arg6 harg6 x0 x1).1)

/-- The run's pieces for output 3 tile its block (8 stores of `S1x512`, checked by the kernel's evaluation: Lib/Ring.lean `Piece.tiledL`, linear in the pieces, through a loop's `@[irreducible]` trip theorem too), so they cover it. -/
theorem cover0_A_3 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) (y : S8x512.Idx) :
    ∃ pc ∈ (kernelRun0_A c i arg1 harg1 arg2 harg2 arg3 harg3 arg4 harg4 arg5 harg5 arg6 harg6 x0 x1).2.1, y ∈ pc.1.set :=
  View.cover_of_tiledL (kernelRun0_A c i arg1 harg1 arg2 harg2 arg3 harg3 arg4 harg4 arg5 harg5 arg6 harg6 x0 x1).2.1 S1x512.size (by sl_kernel_rfl) y

/-- What the run leaves in output 3's staging buffer: its pieces read back over junk. -/
def out0_A_3 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) : Vec F S8x512 .f32 :=
  VO0_3.read (Elt F) (VO0_3.writes (Elt F) VO0_3.junk (kernelRun0_A c i arg1 harg1 arg2 harg2 arg3 harg3 arg4 harg4 arg5 harg5 arg6 harg6 x0 x1).2.1)

/-- The run's pieces for output 4 tile its block (1 store of `S64x64x128`, checked by the kernel's evaluation: Lib/Ring.lean `Piece.tiledL`, linear in the pieces, through a loop's `@[irreducible]` trip theorem too), so they cover it. -/
theorem cover0_A_4 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) (y : S64x64x128.Idx) :
    ∃ pc ∈ (kernelRun0_A c i arg1 harg1 arg2 harg2 arg3 harg3 arg4 harg4 arg5 harg5 arg6 harg6 x0 x1).2.2.1, y ∈ pc.1.set :=
  View.cover_of_tiledL (kernelRun0_A c i arg1 harg1 arg2 harg2 arg3 harg3 arg4 harg4 arg5 harg5 arg6 harg6 x0 x1).2.2.1 S64x64x128.size (by sl_kernel_rfl) y

/-- What the run leaves in output 4's staging buffer: its pieces read back over junk. -/
def out0_A_4 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) : Vec F S64x64x128 .bf16 :=
  VO0_4.read (Elt F) (VO0_4.writes (Elt F) VO0_4.junk (kernelRun0_A c i arg1 harg1 arg2 harg2 arg3 harg3 arg4 harg4 arg5 harg5 arg6 harg6 x0 x1).2.2.1)

/-- The run's pieces for output 5 tile its block (8 stores of `S64x8x128`, checked by the kernel's evaluation: Lib/Ring.lean `Piece.tiledL`, linear in the pieces, through a loop's `@[irreducible]` trip theorem too), so they cover it. -/
theorem cover0_A_5 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) (y : S64x64x128.Idx) :
    ∃ pc ∈ (kernelRun0_A c i arg1 harg1 arg2 harg2 arg3 harg3 arg4 harg4 arg5 harg5 arg6 harg6 x0 x1).2.2.2.1, y ∈ pc.1.set :=
  View.cover_of_tiledL (kernelRun0_A c i arg1 harg1 arg2 harg2 arg3 harg3 arg4 harg4 arg5 harg5 arg6 harg6 x0 x1).2.2.2.1 S64x8x128.size (by sl_kernel_rfl) y

/-- What the run leaves in output 5's staging buffer: its pieces read back over junk. -/
def out0_A_5 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) : Vec F S64x64x128 .f32 :=
  VO0_5.read (Elt F) (VO0_5.writes (Elt F) VO0_5.junk (kernelRun0_A c i arg1 harg1 arg2 harg2 arg3 harg3 arg4 harg4 arg5 harg5 arg6 harg6 x0 x1).2.2.2.1)

/-! ## What the outputs hold after each point -/

/-- What the outputs' staging buffers hold after the body at point `t` (as a tuple, in window order): the run's contents at
    the point's memrefs and input blocks. -/
def outsAt0 (c : Dev nD) (t : Fin cfg0.N) : Vec F S8x96x512 .i8 × Vec F S8x512 .f32 × Vec F S64x64x128 .bf16 × Vec F S64x64x128 .f32 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t).1
    | ⟨3, _⟩ => (outsAt0 V c t).2.1
    | ⟨4, _⟩ => (outsAt0 V c t).2.2.1
    | ⟨5, _⟩ => (outsAt0 V c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t).1 := by dsimp only [dat]
theorem after0_3 (c : Dev nD) (t : Fin cfg0.N) : (dat V c).after 3 t = (outsAt0 V c t).2.1 := by dsimp only [dat]
theorem after0_4 (c : Dev nD) (t : Fin cfg0.N) : (dat V c).after 4 t = (outsAt0 V c t).2.2.1 := by dsimp only [dat]
theorem after0_5 (c : Dev nD) (t : Fin cfg0.N) : (dat V c).after 5 t = (outsAt0 V c t).2.2.2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t))

/-- The body at any point: the inputs' memrefs hold their blocks (`before0_W`); so the
    run applies; the invariant passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3, after0_4, after0_5]
  unfold outsAt0
  unfold out0_A_2 out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk V c 0 t) (iblk V c 1 t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.KernelIdeal.Quant

end
-- ==== Proof.ScoreTrip.lean ====
module

public import proofs.«01_k».proof.Proof.Gen.KernelIdeal.Loops

@[expose] public section

set_option maxRecDepth 16384

/-!
# One trip of the scoring loop, in whole vectors

The scoring call walks the users in groups of four.  For one group the trip multiplies the users'
code rows with the four code matrices, scales the products, folds the 32 products of a user and an
item column into a log-sum-exp, and stores one row block of scores and one row block of block maxima
per user block.  The printed trip spells every product out; here the same trip is written with
indices: `term` is one scaled product, `score` the log-sum-exp of one user block and lane column,
`rows` the stored row block of scores and `best` the running maximum of a user block.
-/

noncomputable section

namespace Cert.KernelIdeal.Score

open Idealize.ShloMosaic Idealize.ShloMosaic.TcCoe Idealize.SL.Sem
open Cert.KernelIdeal.Gen

variable {F : FTy → Type} [FloatOps F]

/-- The left fold `t 0 * t 1 * … * t n` of an operation. -/
def foldTo {α : Type} (f : α → α → α) (t : ℕ → α) : ℕ → α
  | 0 => t 0
  | n + 1 => f (foldTo f t n) (t (n + 1))

theorem slices_dots (g c : Fin 4) (u : Fin 8) :
    S256x512.Slices ![64 * g.val + 8 * u.val, 128 * c.val] S8x128 := by
  revert g c u; decide +kernel

theorem slices_gain (g : Fin 4) (u : Fin 8) :
    S4x64x128.Slices ![g.val, 8 * u.val, 0] S1x8x128 := by
  revert g u; decide +kernel

section Tile

variable (W : Fin 4 → FVec F S96x512 .bf16) (L : Vec F S4x64x128 .bf16) (G : Vec F S4x64x128 .f32)
  (Sc : Fin 4 → Fin 4 → Vec F S1x128 .f32) (Va Ba : Fin 4 → Vec F S1x128 .f32)

/-- The four users' code rows times the `k`-th code matrix. -/
def dots (k : Fin 4) : FVec F S256x512 .f32 :=
  matmul dot_S256x96_S96x512_S256x512_1_0_0_1_n_n none (k1_pay2 L) (W k)
    (constant S256x512 .f32 0x00000000#32)

/-- The scaled products of user block `g`, lane column `c`, code `k` and interest `u`. -/
def term (g c k : Fin 4) (u : Fin 8) : FVec F S8x128 .f32 :=
  mulf (mulf (extractStridedSlice S8x128 ![64 * g.val + 8 * u.val, 128 * c.val] (dots W L k)
        (slices_dots g c u))
      (shapeCast S8x128 (extractStridedSlice S1x8x128 ![g.val, 8 * u.val, 0]
        (shapeCast S4x64x128 G shapeCasts_S4x64x128_S4x64x128) (slices_gain g u))
        shapeCasts_S1x8x128_S8x128))
    (broadcastTo S8x128 (shapeCast S1x128 (Sc k c) shapeCasts_S1x128_S1x128)
      broadcasts_S1x128_S8x128)

/-- The 32 products in the order the kernel takes them: the codes outside, the interests inside. -/
def termAt (g c : Fin 4) (n : ℕ) : FVec F S8x128 .f32 :=
  term W L G Sc g c (Fin.ofNat 4 (n / 8)) (Fin.ofNat 8 (n % 8))

/-- The rounded-up largest product. -/
def peak (g c : Fin 4) : FVec F S8x128 .f32 :=
  ceil (foldTo maximumf (termAt W L G Sc g c) 31)

/-- The sum of the powers of two of the products, each lowered by the peak. -/
def den (g c : Fin 4) : FVec F S8x128 .f32 :=
  foldTo addf (fun n => exp2 (subf (termAt W L G Sc g c n) (peak W L G Sc g c))) 31

/-- The score before the mask. -/
def score (g c : Fin 4) : FVec F S8x128 .f32 :=
  subf (subf (addf (mulf (peak W L G Sc g c) (broadcast S8x128 (Scalar.ofBits .f32 0x3F317218#32)))
        (log (den W L G Sc g c)))
      (broadcast S8x128 (Scalar.ofBits .f32 0x405DCE9E#32)))
    (broadcastTo S8x128 (shapeCast S1x128 (Ba c) shapeCasts_S1x128_S1x128) broadcasts_S1x128_S8x128)

/-- The mask of lane column `c`: the items whose word is not zero. -/
def mask (c : Fin 4) : IVec S8x128 1 :=
  broadcastTo S8x128 (shapeCast S1x128 (cmpf .one (shapeCast S1x128 (Va c) shapeCasts_S1x128_S1x128)
    (broadcast S1x128 (Scalar.ofBits .f32 0x00000000#32))) shapeCasts_S1x128_S1x128)
    broadcasts_S1x128_S8x128

/-- The masked scores of one lane column. -/
def shown (g c : Fin 4) : FVec F S8x128 .f32 :=
  select (mask Va c) (score W L G Sc Ba g c) (broadcast S8x128 (Scalar.ofBits .f32 0x00000000#32))

/-- The stored row block of scores of user block `g`. -/
def rows (g : Fin 4) : FVec F S8x512 .bf16 :=
  truncf .bf16 (concatenate S8x512 1 [⟨S8x128, shown W L G Sc Va Ba g 0⟩, ⟨S8x128, shown W L G Sc Va Ba g 1⟩,
    ⟨S8x128, shown W L G Sc Va Ba g 2⟩, ⟨S8x128, shown W L G Sc Va Ba g 3⟩]
    concatenates_S8x128_S8x128_S8x128_S8x128_S8x512_d1) bitsLt_bf16_f32

/-- The scores of one lane column, minus infinity where the item is masked. -/
def ranked (g c : Fin 4) : FVec F S8x128 .f32 :=
  select (mask Va c) (score W L G Sc Ba g c) (broadcast S8x128 (Scalar.ofBits .f32 0xFF800000#32))

/-- The maximum over the four lane columns, lane by lane. -/
def top (g : Fin 4) : FVec F S8x128 .f32 :=
  maximumf (maximumf (maximumf (maximumf (broadcast S8x128 (Scalar.ofBits .f32 0xFF800000#32))
    (ranked W L G Sc Va Ba g 0)) (ranked W L G Sc Va Ba g 1)) (ranked W L G Sc Va Ba g 2))
    (ranked W L G Sc Va Ba g 3)

/-- The maximum of a user over the tile's items. -/
def best (g : Fin 4) : FVec F S8x1 .f32 :=
  shapeCast S8x1 (multiReduction .maximumf [1] S8 (top W L G Sc Va Ba g) 0xFF800000#32
    reduces_S8x128_S8 (.inl rfl) rfl) shapeCasts_S8_S8x1

/-- The stored row block of maxima: lane `block` is raised to `best`, the other lanes stay. -/
def raised (block : BitVec 32) (lane : IVec S8x128 32) (g : Fin 4) (old : Vec F S8x128 .f32) :
    FVec F S8x128 .f32 :=
  select (cmpi .eq lane (broadcast S8x128 block))
    (maximumf (shapeCast S8x128 old shapeCasts_S8x128_S8x128)
      (broadcastTo S8x128 (best W L G Sc Va Ba g) broadcasts_S8x1_S8x128))
    (shapeCast S8x128 old shapeCasts_S8x128_S8x128)

end Tile

theorem inb_scale (k c : Fin 4) :
    ∀ a, (![k.val, 128 * c.val] : Fin 2 → ℕ) a + S1x128.size a ≤ S4x512.size a := by
  revert k c; decide +kernel

theorem inb_lane (c : Fin 4) :
    ∀ a, (![0, 128 * c.val] : Fin 2 → ℕ) a + S1x128.size a ≤ S1x512.size a := by
  revert c; decide +kernel

section Trip

variable (𝒱 : Variants) (c : Dev nD) (bd : Option 𝒱.V) (i : grid1.Coords) (arg1 : Memref sig .tc .vmem S320x64x128 .bf16) (harg1 : arg1.IsWhole) (arg2 : Memref sig .tc .vmem S320x64x128 .f32) (harg2 : arg2.IsWhole) (arg3 : Memref sig .tc .vmem S4x96x512 .i8) (harg3 : arg3.IsWhole) (arg4 : Memref sig .tc .vmem S4x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2560x512 .bf16) (harg7 : arg7.IsWhole) (arg8 : Memref sig .tc .vmem S2560x128 .f32) (harg8 : arg8.IsWhole) (v2 : FVec F S96x512 .bf16) (v5 : FVec F S96x512 .bf16) (v8 : FVec F S96x512 .bf16) (v11 : FVec F S96x512 .bf16) (v28 : BitVec 32) (v29 : IVec S8x128 32) (c0_i32_14 : BitVec 32) (c1_i32_15 : BitVec 32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k1_t1_loop.trips)

/-- The scale row of code `k` and lane column `c`. -/
abbrev scaleRow (kk cc : Fin 4) : Vec F S1x128 .f32 :=
  View.readAt (Elt F) arg4.view (Rect.unit (s := S4x512) ![kk.val, 128 * cc.val] S1x128.size (inb_scale kk cc)).toLoadRect X_arg4

/-- Lane column `c` of a one-row window. -/
abbrev laneRow (arg : Memref sig .tc .vmem S1x512 .f32) (X : BufTy.Contents (Elt F) arg.view.ty) (cc : Fin 4) : Vec F S1x128 .f32 :=
  View.readAt (Elt F) arg.view (Rect.unit (s := S1x512) ![0, 128 * cc.val] S1x128.size (inb_lane cc)).toLoadRect X

/-- The four users' code rows of trip `k`. -/
abbrev tripRows : Vec F S4x64x128 .bf16 :=
  View.readAt (Elt F) arg1.view (Rect.unit (s := S320x64x128) (k1_off1 k) S4x64x128.size (k1_off1_inb k)).toLoadRect X_arg1

/-- The four users' gains of trip `k`. -/
abbrev tripGains : Vec F S4x64x128 .f32 :=
  View.readAt (Elt F) arg2.view (Rect.unit (s := S320x64x128) (k1_off1 k) S4x64x128.size (k1_off1_inb k)).toLoadRect X_arg2

/-- The four code matrices as one family. -/
abbrev mats : Fin 4 → FVec F S96x512 .bf16 := ![v2, v5, v8, v11]

/-- The stored row block of scores of the trip's user block `g`. -/
abbrev tripScore (g : Fin 4) : FVec F S8x512 .bf16 :=
  rows (mats v2 v5 v8 v11) (tripRows arg1 X_arg1 k) (tripGains arg2 X_arg2 k)
    (scaleRow arg4 X_arg4) (laneRow arg6 X_arg6) (laneRow arg5 X_arg5) g

/-- The stored row block of maxima of the trip's user block `g`, over the row block `old`. -/
abbrev tripRaised (g : Fin 4) (old : Vec F S8x128 .f32) : FVec F S8x128 .f32 :=
  raised (mats v2 v5 v8 v11) (tripRows arg1 X_arg1 k) (tripGains arg2 X_arg2 k)
    (scaleRow arg4 X_arg4) (laneRow arg6 X_arg6) (laneRow arg5 X_arg5) v28 v29 g old

attribute [local irreducible] mulf addf subf maximumf exp2 ceil log shapeCast extractStridedSlice broadcastTo
  broadcast multiReduction select cmpi cmpf truncf concatenate constant View.readAt

set_option maxHeartbeats 4000000

/-- The piece of user block `g` in the scores. -/
abbrev scorePiece (g : Fin 4) : View.Piece (Elt F) S2560x512 .bf16 :=
  ⟨Rect.unit (s := S2560x512) (k1_off2 k (BitVec.ofNat 32 g.val)) S8x512.size (k1_off2_inb k g), tripScore arg1 arg2 arg4 arg5 arg6 v2 v5 v8 v11 X_arg1 X_arg2 X_arg4 X_arg5 X_arg6 k g⟩

/-- The rows of the block maxima the trip finds for user block `g`. -/
abbrev oldTop (f_arg8 : BufTy.Contents (Elt F) arg8.view.ty) (g : Fin 4) : Vec F S8x128 .f32 :=
  View.readAt (Elt F) arg8.view (Rect.unit (s := S2560x128) (k1_off3 k (BitVec.ofNat 32 g.val)) S8x128.size (k1_off3_inb k g)).toLoadRect f_arg8

/-- The piece of user block `g` in the block maxima. -/
abbrev topPiece (f_arg8 : BufTy.Contents (Elt F) arg8.view.ty) (g : Fin 4) : View.Piece (Elt F) S2560x128 .f32 :=
  ⟨Rect.unit (s := S2560x128) (k1_off3 k (BitVec.ofNat 32 g.val)) S8x128.size (k1_off3_inb k g), tripRaised arg1 arg2 arg4 arg5 arg6 v2 v5 v8 v11 v28 v29 X_arg1 X_arg2 X_arg4 X_arg5 X_arg6 k g (oldTop arg8 k f_arg8 g)⟩

unseal trip_k1_t1 in
/-- The pieces one trip writes into the scores. -/
theorem trip_scores (f_arg7 : BufTy.Contents (Elt F) arg7.view.ty) (f_arg8 : BufTy.Contents (Elt F) arg8.view.ty) :
    (tripL_k1_t1 (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 k f_arg7 f_arg8).1 =
      [scorePiece arg1 arg2 arg4 arg5 arg6 v2 v5 v8 v11 X_arg1 X_arg2 X_arg4 X_arg5 X_arg6 k 3, scorePiece arg1 arg2 arg4 arg5 arg6 v2 v5 v8 v11 X_arg1 X_arg2 X_arg4 X_arg5 X_arg6 k 2, scorePiece arg1 arg2 arg4 arg5 arg6 v2 v5 v8 v11 X_arg1 X_arg2 X_arg4 X_arg5 X_arg6 k 1, scorePiece arg1 arg2 arg4 arg5 arg6 v2 v5 v8 v11 X_arg1 X_arg2 X_arg4 X_arg5 X_arg6 k 0] := by
  rfl

unseal trip_k1_t1 in
/-- The pieces one trip writes into the block maxima. -/
theorem trip_tops (f_arg7 : BufTy.Contents (Elt F) arg7.view.ty) (f_arg8 : BufTy.Contents (Elt F) arg8.view.ty) :
    (tripL_k1_t1 (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 k f_arg7 f_arg8).2 =
      [topPiece arg1 arg2 arg4 arg5 arg6 arg8 v2 v5 v8 v11 v28 v29 X_arg1 X_arg2 X_arg4 X_arg5 X_arg6 k f_arg8 3, topPiece arg1 arg2 arg4 arg5 arg6 arg8 v2 v5 v8 v11 v28 v29 X_arg1 X_arg2 X_arg4 X_arg5 X_arg6 k f_arg8 2, topPiece arg1 arg2 arg4 arg5 arg6 arg8 v2 v5 v8 v11 v28 v29 X_arg1 X_arg2 X_arg4 X_arg5 X_arg6 k f_arg8 1, topPiece arg1 arg2 arg4 arg5 arg6 arg8 v2 v5 v8 v11 v28 v29 X_arg1 X_arg2 X_arg4 X_arg5 X_arg6 k f_arg8 0] := by
  rfl

end Trip

end Cert.KernelIdeal.Score

end
-- ==== Proof.ScoreLoop.lean ====
module

public import proofs.«01_k».proof.Proof.ScoreTrip
public import Idealize.ShloMosaic.Lib.WritesUnit

@[expose] public section

set_option maxRecDepth 16384
set_option maxHeartbeats 1000000

/-!
# What the scoring loop leaves behind

Eighty trips store four row blocks of eight users each, one under the other.  Trip `k` therefore owns
the rows `32 k … 32 k + 31`: no later trip touches them, and no earlier one did.  So after the loop each
row holds what its own trip stored, and the maxima a trip reads are those the loop found.
-/

noncomputable section

namespace Cert.KernelIdeal.Score

open Idealize.ShloMosaic Idealize.ShloMosaic.TcCoe Idealize.SL.Sem
open Cert.KernelIdeal.Gen

/-- Four row blocks written one under the other from row `32 n`: a row among them reads its block. -/
theorem read_four_of_mem {sg : RefSig} {κ : Kind} {sp : Space} {e : EltTy} {Val : EltTy → Type} {C : ℕ}
    (v : View sg κ sp (⟨2, ![2560, C]⟩ : Shape) e) (f : v.ty.Contents Val) (n : ℕ) (off : Fin 4 → Fin 2 → ℕ)
    (hoff : ∀ g, off g = ![32 * n + 8 * g.val, 0])
    (inb : ∀ g, ∀ a : Fin 2, off g a + (![8, C] : Fin 2 → ℕ) a ≤ (![2560, C] : Fin 2 → ℕ) a)
    (w : ∀ g, (Rect.unit (s := ⟨2, ![2560, C]⟩) (off g) ![8, C] (inb g)).shape.Idx → Val e)
    (L : List (View.Piece Val (⟨2, ![2560, C]⟩ : Shape) e)) (y : (⟨2, ![2560, C]⟩ : Shape).Idx) (g : Fin 4)
    (x : (⟨2, ![8, C]⟩ : Shape).Idx)
    (h0 : (y (0 : Fin 2)).val = 32 * n + 8 * g.val + (x (0 : Fin 2)).val)
    (h1 : (y (1 : Fin 2)).val = (x (1 : Fin 2)).val) :
    v.read Val (v.writes Val f ([(⟨Rect.unit (s := ⟨2, ![2560, C]⟩) (off 3) ![8, C] (inb 3), w 3⟩ : View.Piece Val (⟨2, ![2560, C]⟩ : Shape) e),
      ⟨Rect.unit (s := ⟨2, ![2560, C]⟩) (off 2) ![8, C] (inb 2), w 2⟩,
      ⟨Rect.unit (s := ⟨2, ![2560, C]⟩) (off 1) ![8, C] (inb 1), w 1⟩,
      ⟨Rect.unit (s := ⟨2, ![2560, C]⟩) (off 0) ![8, C] (inb 0), w 0⟩] ++ L)) y = w g x := by
  have hx : (x (0 : Fin 2)).val < 8 := (x (0 : Fin 2)).isLt
  simp only [List.cons_append, List.nil_append]
  fin_cases g
  · rw [View.read_writes_cons_rows_of_not_mem v f (inb 3) (w 3) _ y (hoff 3) rfl (Or.inl (by rw [h0]; simp; omega)),
      View.read_writes_cons_rows_of_not_mem v f (inb 2) (w 2) _ y (hoff 2) rfl (Or.inl (by rw [h0]; simp; omega)),
      View.read_writes_cons_rows_of_not_mem v f (inb 1) (w 1) _ y (hoff 1) rfl (Or.inl (by rw [h0]; simp; omega))]
    exact View.read_writes_cons_rows_of_mem v f (inb 0) (w 0) _ y x (hoff 0) h0 h1
  · rw [View.read_writes_cons_rows_of_not_mem v f (inb 3) (w 3) _ y (hoff 3) rfl (Or.inl (by rw [h0]; simp; omega)),
      View.read_writes_cons_rows_of_not_mem v f (inb 2) (w 2) _ y (hoff 2) rfl (Or.inl (by rw [h0]; simp; omega))]
    exact View.read_writes_cons_rows_of_mem v f (inb 1) (w 1) _ y x (hoff 1) h0 h1
  · rw [View.read_writes_cons_rows_of_not_mem v f (inb 3) (w 3) _ y (hoff 3) rfl (Or.inl (by rw [h0]; simp; omega))]
    exact View.read_writes_cons_rows_of_mem v f (inb 2) (w 2) _ y x (hoff 2) h0 h1
  · exact View.read_writes_cons_rows_of_mem v f (inb 3) (w 3) _ y x (hoff 3) h0 h1

/-- A row outside the four blocks reads what was there before. -/
theorem read_four_of_not_mem {sg : RefSig} {κ : Kind} {sp : Space} {e : EltTy} {Val : EltTy → Type} {C : ℕ}
    (v : View sg κ sp (⟨2, ![2560, C]⟩ : Shape) e) (f : v.ty.Contents Val) (n : ℕ) (off : Fin 4 → Fin 2 → ℕ)
    (hoff : ∀ g, off g = ![32 * n + 8 * g.val, 0])
    (inb : ∀ g, ∀ a : Fin 2, off g a + (![8, C] : Fin 2 → ℕ) a ≤ (![2560, C] : Fin 2 → ℕ) a)
    (w : ∀ g, (Rect.unit (s := ⟨2, ![2560, C]⟩) (off g) ![8, C] (inb g)).shape.Idx → Val e)
    (L : List (View.Piece Val (⟨2, ![2560, C]⟩ : Shape) e)) (y : (⟨2, ![2560, C]⟩ : Shape).Idx)
    (h : (y (0 : Fin 2)).val < 32 * n ∨ 32 * n + 32 ≤ (y (0 : Fin 2)).val) :
    v.read Val (v.writes Val f ([(⟨Rect.unit (s := ⟨2, ![2560, C]⟩) (off 3) ![8, C] (inb 3), w 3⟩ : View.Piece Val (⟨2, ![2560, C]⟩ : Shape) e),
      ⟨Rect.unit (s := ⟨2, ![2560, C]⟩) (off 2) ![8, C] (inb 2), w 2⟩,
      ⟨Rect.unit (s := ⟨2, ![2560, C]⟩) (off 1) ![8, C] (inb 1), w 1⟩,
      ⟨Rect.unit (s := ⟨2, ![2560, C]⟩) (off 0) ![8, C] (inb 0), w 0⟩] ++ L)) y
      = v.read Val (v.writes Val f L) y := by
  simp only [List.cons_append, List.nil_append]
  have hg : ∀ g : Fin 4, (y (0 : Fin 2)).val < 32 * n + 8 * g.val ∨ 32 * n + 8 * g.val + 8 ≤ (y (0 : Fin 2)).val :=
    fun g => by have := g.isLt; omega
  rw [View.read_writes_cons_rows_of_not_mem v f (inb 3) (w 3) _ y (hoff 3) rfl (hg 3),
    View.read_writes_cons_rows_of_not_mem v f (inb 2) (w 2) _ y (hoff 2) rfl (hg 2),
    View.read_writes_cons_rows_of_not_mem v f (inb 1) (w 1) _ y (hoff 1) rfl (hg 1),
    View.read_writes_cons_rows_of_not_mem v f (inb 0) (w 0) _ y (hoff 0) rfl (hg 0)]

theorem trips_eq : k1_t1_loop.trips = 80 := by decide +kernel

section Loop

variable {F : FTy → Type} [FloatOps F]

variable (𝒱 : Variants) (c : Dev nD) (bd : Option 𝒱.V) (i : grid1.Coords) (arg1 : Memref sig .tc .vmem S320x64x128 .bf16) (harg1 : arg1.IsWhole) (arg2 : Memref sig .tc .vmem S320x64x128 .f32) (harg2 : arg2.IsWhole) (arg3 : Memref sig .tc .vmem S4x96x512 .i8) (harg3 : arg3.IsWhole) (arg4 : Memref sig .tc .vmem S4x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2560x512 .bf16) (harg7 : arg7.IsWhole) (arg8 : Memref sig .tc .vmem S2560x128 .f32) (harg8 : arg8.IsWhole) (v2 : FVec F S96x512 .bf16) (v5 : FVec F S96x512 .bf16) (v8 : FVec F S96x512 .bf16) (v11 : FVec F S96x512 .bf16) (v28 : BitVec 32) (v29 : IVec S8x128 32) (c0_i32_14 : BitVec 32) (c1_i32_15 : BitVec 32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (G_arg7 : BufTy.Contents (Elt F) arg7.view.ty) (G_arg8 : BufTy.Contents (Elt F) arg8.view.ty)

/-- After `n` trips the rows of an earlier trip hold that trip's scores. -/
theorem scores_after (n : ℕ) (hn : n ≤ k1_t1_loop.trips) (k : Fin k1_t1_loop.trips) (hk : k.val < n) (g : Fin 4)
    (x : S8x512.Idx) (y : S2560x512.Idx)
    (h0 : (y (0 : Fin 2)).val = 32 * k.val + 8 * g.val + (x (0 : Fin 2)).val)
    (h1 : (y (1 : Fin 2)).val = (x (1 : Fin 2)).val) :
    arg7.view.read (Elt F) (arg7.view.writes (Elt F) G_arg7 (pb_k1_t1 (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 n).1) y
      = tripScore arg1 arg2 arg4 arg5 arg6 v2 v5 v8 v11 X_arg1 X_arg2 X_arg4 X_arg5 X_arg6 k g x := by
  have hx : (x (0 : Fin 2)).val < 8 := (x (0 : Fin 2)).isLt
  have hg := g.isLt
  induction n with
  | zero => omega
  | succ n ih =>
    have e := pb_k1_t1_succ (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 ⟨n, hn⟩
    rw [show (⟨n, hn⟩ : Fin k1_t1_loop.trips).val + 1 = n + 1 from rfl] at e
    rw [e, trip_scores]
    by_cases hkn : k.val = n
    · obtain rfl : k = ⟨n, hn⟩ := Fin.ext hkn
      exact read_four_of_mem arg7.view G_arg7 n (fun g => k1_off2 ⟨n, hn⟩ (BitVec.ofNat 32 g.val)) (fun g => k1_off2_eq ⟨n, hn⟩ g)
        (fun g => k1_off2_inb ⟨n, hn⟩ g) (fun g => tripScore arg1 arg2 arg4 arg5 arg6 v2 v5 v8 v11 X_arg1 X_arg2 X_arg4 X_arg5 X_arg6 ⟨n, hn⟩ g) _ y g x h0 h1
    · refine (read_four_of_not_mem arg7.view G_arg7 n (fun g => k1_off2 ⟨n, hn⟩ (BitVec.ofNat 32 g.val)) (fun g => k1_off2_eq ⟨n, hn⟩ g)
        (fun g => k1_off2_inb ⟨n, hn⟩ g) (fun g => tripScore arg1 arg2 arg4 arg5 arg6 v2 v5 v8 v11 X_arg1 X_arg2 X_arg4 X_arg5 X_arg6 ⟨n, hn⟩ g) _ y (Or.inl ?_)).trans (ih (by omega) (by omega))
      omega

/-- After `n` trips the rows of the trips still to come hold the maxima of before the loop. -/
theorem tops_before (n : ℕ) (hn : n ≤ k1_t1_loop.trips) (y : S2560x128.Idx) (h : 32 * n ≤ (y (0 : Fin 2)).val) :
    arg8.view.read (Elt F) (arg8.view.writes (Elt F) G_arg8 (pb_k1_t1 (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 n).2) y
      = arg8.view.read (Elt F) G_arg8 y := by
  induction n with
  | zero => rfl
  | succ n ih =>
    have e := pb_k1_t1_succ (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 ⟨n, hn⟩
    rw [show (⟨n, hn⟩ : Fin k1_t1_loop.trips).val + 1 = n + 1 from rfl] at e
    rw [e, trip_tops]
    exact (read_four_of_not_mem arg8.view G_arg8 n (fun g => k1_off3 ⟨n, hn⟩ (BitVec.ofNat 32 g.val)) (fun g => k1_off3_eq ⟨n, hn⟩ g)
        (fun g => k1_off3_inb ⟨n, hn⟩ g) (fun g => tripRaised arg1 arg2 arg4 arg5 arg6 v2 v5 v8 v11 v28 v29 X_arg1 X_arg2 X_arg4 X_arg5 X_arg6 ⟨n, hn⟩ g (oldTop arg8 ⟨n, hn⟩ _ g)) _ y (Or.inr (by omega))).trans (ih (by omega) (by omega))

/-- After `n` trips the rows of an earlier trip hold the maxima of before the loop raised by that trip. -/
theorem tops_after (n : ℕ) (hn : n ≤ k1_t1_loop.trips) (k : Fin k1_t1_loop.trips) (hk : k.val < n) (g : Fin 4)
    (x : S8x128.Idx) (y : S2560x128.Idx)
    (h0 : (y (0 : Fin 2)).val = 32 * k.val + 8 * g.val + (x (0 : Fin 2)).val)
    (h1 : (y (1 : Fin 2)).val = (x (1 : Fin 2)).val) :
    arg8.view.read (Elt F) (arg8.view.writes (Elt F) G_arg8 (pb_k1_t1 (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 n).2) y
      = tripRaised arg1 arg2 arg4 arg5 arg6 v2 v5 v8 v11 v28 v29 X_arg1 X_arg2 X_arg4 X_arg5 X_arg6 k g (oldTop arg8 k G_arg8 g) x := by
  have hx : (x (0 : Fin 2)).val < 8 := (x (0 : Fin 2)).isLt
  have hg := g.isLt
  induction n with
  | zero => omega
  | succ n ih =>
    have e := pb_k1_t1_succ (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 ⟨n, hn⟩
    rw [show (⟨n, hn⟩ : Fin k1_t1_loop.trips).val + 1 = n + 1 from rfl] at e
    rw [e, trip_tops]
    by_cases hkn : k.val = n
    · obtain rfl : k = ⟨n, hn⟩ := Fin.ext hkn
      refine (read_four_of_mem arg8.view G_arg8 n (fun g => k1_off3 ⟨n, hn⟩ (BitVec.ofNat 32 g.val)) (fun g => k1_off3_eq ⟨n, hn⟩ g)
        (fun g => k1_off3_inb ⟨n, hn⟩ g) (fun g => tripRaised arg1 arg2 arg4 arg5 arg6 v2 v5 v8 v11 v28 v29 X_arg1 X_arg2 X_arg4 X_arg5 X_arg6 ⟨n, hn⟩ g (oldTop arg8 ⟨n, hn⟩ _ g)) _ y g x h0 h1).trans ?_
      refine congrFun (congrArg (tripRaised arg1 arg2 arg4 arg5 arg6 v2 v5 v8 v11 v28 v29 X_arg1 X_arg2 X_arg4 X_arg5 X_arg6 ⟨n, hn⟩ g) (funext fun z => ?_)) x
      show arg8.view.read (Elt F) _ _ = arg8.view.read (Elt F) _ _
      refine tops_before 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 n (by omega) _ ?_
      show 32 * n ≤ k1_off3 ⟨n, hn⟩ (BitVec.ofNat 32 g.val) 0 + 1 * (z (0 : Fin 2)).val
      rw [k1_off3_eq ⟨n, hn⟩ g]
      show 32 * n ≤ 32 * n + 8 * g.val + 1 * (z (0 : Fin 2)).val
      omega
    · refine (read_four_of_not_mem arg8.view G_arg8 n (fun g => k1_off3 ⟨n, hn⟩ (BitVec.ofNat 32 g.val)) (fun g => k1_off3_eq ⟨n, hn⟩ g)
        (fun g => k1_off3_inb ⟨n, hn⟩ g) (fun g => tripRaised arg1 arg2 arg4 arg5 arg6 v2 v5 v8 v11 v28 v29 X_arg1 X_arg2 X_arg4 X_arg5 X_arg6 ⟨n, hn⟩ g (oldTop arg8 ⟨n, hn⟩ _ g)) _ y (Or.inl ?_)).trans (ih (by omega) (by omega))
      omega

end Loop

end Cert.KernelIdeal.Score

end
-- ==== Proof.ScoreRun.lean ====
module

public import proofs.«01_k».proof.Proof.Gen.KernelIdeal.Launch
public import proofs.«01_k».proof.Proof.ScoreLoop
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

/-! One point of the second call of the kernel (the scores): what a run of its body leaves in the block of scores
and in the block maxima, as functions of the blocks it is called on. -/

namespace Cert.KernelIdeal.Score

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tile

variable (x0 : Vec F S320x64x128 .bf16) (x1 : Vec F S320x64x128 .f32) (x2 : Vec F S4x96x512 .i8) (x3 : Vec F S4x512 .f32) (x4 : Vec F S1x512 .f32) (x5 : Vec F S1x512 .f32)

/-- The four users' code rows of trip `k`. -/
def rowsOf (k : Fin k1_t1_loop.trips) : Vec F S4x64x128 .bf16 :=
  fun z => x0 ((Rect.unit (s := S320x64x128) (k1_off1 k) S4x64x128.size (k1_off1_inb k)).toLoadRect.idx z)

/-- The four users' gains of trip `k`. -/
def gainsOf (k : Fin k1_t1_loop.trips) : Vec F S4x64x128 .f32 :=
  fun z => x1 ((Rect.unit (s := S320x64x128) (k1_off1 k) S4x64x128.size (k1_off1_inb k)).toLoadRect.idx z)

theorem inb_codes (k : Fin 4) :
    ∀ a, (![k.val, 0, 0] : Fin 3 → ℕ) a + S1x96x512.size a ≤ S4x96x512.size a := by
  revert k; decide +kernel

/-- The `k`-th code block of the items. -/
def codesOf (k : Fin 4) : Vec F S1x96x512 .i8 :=
  fun z => x2 ((Rect.unit (s := S4x96x512) ![k.val, 0, 0] S1x96x512.size (inb_codes k)).toLoadRect.idx z)

/-- The four code matrices of the items. -/
def matsOf : Fin 4 → FVec F S96x512 .bf16 :=
  mats (k1_pay1112 (codesOf x2 0)) (k1_pay1113 (codesOf x2 1)) (k1_pay1114 (codesOf x2 2)) (k1_pay1115 (codesOf x2 3))

/-- The items' scale rows. -/
def scalesOf (kk cc : Fin 4) : Vec F S1x128 .f32 :=
  fun z => x3 ((Rect.unit (s := S4x512) ![kk.val, 128 * cc.val] S1x128.size (inb_scale kk cc)).toLoadRect.idx z)

/-- The lane columns of a one-row block. -/
def lanesOf (x : Vec F S1x512 .f32) (cc : Fin 4) : Vec F S1x128 .f32 :=
  fun z => x ((Rect.unit (s := S1x512) ![0, 128 * cc.val] S1x128.size (inb_lane cc)).toLoadRect.idx z)

/-- The trip and the user block of a row. -/
def tripOf {C : ℕ} (y : (⟨2, ![2560, C]⟩ : Shape).Idx) : Fin k1_t1_loop.trips :=
  ⟨(y (0 : Fin 2)).val / 32, by
    have h : (y (0 : Fin 2)).val < 2560 := (y (0 : Fin 2)).isLt
    rw [trips_eq]; omega⟩

def groupOf {C : ℕ} (y : (⟨2, ![2560, C]⟩ : Shape).Idx) : Fin 4 :=
  ⟨(y (0 : Fin 2)).val % 32 / 8, by omega⟩

/-- The place of a row in its user block. -/
def withinOf {C : ℕ} (y : (⟨2, ![2560, C]⟩ : Shape).Idx) : (⟨2, ![8, C]⟩ : Shape).Idx :=
  fun a => match a with
    | ⟨0, _⟩ => ⟨(y (0 : Fin 2)).val % 8, by show _ < 8; omega⟩
    | ⟨1, _⟩ => ⟨(y (1 : Fin 2)).val, (y (1 : Fin 2)).isLt⟩

/-- The block of scores the body leaves. -/
def scoreTile : Vec F S2560x512 .bf16 := fun y =>
  rows (matsOf x2) (rowsOf x0 (tripOf y)) (gainsOf x1 (tripOf y)) (scalesOf x3) (lanesOf x5) (lanesOf x4) (groupOf y)
    (withinOf y)

/-- The rows of the block maxima a user block finds. -/
def oldOf (x7 : Vec F S2560x128 .f32) (k : Fin k1_t1_loop.trips) (g : Fin 4) : Vec F S8x128 .f32 :=
  fun z => x7 ((Rect.unit (s := S2560x128) (k1_off3 k (BitVec.ofNat 32 g.val)) S8x128.size (k1_off3_inb k g)).toLoadRect.idx z)

/-- The block maxima the body leaves, over those it finds. -/
def topTile (i : BitVec 32) (x7 : Vec F S2560x128 .f32) : Vec F S2560x128 .f32 := fun y =>
  raised (matsOf x2) (rowsOf x0 (tripOf y)) (gainsOf x1 (tripOf y)) (scalesOf x3) (lanesOf x5) (lanesOf x4)
    i (iota .tc S8x128 32 [1] iota_S8x128_d1_w32) (groupOf y) (oldOf x7 (tripOf y) (groupOf y)) (withinOf y)

end Tile

/-- The item block of a tile: half the tile's number, rounded down. -/
def blockOf (i : grid1.Coords) : BitVec 32 :=
  Scalar.select (Scalar.andi (Scalar.cmpi .ne
        (Scalar.subi (Scalar.extui (Scalar.cmpi .sgt (BitVec.ofNat 32 (i 0).val) 0#32)) (Scalar.extui (Scalar.cmpi .slt (BitVec.ofNat 32 (i 0).val) 0#32)))
        (Scalar.subi (Scalar.extui (Scalar.cmpi .sgt 2#32 0#32)) (Scalar.extui (Scalar.cmpi .slt 2#32 0#32))))
      (Scalar.cmpi .ne (Scalar.remsi (BitVec.ofNat 32 (i 0).val) 2#32) 0#32))
    (Scalar.subi (Scalar.divsi (BitVec.ofNat 32 (i 0).val) 2#32) 1#32) (Scalar.divsi (BitVec.ofNat 32 (i 0).val) 2#32)

/-- The condition under which the body fills the block maxima: the first tile. -/
abbrev cond1_0 (i : grid1.Coords) : Prop := (Scalar.cmpi .ne (Scalar.extui (Scalar.cmpi .eq (BitVec.ofNat 32 (i 0).val) 0#32)) 0#32) = 1#1

/-- It holds at the first point only. -/
theorem hcond1_0 : ∀ t : Fin cfg1.N, cond1_0 (grid1.coords t) ↔ t.val % 144 = 0 :=
  (fun t => by
    have ht : t.val < 144 := Nat.lt_of_lt_of_eq t.isLt N_1
    have e0 : (grid1.coords t 0).val = t.val / 1 % 144 := Pipeline.Grid.coords_val t 0 (by decide) rfl
    simp only [cond1_0, e0]
    word_cmp
   : ∀ t : Fin grid1.N, cond1_0 (grid1.coords t) ↔ t.val % 144 = 0)

theorem readAt_unread {sp : Space} {s : Shape} {e : EltTy} (a : Memref sig .tc sp s e) (h : a.IsWhole) (x : s.Idx → Elt F e)
    (r : LoadRect s) : View.readAt (Elt F) a.view r (h.unread x) = fun z => x (r.idx z) :=
  funext fun z => congrFun (h.read_unread x) _

theorem rows_congr {W W' : Fin 4 → FVec F S96x512 .bf16} {L L' : Vec F S4x64x128 .bf16} {G G' : Vec F S4x64x128 .f32}
    {Sc Sc' : Fin 4 → Fin 4 → Vec F S1x128 .f32} {Va Va' Ba Ba' : Fin 4 → Vec F S1x128 .f32}
    (hW : W = W') (hL : L = L') (hG : G = G') (hS : Sc = Sc') (hV : Va = Va') (hB : Ba = Ba') (g : Fin 4) :
    rows W L G Sc Va Ba g = rows W' L' G' Sc' Va' Ba' g := by
  subst hW hL hG hS hV hB; rfl

theorem raised_congr {W W' : Fin 4 → FVec F S96x512 .bf16} {L L' : Vec F S4x64x128 .bf16} {G G' : Vec F S4x64x128 .f32}
    {Sc Sc' : Fin 4 → Fin 4 → Vec F S1x128 .f32} {Va Va' Ba Ba' : Fin 4 → Vec F S1x128 .f32}
    (hW : W = W') (hL : L = L') (hG : G = G') (hS : Sc = Sc') (hV : Va = Va') (hB : Ba = Ba')
    (b : BitVec 32) (l : IVec S8x128 32) (g : Fin 4) (old : Vec F S8x128 .f32) :
    raised W L G Sc Va Ba b l g old = raised W' L' G' Sc' Va' Ba' b l g old := by
  subst hW hL hG hS hV hB; rfl

theorem mats_read (arg3 : Memref sig .tc .vmem S4x96x512 .i8) (harg3 : arg3.IsWhole) (x2 : Vec F S4x96x512 .i8) :
    mats (k1_pay1112 (View.readAt (Elt F) arg3.view (Rect.unit (s := S4x96x512) ![0, 0, 0] S1x96x512.size inb_S4x96x512_S1x96x512_0_0_0).toLoadRect (harg3.unread x2))) (k1_pay1113 (View.readAt (Elt F) arg3.view (Rect.unit (s := S4x96x512) ![1, 0, 0] S1x96x512.size inb_S4x96x512_S1x96x512_1_0_0).toLoadRect (harg3.unread x2))) (k1_pay1114 (View.readAt (Elt F) arg3.view (Rect.unit (s := S4x96x512) ![2, 0, 0] S1x96x512.size inb_S4x96x512_S1x96x512_2_0_0).toLoadRect (harg3.unread x2))) (k1_pay1115 (View.readAt (Elt F) arg3.view (Rect.unit (s := S4x96x512) ![3, 0, 0] S1x96x512.size inb_S4x96x512_S1x96x512_3_0_0).toLoadRect (harg3.unread x2))) = matsOf x2 := by
  simp only [readAt_unread]; rfl

section Run

variable (c : Dev nD) (i : grid1.Coords) (arg1 : Memref sig .tc .vmem S320x64x128 .bf16) (harg1 : arg1.IsWhole) (arg2 : Memref sig .tc .vmem S320x64x128 .f32) (harg2 : arg2.IsWhole) (arg3 : Memref sig .tc .vmem S4x96x512 .i8) (harg3 : arg3.IsWhole) (arg4 : Memref sig .tc .vmem S4x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2560x512 .bf16) (harg7 : arg7.IsWhole) (arg8 : Memref sig .tc .vmem S2560x128 .f32) (harg8 : arg8.IsWhole) (x0 : Vec F S320x64x128 .bf16) (x1 : Vec F S320x64x128 .f32) (x2 : Vec F S4x96x512 .i8) (x3 : Vec F S4x512 .f32) (x4 : Vec F S1x512 .f32) (x5 : Vec F S1x512 .f32)

/-- After all the trips the block of scores holds `scoreTile`. -/
theorem scores_read (f7 : BufTy.Contents (Elt F) arg7.view.ty) (f8 : BufTy.Contents (Elt F) arg8.view.ty) :
    arg7.view.read (Elt F) (arg7.view.writes (Elt F) f7 (pb_k1_t1 (F := F) Variants.none c none i arg1 harg1 arg2 harg2 arg3 harg3 arg4 harg4 arg5 harg5 arg6 harg6 arg7 harg7 arg8 harg8 (k1_pay1112 (View.readAt (Elt F) arg3.view (Rect.unit (s := S4x96x512) ![0, 0, 0] S1x96x512.size inb_S4x96x512_S1x96x512_0_0_0).toLoadRect (harg3.unread x2))) (k1_pay1113 (View.readAt (Elt F) arg3.view (Rect.unit (s := S4x96x512) ![1, 0, 0] S1x96x512.size inb_S4x96x512_S1x96x512_1_0_0).toLoadRect (harg3.unread x2))) (k1_pay1114 (View.readAt (Elt F) arg3.view (Rect.unit (s := S4x96x512) ![2, 0, 0] S1x96x512.size inb_S4x96x512_S1x96x512_2_0_0).toLoadRect (harg3.unread x2))) (k1_pay1115 (View.readAt (Elt F) arg3.view (Rect.unit (s := S4x96x512) ![3, 0, 0] S1x96x512.size inb_S4x96x512_S1x96x512_3_0_0).toLoadRect (harg3.unread x2))) (blockOf i) (iota .tc S8x128 32 [1] iota_S8x128_d1_w32) 0#32 1#32 (harg1.unread x0) (harg2.unread x1) (harg4.unread x3) (harg5.unread x4) (harg6.unread x5) f7 f8 k1_t1_loop.trips).1) = scoreTile x0 x1 x2 x3 x4 x5 := by
  funext y
  have hy : (y (0 : Fin 2)).val < 2560 := (y (0 : Fin 2)).isLt
  refine (scores_after Variants.none c none i arg1 harg1 arg2 harg2 arg3 harg3 arg4 harg4 arg5 harg5 arg6 harg6 arg7 harg7 arg8 harg8 _ _ _ _ _ _ _ _ _ _ _ _ _ f7 f8 k1_t1_loop.trips le_rfl (tripOf y) (tripOf y).isLt
    (groupOf y) (withinOf y) y ?_ rfl).trans ?_
  · show (y (0 : Fin 2)).val = 32 * ((y (0 : Fin 2)).val / 32) + 8 * ((y (0 : Fin 2)).val % 32 / 8) + (y (0 : Fin 2)).val % 8
    omega
  · exact congrFun (rows_congr (mats_read arg3 harg3 x2) (readAt_unread arg1 harg1 x0 _) (readAt_unread arg2 harg2 x1 _)
      (funext fun _ => funext fun _ => readAt_unread arg4 harg4 x3 _) (funext fun _ => readAt_unread arg6 harg6 x5 _)
      (funext fun _ => readAt_unread arg5 harg5 x4 _) _) _

/-- After all the trips the block maxima hold `topTile` over what they held before the loop. -/
theorem tops_read (f7 : BufTy.Contents (Elt F) arg7.view.ty) (f8 : BufTy.Contents (Elt F) arg8.view.ty)
    (x7 : Vec F S2560x128 .f32) (h : arg8.view.read (Elt F) f8 = x7) :
    arg8.view.read (Elt F) (arg8.view.writes (Elt F) f8 (pb_k1_t1 (F := F) Variants.none c none i arg1 harg1 arg2 harg2 arg3 harg3 arg4 harg4 arg5 harg5 arg6 harg6 arg7 harg7 arg8 harg8 (k1_pay1112 (View.readAt (Elt F) arg3.view (Rect.unit (s := S4x96x512) ![0, 0, 0] S1x96x512.size inb_S4x96x512_S1x96x512_0_0_0).toLoadRect (harg3.unread x2))) (k1_pay1113 (View.readAt (Elt F) arg3.view (Rect.unit (s := S4x96x512) ![1, 0, 0] S1x96x512.size inb_S4x96x512_S1x96x512_1_0_0).toLoadRect (harg3.unread x2))) (k1_pay1114 (View.readAt (Elt F) arg3.view (Rect.unit (s := S4x96x512) ![2, 0, 0] S1x96x512.size inb_S4x96x512_S1x96x512_2_0_0).toLoadRect (harg3.unread x2))) (k1_pay1115 (View.readAt (Elt F) arg3.view (Rect.unit (s := S4x96x512) ![3, 0, 0] S1x96x512.size inb_S4x96x512_S1x96x512_3_0_0).toLoadRect (harg3.unread x2))) (blockOf i) (iota .tc S8x128 32 [1] iota_S8x128_d1_w32) 0#32 1#32 (harg1.unread x0) (harg2.unread x1) (harg4.unread x3) (harg5.unread x4) (harg6.unread x5) f7 f8 k1_t1_loop.trips).2) = topTile x0 x1 x2 x3 x4 x5 (blockOf i) x7 := by
  subst h
  funext y
  have hy : (y (0 : Fin 2)).val < 2560 := (y (0 : Fin 2)).isLt
  refine (tops_after Variants.none c none i arg1 harg1 arg2 harg2 arg3 harg3 arg4 harg4 arg5 harg5 arg6 harg6 arg7 harg7 arg8 harg8 _ _ _ _ _ _ _ _ _ _ _ _ _ f7 f8 k1_t1_loop.trips le_rfl (tripOf y) (tripOf y).isLt
    (groupOf y) (withinOf y) y ?_ rfl).trans ?_
  · show (y (0 : Fin 2)).val = 32 * ((y (0 : Fin 2)).val / 32) + 8 * ((y (0 : Fin 2)).val % 32 / 8) + (y (0 : Fin 2)).val % 8
    omega
  · exact congrFun (raised_congr (mats_read arg3 harg3 x2) (readAt_unread arg1 harg1 x0 _) (readAt_unread arg2 harg2 x1 _)
      (funext fun _ => funext fun _ => readAt_unread arg4 harg4 x3 _) (funext fun _ => readAt_unread arg6 harg6 x5 _)
      (funext fun _ => readAt_unread arg5 harg5 x4 _) _ _ _ _) _

/-- A store over the whole block reads back as what was stored. -/
theorem read_fill (v : View sig .tc .vmem S2560x128 .f32) (f : BufTy.Contents (Elt F) v.ty) (w : Vec F S2560x128 .f32) :
    v.read (Elt F) (v.writes (Elt F) f [⟨Rect.unit (s := S2560x128) ![0, 0] S2560x128.size inb_S2560x128_S2560x128_0_0, w⟩]) = w := by
  funext y
  exact View.read_writes_cons_rows_of_mem v f inb_S2560x128_S2560x128_0_0 w [] y y (o := 0) rfl (by simp) rfl

-- (the run's proof term is large: checking it walks past the default budget)
set_option maxHeartbeats 2000000 in
/-- The body at the first tile: the block maxima start from minus infinity. -/
theorem run_A (hc0 : cond1_0 i)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (scoreTile x0 x1 x2 x3 x4 x5) ∗ owns (c : Thread nD τ) arg8 fullShare (topTile x0 x1 x2 x3 x4 x5 (blockOf i) (k1_pay1116 (F := F)))) -∗ K ⟨⟩))
      ⊢ wp frame (wpE (defs₀ (F := F)) Variants.none c none) E (cc1_score i arg1 harg1 arg2 harg2 arg3 harg3 arg4 harg4 arg5 harg5 arg6 harg6 arg7 harg7 arg8 harg8) K := by
  simp only [cc1_score_eq_skeleton]; unfold cc1_score_skel
  simp only [k1_part102_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    exact scores_read c i arg1 harg1 arg2 harg2 arg3 harg3 arg4 harg4 arg5 harg5 arg6 harg6 arg7 harg7 arg8 harg8 x0 x1 x2 x3 x4 x5 _ _
  iexists _; isplitr; swap; · iexact H7
  ipureintro
  rw [View.writes_append]
  exact tops_read c i arg1 harg1 arg2 harg2 arg3 harg3 arg4 harg4 arg5 harg5 arg6 harg6 arg7 harg7 arg8 harg8 x0 x1 x2 x3 x4 x5 _ _ _ (read_fill arg8.view _ _)

-- (the run's proof term is large: checking it walks past the default budget)
set_option maxHeartbeats 2000000 in
/-- The body at a later tile: the block maxima start from what the earlier tiles left. -/
theorem run_B (hc0 : ¬ cond1_0 i) (x7 : Vec F S2560x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (scoreTile x0 x1 x2 x3 x4 x5) ∗ owns (c : Thread nD τ) arg8 fullShare (topTile x0 x1 x2 x3 x4 x5 (blockOf i) x7)) -∗ K ⟨⟩))
      ⊢ wp frame (wpE (defs₀ (F := F)) Variants.none c none) E (cc1_score i arg1 harg1 arg2 harg2 arg3 harg3 arg4 harg4 arg5 harg5 arg6 harg6 arg7 harg7 arg8 harg8) K := by
  simp only [cc1_score_eq_skeleton]; unfold cc1_score_skel
  simp only [k1_part102_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    exact scores_read c i arg1 harg1 arg2 harg2 arg3 harg3 arg4 harg4 arg5 harg5 arg6 harg6 arg7 harg7 arg8 harg8 x0 x1 x2 x3 x4 x5 _ _
  iexists _; isplitr; swap; · iexact H7
  ipureintro

  exact tops_read c i arg1 harg1 arg2 harg2 arg3 harg3 arg4 harg4 arg5 harg5 arg6 harg6 arg7 harg7 arg8 harg8 x0 x1 x2 x3 x4 x5 _ _ _ hf7

end Run

end Cert.KernelIdeal.Score

end
-- ==== Proof.ScoreRegion.lean ====
module

public import proofs.«01_k».proof.Proof.Gen.KernelIdeal.Launch
public import proofs.«01_k».proof.Proof.ScoreRun
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

/-! The second call of the kernel (the scores) as a region of @main: what each point leaves in its output blocks, as
a function of the arrays the region is entered with, and the obligation of its body. The block of scores depends on
the point's blocks only; the block maxima are carried from tile to tile. -/

namespace Cert.KernelIdeal.Score

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block maxima are written back at the last point only. -/
theorem flush1_7 : ∀ t : Fin cfg1.N, (cfg1.win 7).flush t = true ↔ t.val % 144 = 143 :=
  (fun t => Pipeline.Window.flush_const win1_7 rfl (fun _ _ => rfl) (n := 144) (by decide) rfl t : ∀ t : Fin grid1.N, win1_7.flush t = true ↔ t.val % 144 = 143)

/-- The kernel body at point `t`, on what the pipeline calls it with. -/
abbrev bodyAt1 (t : Fin cfg1.N) : Prog (TpuEff nD τ sig (Elt F) Λ₀ .tc) PUnit :=
  cc1_score (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
abbrev ms1_0 (t : Fin cfg1.N) : Memref sig .tc .vmem S320x64x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S320x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x96x512 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2560x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2560x128 .f32 := win1_7.stage (cfg1.slots t 7)
abbrev hs1_7 (t : Fin cfg1.N) : (ms1_7 t).IsWhole := hstage1_7 ((cfg1.slots t 7).cast nbuf1_7)

/-- The block of scores after the body at point `t`. -/
def scoresAt (c : Dev nD) (t : Fin cfg1.N) : Vec F S2560x512 .bf16 := scoreTile (iblk V c 0 t) (iblk V c 1 t) (iblk V c 2 t) (iblk V c 3 t) (iblk V c 4 t) (iblk V c 5 t)

/-- The block maxima point `t` leaves over what it finds. -/
def raiseAt (c : Dev nD) (t : Fin cfg1.N) (x7 : Vec F S2560x128 .f32) : Vec F S2560x128 .f32 :=
  topTile (iblk V c 0 t) (iblk V c 1 t) (iblk V c 2 t) (iblk V c 3 t) (iblk V c 4 t) (iblk V c 5 t) (blockOf (grid1.coords t)) x7

/-- The block maxima before point `n`: minus infinity, then raised by one point after the other. -/
def topsBefore (c : Dev nD) : ℕ → Vec F S2560x128 .f32
  | 0 => k1_pay1116
  | n + 1 => if h : n < cfg1.N then raiseAt V c ⟨n, h⟩ (topsBefore c n) else topsBefore c n

/-- The proof data of the region: the arrays as it finds them, after the body each input's buffer at its block, the
    scores at `scoresAt` and the block maxima raised. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => scoresAt V c t
    | ⟨7, _⟩ => topsBefore V c (t.val + 1)
  Φ _ := Pipeline.ΦA spec1 c
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = scoresAt V c t := by dsimp only [dat]
theorem after1_7 (c : Dev nD) (t : Fin cfg1.N) : (dat V c).after 7 t = topsBefore V c (t.val + 1) := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d

/-- After the first point the block maxima are found as the point before left them. -/
theorem before1_7 (c : Dev nD) (t : Fin cfg1.N) (ht : t.val ≠ 0) (d) : (dat V c).before 7 t d = topsBefore V c t.val := by
  have hN : t.val < 144 := lt_of_lt_of_eq t.isLt (show cfg1.N = 144 from N_1)
  rw [(dat V c).before_of_pos 7 t ht ((cfg1.win 7).fetch_out rfl t) d, if_neg]
  · show (dat V c).after 7 _ = _
    rw [after1_7]
    show topsBefore V c (t.val - 1 + 1) = _
    rw [Nat.sub_add_cancel (Nat.one_le_iff_ne_zero.mpr ht)]
  · rw [flush1_7]
    show ¬ (t.val - 1) % 144 = 143
    omega

theorem topsBefore_succ (c : Dev nD) (t : Fin cfg1.N) :
    topsBefore V c (t.val + 1) = raiseAt V c t (topsBefore V c t.val) := by
  rw [topsBefore, dif_pos t.isLt]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).Φ t.succ = (dat V c).Φ t.castSucc from rfl,
    show (dat V c).owesAt () t.succ = (dat V c).owesAt () t.castSucc from rfl,
    after1_0, after1_1, after1_2, after1_3, after1_4, after1_5, after1_6, after1_7, topsBefore_succ]
  unfold scoresAt raiseAt
  have hN : t.val < 144 := lt_of_lt_of_eq t.isLt (show cfg1.N = 144 from N_1)
  by_cases h0 : t.val % 144 = 0
  · rw [show t.val = 0 by omega]
    unfold topsBefore
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c (grid1.coords t) _ _ _ _ _ _ _ _ _ _ _ _ _ _ _ _ (iblk V c 0 t) (iblk V c 1 t) (iblk V c 2 t) (iblk V c 3 t) (iblk V c 4 t) (iblk V c 5 t) ((hcond1_0 t).2 h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

  · have ht : t.val ≠ 0 := by omega
    simp only [before1_7 V c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_B c (grid1.coords t) _ _ _ _ _ _ _ _ _ _ _ _ _ _ _ _ (iblk V c 0 t) (iblk V c 1 t) (iblk V c 2 t) (iblk V c 3 t) (iblk V c 4 t) (iblk V c 5 t) (fun h => h0 ((hcond1_0 t).1 h)) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Score

end
-- ==== Proof.ShowRegion.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

/-! The third call of the kernel (the shown items) as a region of @main: what each point leaves in its output
block, as a function of the arrays the region is entered with, and the obligation of its body. -/

namespace Cert.KernelIdeal.Show

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The kernel body at point `t`, on what the pipeline calls it with (`defs₀`'s row at the slots). -/
abbrev bodyAt2 (t : Fin cfg2.N) : Prog (TpuEff nD τ sig (Elt F) Λ₀ .tc) PUnit :=
  cc2_show (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 5, through which its contents are stated (`View.read_writes_of_cover`: the
    choice does not matter). -/
abbrev VO2_5 : View sig .tc .vmem S72x32x256 .f32 := (Memref.whole cc2_stg5_0 : Memref sig .tc .vmem S72x32x256 .f32).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S288x96 .i8 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S288x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x96x256 .i8 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S8x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S72x32x256 .f32 := win2_5.stage (cfg2.slots t 5)
abbrev hs2_5 (t : Fin cfg2.N) : (ms2_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg2 : Memref sig .tc .smem S1 .f32) (harg2 : arg2.IsWhole) (arg3 : Memref sig .tc .vmem S288x96 .i8) (harg3 : arg3.IsWhole) (arg4 : Memref sig .tc .vmem S288x128 .f32) (harg4 : arg4.IsWhole) (arg5 : Memref sig .tc .vmem S8x96x256 .i8) (harg5 : arg5.IsWhole) (arg6 : Memref sig .tc .vmem S8x256 .f32) (harg6 : arg6.IsWhole) (arg7 : Memref sig .tc .vmem S72x32x256 .f32) (harg7 : arg7.IsWhole)
    (x0 : Vec F S1 .f32) (x1 : Vec F S288x96 .i8) (x2 : Vec F S288x128 .f32) (x3 : Vec F S8x96x256 .i8) (x4 : Vec F S8x256 .f32) :
    { L5 : List (View.Piece (Elt F) S72x32x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc2_show i arg2 harg2 arg3 harg3 arg4 harg4 arg5 harg5 arg6 harg6 arg7 harg7) K } := by
  refine ⟨?_, fun E K => ?run⟩
  case run =>
    simp only [cc2_show_eq_skeleton]; unfold cc2_show_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- The run's pieces for output 5 tile its block (8 stores of `S72x4x256`, checked by the kernel's evaluation: Lib/Ring.lean `Piece.tiledL`, linear in the pieces, through a loop's `@[irreducible]` trip theorem too), so they cover it. -/
theorem cover2_A_5 (c : Dev nD) (i : grid2.Coords) (arg2 : Memref sig .tc .smem S1 .f32) (harg2 : arg2.IsWhole) (arg3 : Memref sig .tc .vmem S288x96 .i8) (harg3 : arg3.IsWhole) (arg4 : Memref sig .tc .vmem S288x128 .f32) (harg4 : arg4.IsWhole) (arg5 : Memref sig .tc .vmem S8x96x256 .i8) (harg5 : arg5.IsWhole) (arg6 : Memref sig .tc .vmem S8x256 .f32) (harg6 : arg6.IsWhole) (arg7 : Memref sig .tc .vmem S72x32x256 .f32) (harg7 : arg7.IsWhole)
    (x0 : Vec F S1 .f32) (x1 : Vec F S288x96 .i8) (x2 : Vec F S288x128 .f32) (x3 : Vec F S8x96x256 .i8) (x4 : Vec F S8x256 .f32) (y : S72x32x256.Idx) :
    ∃ pc ∈ (kernelRun2_A c i arg2 harg2 arg3 harg3 arg4 harg4 arg5 harg5 arg6 harg6 arg7 harg7 x0 x1 x2 x3 x4).1, y ∈ pc.1.set :=
  View.cover_of_tiledL (kernelRun2_A c i arg2 harg2 arg3 harg3 arg4 harg4 arg5 harg5 arg6 harg6 arg7 harg7 x0 x1 x2 x3 x4).1 S72x4x256.size (by sl_kernel_rfl) y

/-- What the run leaves in output 5's staging buffer: its pieces read back over junk. -/
def out2_A_5 (c : Dev nD) (i : grid2.Coords) (arg2 : Memref sig .tc .smem S1 .f32) (harg2 : arg2.IsWhole) (arg3 : Memref sig .tc .vmem S288x96 .i8) (harg3 : arg3.IsWhole) (arg4 : Memref sig .tc .vmem S288x128 .f32) (harg4 : arg4.IsWhole) (arg5 : Memref sig .tc .vmem S8x96x256 .i8) (harg5 : arg5.IsWhole) (arg6 : Memref sig .tc .vmem S8x256 .f32) (harg6 : arg6.IsWhole) (arg7 : Memref sig .tc .vmem S72x32x256 .f32) (harg7 : arg7.IsWhole)
    (x0 : Vec F S1 .f32) (x1 : Vec F S288x96 .i8) (x2 : Vec F S288x128 .f32) (x3 : Vec F S8x96x256 .i8) (x4 : Vec F S8x256 .f32) : Vec F S72x32x256 .f32 :=
  VO2_5.read (Elt F) (VO2_5.writes (Elt F) VO2_5.junk (kernelRun2_A c i arg2 harg2 arg3 harg3 arg4 harg4 arg5 harg5 arg6 harg6 arg7 harg7 x0 x1 x2 x3 x4).1)

/-! ## What the outputs hold after each point -/

/-- What the outputs' staging buffers hold after the body at point `t`: the run's contents at
    the point's memrefs and input blocks. -/
def outsAt2 (c : Dev nD) (t : Fin cfg2.N) : Vec F S72x32x256 .f32 :=
  out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (iblk V c 0 t) (iblk V c 1 t) (iblk V c 2 t) (iblk V c 3 t) (iblk V c 4 t)

/-! ## The pipeline's proof data -/

/-- The proof data of the one pipeline on core `c`: the arrays as the region finds them (`V`); after the body at
    point `t` each input's buffer at its block and the outputs' at `outsAt2`; the invariant the class's
    (Lib/Pipeline/Frame.lean `ΦA`: the scoped rest and the generator register); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt2 V c t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = (outsAt2 V c t) := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d
theorem before2_4 (c : Dev nD) (t : Fin cfg2.N) (d) : (dat V c).before 4 t d = iblk V c 4 t :=
  before2_4_of V (dat V c) (A_eq V c 4) (after2_4 V c) t d

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (ms2_0 t) fullShare ((dat V c).after 0 t)
    ∗ owns (c : Thread nD τ) (ms2_1 t) fullShare ((dat V c).after 1 t)
    ∗ owns (c : Thread nD τ) (ms2_2 t) fullShare ((dat V c).after 2 t)
    ∗ owns (c : Thread nD τ) (ms2_3 t) fullShare ((dat V c).after 3 t)
    ∗ owns (c : Thread nD τ) (ms2_4 t) fullShare ((dat V c).after 4 t)
    ∗ owns (c : Thread nD τ) (ms2_5 t) fullShare ((dat V c).after 5 t))

/-- The body at any point: the inputs' memrefs hold their blocks (`before2_W`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4]
  rw [show (dat V c).Φ t.succ = (dat V c).Φ t.castSucc from rfl,
    show (dat V c).owesAt () t.succ = (dat V c).owesAt () t.castSucc from rfl,
    after2_0, after2_1, after2_2, after2_3, after2_4, after2_5]
  unfold outsAt2
  unfold out2_A_5
  iintro ⟨HΦ, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ (iblk V c 0 t) (iblk V c 1 t) (iblk V c 2 t) (iblk V c 3 t) (iblk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 c _ _ _ _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.Show

end
-- ==== Proof.Run.lean ====
module

public import proofs.«01_k».proof.Proof.QuantRegion
public import proofs.«01_k».proof.Proof.ScoreRegion
public import proofs.«01_k».proof.Proof.ShowRegion
public import proofs.«01_k».proof.Proof.Gen.KernelIdeal.Regions
public import Idealize.ShloMosaic.Lib.Pipeline.RegionArraysS
public import Idealize.ShloMosaic.Lib.Pipeline.Frame

@[expose] public section

noncomputable section

/-! The run of the whole kernel: what each of the three calls leaves in its arrays, the three calls as segments of
@main, and the contents of every unscoped buffer at the end. -/

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

variable (m : (ℓ : Loc nD τ sig) → Buf (Elt F) ℓ)

/-! ## What the calls leave -/

/-- The contents a call is entered with, read off the valuation before it. -/
abbrev atRefs (V : Dev nD → Valuation τ sig (Elt F)) (c : Dev nD) (b : Ref sig .tc) : Buf (Elt F) ((c : Thread nD τ).loc b) := V c b

/-- The first call's proof data, over the launch contents. -/
abbrev quantDat (c : Dev nD) : Dat τ (Elt F) Unit ℕ (UR sig nD τ) ℕ cfg0 c := Quant.dat (atRefs (V1 m)) c
/-- What the first call leaves. -/
def outsQuant : Outs (F := F) := fun _ r c => afterRegion (quantDat m c) (V1 m c) r
/-- The second call's proof data. -/
abbrev scoreDat (c : Dev nD) : Dat τ (Elt F) Unit ℕ (UR sig nD τ) ℕ cfg1 c := Score.dat (atRefs (V3 m (outsQuant m))) c
/-- What the first two calls leave. -/
def outsScore : Outs (F := F)
  | 4, r, c => afterRegion (scoreDat m c) (V3 m (outsQuant m) c) r
  | J, r, c => outsQuant m J r c
/-- The third call's proof data. -/
abbrev showDat (c : Dev nD) : Dat τ (Elt F) Unit ℕ (UR sig nD τ) ℕ cfg2 c := Show.dat (atRefs (V7 m (outsScore m))) c
/-- What the three calls leave. -/
def outs : Outs (F := F)
  | 8, r, c => afterRegion (showDat m c) (V7 m (outsScore m) c) r
  | J, r, c => outsScore m J r c

theorem outs_two (r : Ref sig .tc) (c : Dev nD) : outs m 2 r c = outsQuant m 2 r c := rfl
theorem outsScore_two (r : Ref sig .tc) (c : Dev nD) : outsScore m 2 r c = outsQuant m 2 r c := rfl
theorem outs_four (r : Ref sig .tc) (c : Dev nD) : outs m 4 r c = outsScore m 4 r c := rfl
theorem V3_outs (c : Dev nD) : V3 m (outs m) c = V3 m (outsQuant m) c := by
  unfold V3 V2; simp only [outs_two]
theorem V3_outsScore (c : Dev nD) : V3 m (outsScore m) c = V3 m (outsQuant m) c := by
  unfold V3 V2; simp only [outsScore_two]
theorem V7_outs (c : Dev nD) : V7 m (outs m) c = V7 m (outsScore m) c := by
  have h : V3 m (outs m) c = V3 m (outsScore m) c := (V3_outs m c).trans (V3_outsScore m c).symm
  show StableHlo.after hostOps2_2 (StableHlo.after hostOps2_1 (StableHlo.after hostOps2
    (Function.update (Function.update (V3 m (outs m) c) main_v19_0 (outsScore m 4 main_v19_0 c)) main_v19_1 (outsScore m 4 main_v19_1 c)))) = _
  rw [h]

/-- The proof data of the three calls. -/
def pdats : (p : Fin 3) → (c : Dev nD) → Dat τ (Elt F) Unit ℕ (UR sig nD τ) ℕ (cfgs p) c
  | 0 => quantDat m
  | 1 => scoreDat m
  | 2 => showDat m

/-- A buffer among the unscoped ones is a TensorCore reference. -/
theorem devRef_of_mem {b : DevRef τ sig} (hb : b ∈ Pipeline.ucRefs τ sig) : ∃ r : Ref sig .tc, b = Proc.devRef .tc r := by
  have h := (Finset.mem_filter.mp hb).1
  unfold StableHlo.tcRefs at h
  obtain ⟨r, -, h⟩ := Finset.mem_map.mp h
  exact ⟨r, h.symm⟩

/-- After the first call the buffers hold the generated valuation. -/
theorem after_quant (c : Dev nD) : ∀ b ∈ Pipeline.ucRefs τ sig, afterRegion (quantDat m c) (V1 m c) b = V2 m (outs m) c b := by
  intro b hb
  obtain ⟨r, rfl⟩ := devRef_of_mem hb
  by_cases h0 : r = main_v3_0
  · subst h0
    unfold V2; rw [Function.update_of_ne (StableHlo.devRef_ne_of_ne (by decide) : (Proc.devRef .tc main_v3_0 : DevRef τ sig) ≠ Proc.devRef .tc main_v3_3), Function.update_of_ne (StableHlo.devRef_ne_of_ne (by decide) : (Proc.devRef .tc main_v3_0 : DevRef τ sig) ≠ Proc.devRef .tc main_v3_2), Function.update_of_ne (StableHlo.devRef_ne_of_ne (by decide) : (Proc.devRef .tc main_v3_0 : DevRef τ sig) ≠ Proc.devRef .tc main_v3_1), Function.update_self]; rfl
  by_cases h1 : r = main_v3_1
  · subst h1
    unfold V2; rw [Function.update_of_ne (StableHlo.devRef_ne_of_ne (by decide) : (Proc.devRef .tc main_v3_1 : DevRef τ sig) ≠ Proc.devRef .tc main_v3_3), Function.update_of_ne (StableHlo.devRef_ne_of_ne (by decide) : (Proc.devRef .tc main_v3_1 : DevRef τ sig) ≠ Proc.devRef .tc main_v3_2), Function.update_self]; rfl
  by_cases h2 : r = main_v3_2
  · subst h2
    unfold V2; rw [Function.update_of_ne (StableHlo.devRef_ne_of_ne (by decide) : (Proc.devRef .tc main_v3_2 : DevRef τ sig) ≠ Proc.devRef .tc main_v3_3), Function.update_self]; rfl
  by_cases h3 : r = main_v3_3
  · subst h3
    unfold V2; rw [Function.update_self]; rfl
  have hn : r ∉ ([main_v3_0, main_v3_1, main_v3_2, main_v3_3] : List (Ref sig .tc)) := by
    simp only [List.mem_cons, List.not_mem_nil, _root_.or_false, not_or]
    exact ⟨h0, h1, h2, h3⟩
  refine Eq.trans ?_ (V2_of m (outs m) c r hn).symm
  exact Pipeline.afterRegion_keeps _ _ launch0.win.arr_inj (Quant.A_eq _ c) r (by
    intro w hw
    revert w
    decide +revert)

/-- After the second call the buffers hold the generated valuation. -/
theorem after_score (c : Dev nD) : ∀ b ∈ Pipeline.ucRefs τ sig, afterRegion (scoreDat m c) (V3 m (outsQuant m) c) b = V4 m (outs m) c b := by
  intro b hb
  obtain ⟨r, rfl⟩ := devRef_of_mem hb
  by_cases h0 : r = main_v19_0
  · subst h0
    unfold V4; rw [Function.update_of_ne (StableHlo.devRef_ne_of_ne (by decide) : (Proc.devRef .tc main_v19_0 : DevRef τ sig) ≠ Proc.devRef .tc main_v19_1), Function.update_self]; rfl
  by_cases h1 : r = main_v19_1
  · subst h1
    unfold V4; rw [Function.update_self]; rfl
  have hn : r ∉ ([main_v19_0, main_v19_1] : List (Ref sig .tc)) := by
    simp only [List.mem_cons, List.not_mem_nil, _root_.or_false, not_or]
    exact ⟨h0, h1⟩
  refine Eq.trans ?_ (V4_of m (outs m) c r hn).symm
  rw [V3_outs]; exact Pipeline.afterRegion_keeps _ _ launch1.win.arr_inj (Score.A_eq _ c) r (by
    intro w hw
    revert w
    decide +revert)

/-- After the third call the buffers hold the generated valuation. -/
theorem after_show (c : Dev nD) : ∀ b ∈ Pipeline.ucRefs τ sig, afterRegion (showDat m c) (V7 m (outsScore m) c) b = V8 m (outs m) c b := by
  intro b hb
  obtain ⟨r, rfl⟩ := devRef_of_mem hb
  by_cases h0 : r = main_v29
  · subst h0
    unfold V8; rw [Function.update_self]; rfl
  have hn : r ∉ ([main_v29] : List (Ref sig .tc)) := by
    simp only [List.mem_cons, List.not_mem_nil, _root_.or_false, not_or]
    exact h0
  refine Eq.trans ?_ (V8_of m (outs m) c r hn).symm
  rw [V7_outs]; exact Pipeline.afterRegion_keeps _ _ launch2.win.arr_inj (Show.A_eq _ c) r (by
    intro w hw
    revert w
    decide +revert)

-- the library theorem's implicit arguments are found by unifying its conclusion with this one, which takes unfolding
-- plain definitions in a metavariable's type
set_option backward.isDefEq.respectTransparency.types false in
/-- The run of @main, given the three regions' records: every weakly fair execution from memory `m` with zero counters
    terminates, and every final state holds in each unscoped buffer what the last valuation `V9` says, every counter at
    zero. (The generated `frame_cond` reads the arguments only; this reads every buffer.) -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => (∀ c : Dev nD,
      ∀ b ∈ Pipeline.ucRefs τ sig, r.2.mem (((c : Thread nD τ).1, b)) = V9 m outs c b)
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, .rfl, .rfl, hpre2 c, hpost2 c, sep_mono .rfl (hE3 c)⟩)
    (hinit := ?_) (QY := fun c s => ∀ b ∈ Pipeline.ucRefs τ sig, s.mem (((c : Thread nD τ).1, b)) = V9 m outs c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

/-! ## The calls as segments -/

/-- The TensorCores' counters are named by one index. -/
def L : GSem nD τ sig → Finset Unit := fun g => if g.1.2 = .tc then {()} else ∅
abbrev lv : GSem nD τ sig → Unit → ℕ := fun _ _ => 0
/-- No core owes anything. -/
abbrev D : Dev nD → CellTallies nD τ sig Unit := fun _ => 0
/-- What rides beside the buffers. -/
def E (c : Dev nD) : sProp 𝕄 :=
  iprop((∃ W, owes (c : Thread nD τ) (0 : CellTallies nD τ sig Unit) W) ∗ (∃ r, prngReg c r) ∗ BI.emp)

theorem cut (p : Fin 3) : Pipeline.LevelCut (pcfgs (F := F)) adm () L lv p D (fun _ => 0) where
  hι _ _ _ := by simp [L]
  hιb _ _ _ := le_refl _
  hD _ _ _ h := absurd h (lt_irrefl _)

set_option backward.isDefEq.respectTransparency.types false in
/-- The first call's segment. -/
def reg0 : RegionSeg (pcfgs (F := F)) adm (pdats m) () defs₀ Variants.none L lv 0 :=
  RegionSeg.ofHeldIn (pcfgs (F := F)) adm (pdats m) () defs₀ Variants.none L lv 0 D (Pipeline.ucRefs τ sig)
    (fun c => iprop(∃ r, prngReg c r)) (fun c => iprop(∃ r, prngReg c r)) launch0.toP rfl
    (fun c => (Quant.body_obligation _ c).loose) (fun _ _ => rfl) (fun _ => rfl)
    (fun c => (quantDat m c).share_full fun _ => rfl) (fun _ => .rfl) (fun _ => .rfl) (fun _ => 0) (cut 0) (fun _ => BI.emp)
    (V1 m) (fun c w => Quant.A_eq _ c w)

set_option backward.isDefEq.respectTransparency.types false in
theorem pre0 (c : Dev nD) : iprop(StableHlo.held (c : Thread nD τ) (Pipeline.ucRefs τ sig) ((V1 m) c) ∗ E c) ⊢ (reg0 m).pre c := by
  unfold reg0
  refine BI.Entails.trans ?_ (RegionSeg.ofHeldIn_pre (Pipeline.arrRefs_sub_ucRefs _ (launch0.win.arr_unscoped)) c)
  exact BI.Entails.refl _
set_option backward.isDefEq.respectTransparency.types false in
theorem post0 (c : Dev nD) : (reg0 m).post c ⊢ iprop(StableHlo.held (c : Thread nD τ) (Pipeline.ucRefs τ sig) (V2 m (outs m) c) ∗ E c) := by
  rw [← StableHlo.held_congr (c : Thread nD τ) (after_quant m c)]
  exact RegionSeg.ofHeldIn_post (Pipeline.arrRefs_sub_ucRefs _ (launch0.win.arr_unscoped)) c

set_option backward.isDefEq.respectTransparency.types false in
/-- The second call's segment. -/
def reg1 : RegionSeg (pcfgs (F := F)) adm (pdats m) () defs₀ Variants.none L lv 1 :=
  RegionSeg.ofHeldIn (pcfgs (F := F)) adm (pdats m) () defs₀ Variants.none L lv 1 D (Pipeline.ucRefs τ sig)
    (fun c => iprop(∃ r, prngReg c r)) (fun c => iprop(∃ r, prngReg c r)) launch1.toP rfl
    (fun c => (Score.body_obligation _ c).loose) (fun _ _ => rfl) (fun _ => rfl)
    (fun c => (scoreDat m c).share_full fun _ => rfl) (fun _ => .rfl) (fun _ => .rfl) (fun _ => 0) (cut 1) (fun _ => BI.emp)
    (V3 m (outsQuant m)) (fun c w => Score.A_eq _ c w)

set_option backward.isDefEq.respectTransparency.types false in
theorem pre1 (c : Dev nD) : iprop(StableHlo.held (c : Thread nD τ) (Pipeline.ucRefs τ sig) ((V3 m (outsQuant m)) c) ∗ E c) ⊢ (reg1 m).pre c := by
  unfold reg1
  refine BI.Entails.trans ?_ (RegionSeg.ofHeldIn_pre (Pipeline.arrRefs_sub_ucRefs _ (launch1.win.arr_unscoped)) c)
  exact BI.Entails.refl _
set_option backward.isDefEq.respectTransparency.types false in
theorem post1 (c : Dev nD) : (reg1 m).post c ⊢ iprop(StableHlo.held (c : Thread nD τ) (Pipeline.ucRefs τ sig) (V4 m (outs m) c) ∗ E c) := by
  rw [← StableHlo.held_congr (c : Thread nD τ) (after_score m c)]
  exact RegionSeg.ofHeldIn_post (Pipeline.arrRefs_sub_ucRefs _ (launch1.win.arr_unscoped)) c

set_option backward.isDefEq.respectTransparency.types false in
/-- The third call's segment. -/
def reg2 : RegionSeg (pcfgs (F := F)) adm (pdats m) () defs₀ Variants.none L lv 2 :=
  RegionSeg.ofHeldIn (pcfgs (F := F)) adm (pdats m) () defs₀ Variants.none L lv 2 D (Pipeline.ucRefs τ sig)
    (fun c => iprop(∃ r, prngReg c r)) (fun c => iprop(∃ r, prngReg c r)) launch2.toP rfl
    (fun c => (Show.body_obligation _ c).loose) (fun _ _ => rfl) (fun _ => rfl)
    (fun c => (showDat m c).share_full fun _ => rfl) (fun _ => .rfl) (fun _ => .rfl) (fun _ => 0) (cut 2) (fun _ => BI.emp)
    (V7 m (outsScore m)) (fun c w => Show.A_eq _ c w)

set_option backward.isDefEq.respectTransparency.types false in
theorem pre2 (c : Dev nD) : iprop(StableHlo.held (c : Thread nD τ) (Pipeline.ucRefs τ sig) ((V7 m (outsScore m)) c) ∗ E c) ⊢ (reg2 m).pre c := by
  unfold reg2
  refine BI.Entails.trans ?_ (RegionSeg.ofHeldIn_pre (Pipeline.arrRefs_sub_ucRefs _ (launch2.win.arr_unscoped)) c)
  exact BI.Entails.refl _
set_option backward.isDefEq.respectTransparency.types false in
theorem post2 (c : Dev nD) : (reg2 m).post c ⊢ iprop(StableHlo.held (c : Thread nD τ) (Pipeline.ucRefs τ sig) (V8 m (outs m) c) ∗ E c) := by
  rw [← StableHlo.held_congr (c : Thread nD τ) (after_show m c)]
  exact RegionSeg.ofHeldIn_post (Pipeline.arrRefs_sub_ucRefs _ (launch2.win.arr_unscoped)) c

/-- The run of the kernel: every unscoped buffer ends at the last valuation, every counter at zero. -/
theorem run (ρ : Dev nD → PrngReg) :
    θ_run defs (onTc (τ := τ) (main (F := F))) ⟨m, fun _ => 0, ρ⟩ (fun r => (∀ c : Dev nD,
      ∀ b ∈ Pipeline.ucRefs τ sig, r.2.mem (((c : Thread nD τ).1, b)) = V9 m (outs m) c b)
      ∧ r.2.sem = fun _ => 0) :=
  run_cond m (emb₁ : Emb _ 𝕄) () Variants.none L lv (fun g h => if_neg h) ρ (outs m) (pdats m) 0 (fun _ => BI.emp)
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const]); iempintro)
    (fun _ => E)
    (Pipeline.initEach L lv fun c => by
      unfold E
      iintro ⟨⟨-, HO, -, Hp, -⟩, -⟩
      imodintro
      isplitl [HO]; · iexists _; iexact HO
      isplitl [Hp]; · iexists _; iexact Hp
      iempintro)
    (fun c => by unfold E; iintro ⟨HO, -, -⟩; iexact HO)
    (reg0 m) (pre0 m) (post0 m)
    (reg1 m) (fun c => by rw [V3_outs]; exact pre1 m c) (post1 m)
    (reg2 m) (fun c => by rw [V7_outs]; exact pre2 m c) (post2 m)

/-- An unscoped TensorCore buffer at the end of the run. -/
theorem mem_uc (r : Ref sig .tc) (h : (Proc.devRef .tc r : DevRef τ sig).isScoped = false) : Proc.devRef .tc r ∈ Pipeline.ucRefs τ sig :=
  Finset.mem_filter.mpr ⟨StableHlo.devRef_mem_tcRefs r, by simp [h]⟩

/-- The frame: the run leaves the arguments as launched and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c _ (mem_uc main_arg0 (by decide))).trans (V9_main_arg0 m _ c), (h.1 c _ (mem_uc main_arg1 (by decide))).trans (V9_main_arg1 m _ c), (h.1 c _ (mem_uc main_arg2 (by decide))).trans (V9_main_arg2 m _ c), (h.1 c _ (mem_uc main_arg3 (by decide))).trans (V9_main_arg3 m _ c), (h.1 c _ (mem_uc main_arg4 (by decide))).trans (V9_main_arg4 m _ c), (h.1 c _ (mem_uc main_arg5 (by decide))).trans (V9_main_arg5 m _ c)⟩, h.2⟩) (run m ρ)

end Cert.KernelIdeal.Run

end
-- ==== Proof.Machine.QuantRegion.lean ====
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

/-! The first call of the kernel (quantising the users) as a region of @main: what each point leaves in its
output blocks, as a function of the arrays the region is entered with, and the obligation of its body. -/

namespace Cert.Kernel.Quant

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The kernel body at point `t`, on what the pipeline calls it with (`defs₀`'s row at the slots). -/
abbrev bodyAt0 (t : Fin cfg0.N) : Prog (TpuEff nD τ sig (Elt F) Λ₀ .tc) PUnit :=
  cc0_quantise_users (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO0_2 : View sig .tc .vmem S8x96x512 .i8 := (Memref.whole cc0_stg2_0 : Memref sig .tc .vmem S8x96x512 .i8).view
/-- One staging buffer of output window 3, through which its contents are stated (`View.read_writes_of_cover`: the
    choice does not matter). -/
abbrev VO0_3 : View sig .tc .vmem S8x512 .f32 := (Memref.whole cc0_stg3_0 : Memref sig .tc .vmem S8x512 .f32).view
/-- One staging buffer of output window 4, through which its contents are stated (`View.read_writes_of_cover`: the
    choice does not matter). -/
abbrev VO0_4 : View sig .tc .vmem S64x64x128 .bf16 := (Memref.whole cc0_stg4_0 : Memref sig .tc .vmem S64x64x128 .bf16).view
/-- One staging buffer of output window 5, through which its contents are stated (`View.read_writes_of_cover`: the
    choice does not matter). -/
abbrev VO0_5 : View sig .tc .vmem S64x64x128 .f32 := (Memref.whole cc0_stg5_0 : Memref sig .tc .vmem S64x64x128 .f32).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x96x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x96x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x64x128 .f32 := win0_5.stage (cfg0.slots t 5)
abbrev hs0_5 (t : Fin cfg0.N) : (ms0_5 t).IsWhole := hstage0_5 ((cfg0.slots t 5).cast nbuf0_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) :
    Σ' (L2 : List (View.Piece (Elt F) S8x96x512 .i8)), Σ' (L3 : List (View.Piece (Elt F) S8x512 .f32)), Σ' (L4 : List (View.Piece (Elt F) S64x64x128 .bf16)), { L5 : List (View.Piece (Elt F) S64x64x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc0_quantise_users i arg1 harg1 arg2 harg2 arg3 harg3 arg4 harg4 arg5 harg5 arg6 harg6) K } := by
  refine ⟨?_, ?_, ?_, ?_, fun E K => ?run⟩
  case run =>
    simp only [cc0_quantise_users_eq_skeleton]; unfold cc0_quantise_users_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

/-- The run's pieces for output 2 tile its block (8 stores of `S1x96x512`, checked by the kernel's evaluation: Lib/Ring.lean `Piece.tiledL`, linear in the pieces, through a loop's `@[irreducible]` trip theorem too), so they cover it. -/
theorem cover0_A_2 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) (y : S8x96x512.Idx) :
    ∃ pc ∈ (kernelRun0_A c i arg1 harg1 arg2 harg2 arg3 harg3 arg4 harg4 arg5 harg5 arg6 harg6 x0 x1).1, y ∈ pc.1.set :=
  View.cover_of_tiledL (kernelRun0_A c i arg1 harg1 arg2 harg2 arg3 harg3 arg4 harg4 arg5 harg5 arg6 harg6 x0 x1).1 S1x96x512.size (by sl_kernel_rfl) y

/-- What the run leaves in output 2's staging buffer: its pieces read back over junk. -/
def out0_A_2 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) : Vec F S8x96x512 .i8 :=
  VO0_2.read (Elt F) (VO0_2.writes (Elt F) VO0_2.junk (kernelRun0_A c i arg1 harg1 arg2 harg2 arg3 harg3 arg4 harg4 arg5 harg5 arg6 harg6 x0 x1).1)

/-- The run's pieces for output 3 tile its block (8 stores of `S1x512`, checked by the kernel's evaluation: Lib/Ring.lean `Piece.tiledL`, linear in the pieces, through a loop's `@[irreducible]` trip theorem too), so they cover it. -/
theorem cover0_A_3 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) (y : S8x512.Idx) :
    ∃ pc ∈ (kernelRun0_A c i arg1 harg1 arg2 harg2 arg3 harg3 arg4 harg4 arg5 harg5 arg6 harg6 x0 x1).2.1, y ∈ pc.1.set :=
  View.cover_of_tiledL (kernelRun0_A c i arg1 harg1 arg2 harg2 arg3 harg3 arg4 harg4 arg5 harg5 arg6 harg6 x0 x1).2.1 S1x512.size (by sl_kernel_rfl) y

/-- What the run leaves in output 3's staging buffer: its pieces read back over junk. -/
def out0_A_3 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) : Vec F S8x512 .f32 :=
  VO0_3.read (Elt F) (VO0_3.writes (Elt F) VO0_3.junk (kernelRun0_A c i arg1 harg1 arg2 harg2 arg3 harg3 arg4 harg4 arg5 harg5 arg6 harg6 x0 x1).2.1)

/-- The run's pieces for output 4 tile its block (1 store of `S64x64x128`, checked by the kernel's evaluation: Lib/Ring.lean `Piece.tiledL`, linear in the pieces, through a loop's `@[irreducible]` trip theorem too), so they cover it. -/
theorem cover0_A_4 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) (y : S64x64x128.Idx) :
    ∃ pc ∈ (kernelRun0_A c i arg1 harg1 arg2 harg2 arg3 harg3 arg4 harg4 arg5 harg5 arg6 harg6 x0 x1).2.2.1, y ∈ pc.1.set :=
  View.cover_of_tiledL (kernelRun0_A c i arg1 harg1 arg2 harg2 arg3 harg3 arg4 harg4 arg5 harg5 arg6 harg6 x0 x1).2.2.1 S64x64x128.size (by sl_kernel_rfl) y

/-- What the run leaves in output 4's staging buffer: its pieces read back over junk. -/
def out0_A_4 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) : Vec F S64x64x128 .bf16 :=
  VO0_4.read (Elt F) (VO0_4.writes (Elt F) VO0_4.junk (kernelRun0_A c i arg1 harg1 arg2 harg2 arg3 harg3 arg4 harg4 arg5 harg5 arg6 harg6 x0 x1).2.2.1)

/-- The run's pieces for output 5 tile its block (8 stores of `S64x8x128`, checked by the kernel's evaluation: Lib/Ring.lean `Piece.tiledL`, linear in the pieces, through a loop's `@[irreducible]` trip theorem too), so they cover it. -/
theorem cover0_A_5 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) (y : S64x64x128.Idx) :
    ∃ pc ∈ (kernelRun0_A c i arg1 harg1 arg2 harg2 arg3 harg3 arg4 harg4 arg5 harg5 arg6 harg6 x0 x1).2.2.2.1, y ∈ pc.1.set :=
  View.cover_of_tiledL (kernelRun0_A c i arg1 harg1 arg2 harg2 arg3 harg3 arg4 harg4 arg5 harg5 arg6 harg6 x0 x1).2.2.2.1 S64x8x128.size (by sl_kernel_rfl) y

/-- What the run leaves in output 5's staging buffer: its pieces read back over junk. -/
def out0_A_5 (c : Dev nD) (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec F S1 .f32) (x1 : Vec F S8x96x512 .bf16) : Vec F S64x64x128 .f32 :=
  VO0_5.read (Elt F) (VO0_5.writes (Elt F) VO0_5.junk (kernelRun0_A c i arg1 harg1 arg2 harg2 arg3 harg3 arg4 harg4 arg5 harg5 arg6 harg6 x0 x1).2.2.2.1)

/-! ## What the outputs hold after each point -/

/-- What the outputs' staging buffers hold after the body at point `t` (as a tuple, in window order): the run's contents at
    the point's memrefs and input blocks. -/
def outsAt0 (c : Dev nD) (t : Fin cfg0.N) : Vec F S8x96x512 .i8 × Vec F S8x512 .f32 × Vec F S64x64x128 .bf16 × Vec F S64x64x128 .f32 :=
  (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t), out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk V c 0 t) (iblk V c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt0 V c t).1
    | ⟨3, _⟩ => (outsAt0 V c t).2.1
    | ⟨4, _⟩ => (outsAt0 V c t).2.2.1
    | ⟨5, _⟩ => (outsAt0 V c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = (outsAt0 V c t).1 := by dsimp only [dat]
theorem after0_3 (c : Dev nD) (t : Fin cfg0.N) : (dat V c).after 3 t = (outsAt0 V c t).2.1 := by dsimp only [dat]
theorem after0_4 (c : Dev nD) (t : Fin cfg0.N) : (dat V c).after 4 t = (outsAt0 V c t).2.2.1 := by dsimp only [dat]
theorem after0_5 (c : Dev nD) (t : Fin cfg0.N) : (dat V c).after 5 t = (outsAt0 V c t).2.2.2 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t)
    ∗ owns (c : Thread nD τ) (ms0_5 t) fullShare ((dat V c).after 5 t))

/-- The body at any point: the inputs' memrefs hold their blocks (`before0_W`); so the
    run applies; the invariant passes through unread; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3, after0_4, after0_5]
  unfold outsAt0
  unfold out0_A_2 out0_A_3 out0_A_4 out0_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk V c 0 t) (iblk V c 1 t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  isplitl [H3]
  · unfold owns; iexists _; isplitr
    swap; · iexact H3
    ipureintro; exact View.read_writes_of_cover _ _ _ _ _ (cover0_A_3 c _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

end Cert.Kernel.Quant

end
-- ==== Proof.Machine.ScoreTrip.lean ====
module

public import proofs.«01_k».proof.Proof.Gen.Kernel.Loops

@[expose] public section

set_option maxRecDepth 16384

/-!
# One trip of the scoring loop, in whole vectors

The scoring call walks the users in groups of four.  For one group the trip multiplies the users'
code rows with the four code matrices, scales the products, folds the 32 products of a user and an
item column into a log-sum-exp, and stores one row block of scores and one row block of block maxima
per user block.  The printed trip spells every product out; here the same trip is written with
indices: `term` is one scaled product, `score` the log-sum-exp of one user block and lane column,
`rows` the stored row block of scores and `best` the running maximum of a user block.
-/

noncomputable section

namespace Cert.Kernel.Score

open Idealize.ShloMosaic Idealize.ShloMosaic.TcCoe Idealize.SL.Sem
open Cert.Kernel.Gen

variable {F : FTy → Type} [FloatOps F]

/-- The left fold `t 0 * t 1 * … * t n` of an operation. -/
def foldTo {α : Type} (f : α → α → α) (t : ℕ → α) : ℕ → α
  | 0 => t 0
  | n + 1 => f (foldTo f t n) (t (n + 1))

theorem slices_dots (g c : Fin 4) (u : Fin 8) :
    S256x512.Slices ![64 * g.val + 8 * u.val, 128 * c.val] S8x128 := by
  revert g c u; decide +kernel

theorem slices_gain (g : Fin 4) (u : Fin 8) :
    S4x64x128.Slices ![g.val, 8 * u.val, 0] S1x8x128 := by
  revert g u; decide +kernel

section Tile

variable (W : Fin 4 → FVec F S96x512 .bf16) (L : Vec F S4x64x128 .bf16) (G : Vec F S4x64x128 .f32)
  (Sc : Fin 4 → Fin 4 → Vec F S1x128 .f32) (Va Ba : Fin 4 → Vec F S1x128 .f32)

/-- The four users' code rows times the `k`-th code matrix. -/
def dots (k : Fin 4) : FVec F S256x512 .f32 :=
  matmul dot_S256x96_S96x512_S256x512_1_0_0_1_n_n none (k1_pay2 L) (W k)
    (constant S256x512 .f32 0x00000000#32)

/-- The scaled products of user block `g`, lane column `c`, code `k` and interest `u`. -/
def term (g c k : Fin 4) (u : Fin 8) : FVec F S8x128 .f32 :=
  mulf (mulf (extractStridedSlice S8x128 ![64 * g.val + 8 * u.val, 128 * c.val] (dots W L k)
        (slices_dots g c u))
      (shapeCast S8x128 (extractStridedSlice S1x8x128 ![g.val, 8 * u.val, 0]
        (shapeCast S4x64x128 G shapeCasts_S4x64x128_S4x64x128) (slices_gain g u))
        shapeCasts_S1x8x128_S8x128))
    (broadcastTo S8x128 (shapeCast S1x128 (Sc k c) shapeCasts_S1x128_S1x128)
      broadcasts_S1x128_S8x128)

/-- The 32 products in the order the kernel takes them: the codes outside, the interests inside. -/
def termAt (g c : Fin 4) (n : ℕ) : FVec F S8x128 .f32 :=
  term W L G Sc g c (Fin.ofNat 4 (n / 8)) (Fin.ofNat 8 (n % 8))

/-- The rounded-up largest product. -/
def peak (g c : Fin 4) : FVec F S8x128 .f32 :=
  ceil (foldTo maximumf (termAt W L G Sc g c) 31)

/-- The sum of the powers of two of the products, each lowered by the peak. -/
def den (g c : Fin 4) : FVec F S8x128 .f32 :=
  foldTo addf (fun n => exp2 (subf (termAt W L G Sc g c n) (peak W L G Sc g c))) 31

/-- The score before the mask. -/
def score (g c : Fin 4) : FVec F S8x128 .f32 :=
  subf (subf (addf (mulf (peak W L G Sc g c) (broadcast S8x128 (Scalar.ofBits .f32 0x3F317218#32)))
        (log (den W L G Sc g c)))
      (broadcast S8x128 (Scalar.ofBits .f32 0x405DCE9E#32)))
    (broadcastTo S8x128 (shapeCast S1x128 (Ba c) shapeCasts_S1x128_S1x128) broadcasts_S1x128_S8x128)

/-- The mask of lane column `c`: the items whose word is not zero. -/
def mask (c : Fin 4) : IVec S8x128 1 :=
  broadcastTo S8x128 (shapeCast S1x128 (cmpf .one (shapeCast S1x128 (Va c) shapeCasts_S1x128_S1x128)
    (broadcast S1x128 (Scalar.ofBits .f32 0x00000000#32))) shapeCasts_S1x128_S1x128)
    broadcasts_S1x128_S8x128

/-- The masked scores of one lane column. -/
def shown (g c : Fin 4) : FVec F S8x128 .f32 :=
  select (mask Va c) (score W L G Sc Ba g c) (broadcast S8x128 (Scalar.ofBits .f32 0x00000000#32))

/-- The stored row block of scores of user block `g`. -/
def rows (g : Fin 4) : FVec F S8x512 .bf16 :=
  truncf .bf16 (concatenate S8x512 1 [⟨S8x128, shown W L G Sc Va Ba g 0⟩, ⟨S8x128, shown W L G Sc Va Ba g 1⟩,
    ⟨S8x128, shown W L G Sc Va Ba g 2⟩, ⟨S8x128, shown W L G Sc Va Ba g 3⟩]
    concatenates_S8x128_S8x128_S8x128_S8x128_S8x512_d1) bitsLt_bf16_f32

/-- The scores of one lane column, minus infinity where the item is masked. -/
def ranked (g c : Fin 4) : FVec F S8x128 .f32 :=
  select (mask Va c) (score W L G Sc Ba g c) (broadcast S8x128 (Scalar.ofBits .f32 0xFF800000#32))

/-- The maximum over the four lane columns, lane by lane. -/
def top (g : Fin 4) : FVec F S8x128 .f32 :=
  maximumf (maximumf (maximumf (maximumf (broadcast S8x128 (Scalar.ofBits .f32 0xFF800000#32))
    (ranked W L G Sc Va Ba g 0)) (ranked W L G Sc Va Ba g 1)) (ranked W L G Sc Va Ba g 2))
    (ranked W L G Sc Va Ba g 3)

/-- The maximum of a user over the tile's items. -/
def best (g : Fin 4) : FVec F S8x1 .f32 :=
  shapeCast S8x1 (multiReduction .maximumf [1] S8 (top W L G Sc Va Ba g) 0xFF800000#32
    reduces_S8x128_S8 (.inl rfl) rfl) shapeCasts_S8_S8x1

/-- The stored row block of maxima: lane `block` is raised to `best`, the other lanes stay. -/
def raised (block : BitVec 32) (lane : IVec S8x128 32) (g : Fin 4) (old : Vec F S8x128 .f32) :
    FVec F S8x128 .f32 :=
  select (cmpi .eq lane (broadcast S8x128 block))
    (maximumf (shapeCast S8x128 old shapeCasts_S8x128_S8x128)
      (broadcastTo S8x128 (best W L G Sc Va Ba g) broadcasts_S8x1_S8x128))
    (shapeCast S8x128 old shapeCasts_S8x128_S8x128)

end Tile

theorem inb_scale (k c : Fin 4) :
    ∀ a, (![k.val, 128 * c.val] : Fin 2 → ℕ) a + S1x128.size a ≤ S4x512.size a := by
  revert k c; decide +kernel

theorem inb_lane (c : Fin 4) :
    ∀ a, (![0, 128 * c.val] : Fin 2 → ℕ) a + S1x128.size a ≤ S1x512.size a := by
  revert c; decide +kernel

section Trip

variable (𝒱 : Variants) (c : Dev nD) (bd : Option 𝒱.V) (i : grid1.Coords) (arg1 : Memref sig .tc .vmem S320x64x128 .bf16) (harg1 : arg1.IsWhole) (arg2 : Memref sig .tc .vmem S320x64x128 .f32) (harg2 : arg2.IsWhole) (arg3 : Memref sig .tc .vmem S4x96x512 .i8) (harg3 : arg3.IsWhole) (arg4 : Memref sig .tc .vmem S4x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2560x512 .bf16) (harg7 : arg7.IsWhole) (arg8 : Memref sig .tc .vmem S2560x128 .f32) (harg8 : arg8.IsWhole) (v2 : FVec F S96x512 .bf16) (v5 : FVec F S96x512 .bf16) (v8 : FVec F S96x512 .bf16) (v11 : FVec F S96x512 .bf16) (v28 : BitVec 32) (v29 : IVec S8x128 32) (c0_i32_14 : BitVec 32) (c1_i32_15 : BitVec 32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (k : Fin k1_t1_loop.trips)

/-- The scale row of code `k` and lane column `c`. -/
abbrev scaleRow (kk cc : Fin 4) : Vec F S1x128 .f32 :=
  View.readAt (Elt F) arg4.view (Rect.unit (s := S4x512) ![kk.val, 128 * cc.val] S1x128.size (inb_scale kk cc)).toLoadRect X_arg4

/-- Lane column `c` of a one-row window. -/
abbrev laneRow (arg : Memref sig .tc .vmem S1x512 .f32) (X : BufTy.Contents (Elt F) arg.view.ty) (cc : Fin 4) : Vec F S1x128 .f32 :=
  View.readAt (Elt F) arg.view (Rect.unit (s := S1x512) ![0, 128 * cc.val] S1x128.size (inb_lane cc)).toLoadRect X

/-- The four users' code rows of trip `k`. -/
abbrev tripRows : Vec F S4x64x128 .bf16 :=
  View.readAt (Elt F) arg1.view (Rect.unit (s := S320x64x128) (k1_off1 k) S4x64x128.size (k1_off1_inb k)).toLoadRect X_arg1

/-- The four users' gains of trip `k`. -/
abbrev tripGains : Vec F S4x64x128 .f32 :=
  View.readAt (Elt F) arg2.view (Rect.unit (s := S320x64x128) (k1_off1 k) S4x64x128.size (k1_off1_inb k)).toLoadRect X_arg2

/-- The four code matrices as one family. -/
abbrev mats : Fin 4 → FVec F S96x512 .bf16 := ![v2, v5, v8, v11]

/-- The stored row block of scores of the trip's user block `g`. -/
abbrev tripScore (g : Fin 4) : FVec F S8x512 .bf16 :=
  rows (mats v2 v5 v8 v11) (tripRows arg1 X_arg1 k) (tripGains arg2 X_arg2 k)
    (scaleRow arg4 X_arg4) (laneRow arg6 X_arg6) (laneRow arg5 X_arg5) g

/-- The stored row block of maxima of the trip's user block `g`, over the row block `old`. -/
abbrev tripRaised (g : Fin 4) (old : Vec F S8x128 .f32) : FVec F S8x128 .f32 :=
  raised (mats v2 v5 v8 v11) (tripRows arg1 X_arg1 k) (tripGains arg2 X_arg2 k)
    (scaleRow arg4 X_arg4) (laneRow arg6 X_arg6) (laneRow arg5 X_arg5) v28 v29 g old

attribute [local irreducible] mulf addf subf maximumf exp2 ceil log shapeCast extractStridedSlice broadcastTo
  broadcast multiReduction select cmpi cmpf truncf concatenate constant View.readAt

set_option maxHeartbeats 4000000

/-- The piece of user block `g` in the scores. -/
abbrev scorePiece (g : Fin 4) : View.Piece (Elt F) S2560x512 .bf16 :=
  ⟨Rect.unit (s := S2560x512) (k1_off2 k (BitVec.ofNat 32 g.val)) S8x512.size (k1_off2_inb k g), tripScore arg1 arg2 arg4 arg5 arg6 v2 v5 v8 v11 X_arg1 X_arg2 X_arg4 X_arg5 X_arg6 k g⟩

/-- The rows of the block maxima the trip finds for user block `g`. -/
abbrev oldTop (f_arg8 : BufTy.Contents (Elt F) arg8.view.ty) (g : Fin 4) : Vec F S8x128 .f32 :=
  View.readAt (Elt F) arg8.view (Rect.unit (s := S2560x128) (k1_off3 k (BitVec.ofNat 32 g.val)) S8x128.size (k1_off3_inb k g)).toLoadRect f_arg8

/-- The piece of user block `g` in the block maxima. -/
abbrev topPiece (f_arg8 : BufTy.Contents (Elt F) arg8.view.ty) (g : Fin 4) : View.Piece (Elt F) S2560x128 .f32 :=
  ⟨Rect.unit (s := S2560x128) (k1_off3 k (BitVec.ofNat 32 g.val)) S8x128.size (k1_off3_inb k g), tripRaised arg1 arg2 arg4 arg5 arg6 v2 v5 v8 v11 v28 v29 X_arg1 X_arg2 X_arg4 X_arg5 X_arg6 k g (oldTop arg8 k f_arg8 g)⟩

unseal trip_k1_t1 in
/-- The pieces one trip writes into the scores. -/
theorem trip_scores (f_arg7 : BufTy.Contents (Elt F) arg7.view.ty) (f_arg8 : BufTy.Contents (Elt F) arg8.view.ty) :
    (tripL_k1_t1 (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 k f_arg7 f_arg8).1 =
      [scorePiece arg1 arg2 arg4 arg5 arg6 v2 v5 v8 v11 X_arg1 X_arg2 X_arg4 X_arg5 X_arg6 k 3, scorePiece arg1 arg2 arg4 arg5 arg6 v2 v5 v8 v11 X_arg1 X_arg2 X_arg4 X_arg5 X_arg6 k 2, scorePiece arg1 arg2 arg4 arg5 arg6 v2 v5 v8 v11 X_arg1 X_arg2 X_arg4 X_arg5 X_arg6 k 1, scorePiece arg1 arg2 arg4 arg5 arg6 v2 v5 v8 v11 X_arg1 X_arg2 X_arg4 X_arg5 X_arg6 k 0] := by
  rfl

unseal trip_k1_t1 in
/-- The pieces one trip writes into the block maxima. -/
theorem trip_tops (f_arg7 : BufTy.Contents (Elt F) arg7.view.ty) (f_arg8 : BufTy.Contents (Elt F) arg8.view.ty) :
    (tripL_k1_t1 (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 k f_arg7 f_arg8).2 =
      [topPiece arg1 arg2 arg4 arg5 arg6 arg8 v2 v5 v8 v11 v28 v29 X_arg1 X_arg2 X_arg4 X_arg5 X_arg6 k f_arg8 3, topPiece arg1 arg2 arg4 arg5 arg6 arg8 v2 v5 v8 v11 v28 v29 X_arg1 X_arg2 X_arg4 X_arg5 X_arg6 k f_arg8 2, topPiece arg1 arg2 arg4 arg5 arg6 arg8 v2 v5 v8 v11 v28 v29 X_arg1 X_arg2 X_arg4 X_arg5 X_arg6 k f_arg8 1, topPiece arg1 arg2 arg4 arg5 arg6 arg8 v2 v5 v8 v11 v28 v29 X_arg1 X_arg2 X_arg4 X_arg5 X_arg6 k f_arg8 0] := by
  rfl

end Trip

end Cert.Kernel.Score

end
-- ==== Proof.Machine.ScoreLoop.lean ====
module

public import proofs.«01_k».proof.Proof.Machine.ScoreTrip
public import Idealize.ShloMosaic.Lib.WritesUnit

@[expose] public section

set_option maxRecDepth 16384
set_option maxHeartbeats 1000000

/-!
# What the scoring loop leaves behind

Eighty trips store four row blocks of eight users each, one under the other.  Trip `k` therefore owns
the rows `32 k … 32 k + 31`: no later trip touches them, and no earlier one did.  So after the loop each
row holds what its own trip stored, and the maxima a trip reads are those the loop found.
-/

noncomputable section

namespace Cert.Kernel.Score

open Idealize.ShloMosaic Idealize.ShloMosaic.TcCoe Idealize.SL.Sem
open Cert.Kernel.Gen

/-- Four row blocks written one under the other from row `32 n`: a row among them reads its block. -/
theorem read_four_of_mem {sg : RefSig} {κ : Kind} {sp : Space} {e : EltTy} {Val : EltTy → Type} {C : ℕ}
    (v : View sg κ sp (⟨2, ![2560, C]⟩ : Shape) e) (f : v.ty.Contents Val) (n : ℕ) (off : Fin 4 → Fin 2 → ℕ)
    (hoff : ∀ g, off g = ![32 * n + 8 * g.val, 0])
    (inb : ∀ g, ∀ a : Fin 2, off g a + (![8, C] : Fin 2 → ℕ) a ≤ (![2560, C] : Fin 2 → ℕ) a)
    (w : ∀ g, (Rect.unit (s := ⟨2, ![2560, C]⟩) (off g) ![8, C] (inb g)).shape.Idx → Val e)
    (L : List (View.Piece Val (⟨2, ![2560, C]⟩ : Shape) e)) (y : (⟨2, ![2560, C]⟩ : Shape).Idx) (g : Fin 4)
    (x : (⟨2, ![8, C]⟩ : Shape).Idx)
    (h0 : (y (0 : Fin 2)).val = 32 * n + 8 * g.val + (x (0 : Fin 2)).val)
    (h1 : (y (1 : Fin 2)).val = (x (1 : Fin 2)).val) :
    v.read Val (v.writes Val f ([(⟨Rect.unit (s := ⟨2, ![2560, C]⟩) (off 3) ![8, C] (inb 3), w 3⟩ : View.Piece Val (⟨2, ![2560, C]⟩ : Shape) e),
      ⟨Rect.unit (s := ⟨2, ![2560, C]⟩) (off 2) ![8, C] (inb 2), w 2⟩,
      ⟨Rect.unit (s := ⟨2, ![2560, C]⟩) (off 1) ![8, C] (inb 1), w 1⟩,
      ⟨Rect.unit (s := ⟨2, ![2560, C]⟩) (off 0) ![8, C] (inb 0), w 0⟩] ++ L)) y = w g x := by
  have hx : (x (0 : Fin 2)).val < 8 := (x (0 : Fin 2)).isLt
  simp only [List.cons_append, List.nil_append]
  fin_cases g
  · rw [View.read_writes_cons_rows_of_not_mem v f (inb 3) (w 3) _ y (hoff 3) rfl (Or.inl (by rw [h0]; simp; omega)),
      View.read_writes_cons_rows_of_not_mem v f (inb 2) (w 2) _ y (hoff 2) rfl (Or.inl (by rw [h0]; simp; omega)),
      View.read_writes_cons_rows_of_not_mem v f (inb 1) (w 1) _ y (hoff 1) rfl (Or.inl (by rw [h0]; simp; omega))]
    exact View.read_writes_cons_rows_of_mem v f (inb 0) (w 0) _ y x (hoff 0) h0 h1
  · rw [View.read_writes_cons_rows_of_not_mem v f (inb 3) (w 3) _ y (hoff 3) rfl (Or.inl (by rw [h0]; simp; omega)),
      View.read_writes_cons_rows_of_not_mem v f (inb 2) (w 2) _ y (hoff 2) rfl (Or.inl (by rw [h0]; simp; omega))]
    exact View.read_writes_cons_rows_of_mem v f (inb 1) (w 1) _ y x (hoff 1) h0 h1
  · rw [View.read_writes_cons_rows_of_not_mem v f (inb 3) (w 3) _ y (hoff 3) rfl (Or.inl (by rw [h0]; simp; omega))]
    exact View.read_writes_cons_rows_of_mem v f (inb 2) (w 2) _ y x (hoff 2) h0 h1
  · exact View.read_writes_cons_rows_of_mem v f (inb 3) (w 3) _ y x (hoff 3) h0 h1

/-- A row outside the four blocks reads what was there before. -/
theorem read_four_of_not_mem {sg : RefSig} {κ : Kind} {sp : Space} {e : EltTy} {Val : EltTy → Type} {C : ℕ}
    (v : View sg κ sp (⟨2, ![2560, C]⟩ : Shape) e) (f : v.ty.Contents Val) (n : ℕ) (off : Fin 4 → Fin 2 → ℕ)
    (hoff : ∀ g, off g = ![32 * n + 8 * g.val, 0])
    (inb : ∀ g, ∀ a : Fin 2, off g a + (![8, C] : Fin 2 → ℕ) a ≤ (![2560, C] : Fin 2 → ℕ) a)
    (w : ∀ g, (Rect.unit (s := ⟨2, ![2560, C]⟩) (off g) ![8, C] (inb g)).shape.Idx → Val e)
    (L : List (View.Piece Val (⟨2, ![2560, C]⟩ : Shape) e)) (y : (⟨2, ![2560, C]⟩ : Shape).Idx)
    (h : (y (0 : Fin 2)).val < 32 * n ∨ 32 * n + 32 ≤ (y (0 : Fin 2)).val) :
    v.read Val (v.writes Val f ([(⟨Rect.unit (s := ⟨2, ![2560, C]⟩) (off 3) ![8, C] (inb 3), w 3⟩ : View.Piece Val (⟨2, ![2560, C]⟩ : Shape) e),
      ⟨Rect.unit (s := ⟨2, ![2560, C]⟩) (off 2) ![8, C] (inb 2), w 2⟩,
      ⟨Rect.unit (s := ⟨2, ![2560, C]⟩) (off 1) ![8, C] (inb 1), w 1⟩,
      ⟨Rect.unit (s := ⟨2, ![2560, C]⟩) (off 0) ![8, C] (inb 0), w 0⟩] ++ L)) y
      = v.read Val (v.writes Val f L) y := by
  simp only [List.cons_append, List.nil_append]
  have hg : ∀ g : Fin 4, (y (0 : Fin 2)).val < 32 * n + 8 * g.val ∨ 32 * n + 8 * g.val + 8 ≤ (y (0 : Fin 2)).val :=
    fun g => by have := g.isLt; omega
  rw [View.read_writes_cons_rows_of_not_mem v f (inb 3) (w 3) _ y (hoff 3) rfl (hg 3),
    View.read_writes_cons_rows_of_not_mem v f (inb 2) (w 2) _ y (hoff 2) rfl (hg 2),
    View.read_writes_cons_rows_of_not_mem v f (inb 1) (w 1) _ y (hoff 1) rfl (hg 1),
    View.read_writes_cons_rows_of_not_mem v f (inb 0) (w 0) _ y (hoff 0) rfl (hg 0)]

theorem trips_eq : k1_t1_loop.trips = 80 := by decide +kernel

section Loop

variable {F : FTy → Type} [FloatOps F]

variable (𝒱 : Variants) (c : Dev nD) (bd : Option 𝒱.V) (i : grid1.Coords) (arg1 : Memref sig .tc .vmem S320x64x128 .bf16) (harg1 : arg1.IsWhole) (arg2 : Memref sig .tc .vmem S320x64x128 .f32) (harg2 : arg2.IsWhole) (arg3 : Memref sig .tc .vmem S4x96x512 .i8) (harg3 : arg3.IsWhole) (arg4 : Memref sig .tc .vmem S4x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2560x512 .bf16) (harg7 : arg7.IsWhole) (arg8 : Memref sig .tc .vmem S2560x128 .f32) (harg8 : arg8.IsWhole) (v2 : FVec F S96x512 .bf16) (v5 : FVec F S96x512 .bf16) (v8 : FVec F S96x512 .bf16) (v11 : FVec F S96x512 .bf16) (v28 : BitVec 32) (v29 : IVec S8x128 32) (c0_i32_14 : BitVec 32) (c1_i32_15 : BitVec 32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (G_arg7 : BufTy.Contents (Elt F) arg7.view.ty) (G_arg8 : BufTy.Contents (Elt F) arg8.view.ty)

/-- After `n` trips the rows of an earlier trip hold that trip's scores. -/
theorem scores_after (n : ℕ) (hn : n ≤ k1_t1_loop.trips) (k : Fin k1_t1_loop.trips) (hk : k.val < n) (g : Fin 4)
    (x : S8x512.Idx) (y : S2560x512.Idx)
    (h0 : (y (0 : Fin 2)).val = 32 * k.val + 8 * g.val + (x (0 : Fin 2)).val)
    (h1 : (y (1 : Fin 2)).val = (x (1 : Fin 2)).val) :
    arg7.view.read (Elt F) (arg7.view.writes (Elt F) G_arg7 (pb_k1_t1 (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 n).1) y
      = tripScore arg1 arg2 arg4 arg5 arg6 v2 v5 v8 v11 X_arg1 X_arg2 X_arg4 X_arg5 X_arg6 k g x := by
  have hx : (x (0 : Fin 2)).val < 8 := (x (0 : Fin 2)).isLt
  have hg := g.isLt
  induction n with
  | zero => omega
  | succ n ih =>
    have e := pb_k1_t1_succ (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 ⟨n, hn⟩
    rw [show (⟨n, hn⟩ : Fin k1_t1_loop.trips).val + 1 = n + 1 from rfl] at e
    rw [e, trip_scores]
    by_cases hkn : k.val = n
    · obtain rfl : k = ⟨n, hn⟩ := Fin.ext hkn
      exact read_four_of_mem arg7.view G_arg7 n (fun g => k1_off2 ⟨n, hn⟩ (BitVec.ofNat 32 g.val)) (fun g => k1_off2_eq ⟨n, hn⟩ g)
        (fun g => k1_off2_inb ⟨n, hn⟩ g) (fun g => tripScore arg1 arg2 arg4 arg5 arg6 v2 v5 v8 v11 X_arg1 X_arg2 X_arg4 X_arg5 X_arg6 ⟨n, hn⟩ g) _ y g x h0 h1
    · refine (read_four_of_not_mem arg7.view G_arg7 n (fun g => k1_off2 ⟨n, hn⟩ (BitVec.ofNat 32 g.val)) (fun g => k1_off2_eq ⟨n, hn⟩ g)
        (fun g => k1_off2_inb ⟨n, hn⟩ g) (fun g => tripScore arg1 arg2 arg4 arg5 arg6 v2 v5 v8 v11 X_arg1 X_arg2 X_arg4 X_arg5 X_arg6 ⟨n, hn⟩ g) _ y (Or.inl ?_)).trans (ih (by omega) (by omega))
      omega

/-- After `n` trips the rows of the trips still to come hold the maxima of before the loop. -/
theorem tops_before (n : ℕ) (hn : n ≤ k1_t1_loop.trips) (y : S2560x128.Idx) (h : 32 * n ≤ (y (0 : Fin 2)).val) :
    arg8.view.read (Elt F) (arg8.view.writes (Elt F) G_arg8 (pb_k1_t1 (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 n).2) y
      = arg8.view.read (Elt F) G_arg8 y := by
  induction n with
  | zero => rfl
  | succ n ih =>
    have e := pb_k1_t1_succ (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 ⟨n, hn⟩
    rw [show (⟨n, hn⟩ : Fin k1_t1_loop.trips).val + 1 = n + 1 from rfl] at e
    rw [e, trip_tops]
    exact (read_four_of_not_mem arg8.view G_arg8 n (fun g => k1_off3 ⟨n, hn⟩ (BitVec.ofNat 32 g.val)) (fun g => k1_off3_eq ⟨n, hn⟩ g)
        (fun g => k1_off3_inb ⟨n, hn⟩ g) (fun g => tripRaised arg1 arg2 arg4 arg5 arg6 v2 v5 v8 v11 v28 v29 X_arg1 X_arg2 X_arg4 X_arg5 X_arg6 ⟨n, hn⟩ g (oldTop arg8 ⟨n, hn⟩ _ g)) _ y (Or.inr (by omega))).trans (ih (by omega) (by omega))

/-- After `n` trips the rows of an earlier trip hold the maxima of before the loop raised by that trip. -/
theorem tops_after (n : ℕ) (hn : n ≤ k1_t1_loop.trips) (k : Fin k1_t1_loop.trips) (hk : k.val < n) (g : Fin 4)
    (x : S8x128.Idx) (y : S2560x128.Idx)
    (h0 : (y (0 : Fin 2)).val = 32 * k.val + 8 * g.val + (x (0 : Fin 2)).val)
    (h1 : (y (1 : Fin 2)).val = (x (1 : Fin 2)).val) :
    arg8.view.read (Elt F) (arg8.view.writes (Elt F) G_arg8 (pb_k1_t1 (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 n).2) y
      = tripRaised arg1 arg2 arg4 arg5 arg6 v2 v5 v8 v11 v28 v29 X_arg1 X_arg2 X_arg4 X_arg5 X_arg6 k g (oldTop arg8 k G_arg8 g) x := by
  have hx : (x (0 : Fin 2)).val < 8 := (x (0 : Fin 2)).isLt
  have hg := g.isLt
  induction n with
  | zero => omega
  | succ n ih =>
    have e := pb_k1_t1_succ (F := F) 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 ⟨n, hn⟩
    rw [show (⟨n, hn⟩ : Fin k1_t1_loop.trips).val + 1 = n + 1 from rfl] at e
    rw [e, trip_tops]
    by_cases hkn : k.val = n
    · obtain rfl : k = ⟨n, hn⟩ := Fin.ext hkn
      refine (read_four_of_mem arg8.view G_arg8 n (fun g => k1_off3 ⟨n, hn⟩ (BitVec.ofNat 32 g.val)) (fun g => k1_off3_eq ⟨n, hn⟩ g)
        (fun g => k1_off3_inb ⟨n, hn⟩ g) (fun g => tripRaised arg1 arg2 arg4 arg5 arg6 v2 v5 v8 v11 v28 v29 X_arg1 X_arg2 X_arg4 X_arg5 X_arg6 ⟨n, hn⟩ g (oldTop arg8 ⟨n, hn⟩ _ g)) _ y g x h0 h1).trans ?_
      refine congrFun (congrArg (tripRaised arg1 arg2 arg4 arg5 arg6 v2 v5 v8 v11 v28 v29 X_arg1 X_arg2 X_arg4 X_arg5 X_arg6 ⟨n, hn⟩ g) (funext fun z => ?_)) x
      show arg8.view.read (Elt F) _ _ = arg8.view.read (Elt F) _ _
      refine tops_before 𝒱 c bd i arg1 harg1 arg2 harg2 arg3 harg3 arg4 harg4 arg5 harg5 arg6 harg6 arg7 harg7 arg8 harg8 v2 v5 v8 v11 v28 v29 c0_i32_14 c1_i32_15 X_arg1 X_arg2 X_arg4 X_arg5 X_arg6 G_arg7 G_arg8 n (by omega) _ ?_
      show 32 * n ≤ k1_off3 ⟨n, hn⟩ (BitVec.ofNat 32 g.val) 0 + 1 * (z (0 : Fin 2)).val
      rw [k1_off3_eq ⟨n, hn⟩ g]
      show 32 * n ≤ 32 * n + 8 * g.val + 1 * (z (0 : Fin 2)).val
      omega
    · refine (read_four_of_not_mem arg8.view G_arg8 n (fun g => k1_off3 ⟨n, hn⟩ (BitVec.ofNat 32 g.val)) (fun g => k1_off3_eq ⟨n, hn⟩ g)
        (fun g => k1_off3_inb ⟨n, hn⟩ g) (fun g => tripRaised arg1 arg2 arg4 arg5 arg6 v2 v5 v8 v11 v28 v29 X_arg1 X_arg2 X_arg4 X_arg5 X_arg6 ⟨n, hn⟩ g (oldTop arg8 ⟨n, hn⟩ _ g)) _ y (Or.inl ?_)).trans (ih (by omega) (by omega))
      omega

end Loop

end Cert.Kernel.Score

end
-- ==== Proof.Machine.ScoreRun.lean ====
module

public import proofs.«01_k».proof.Proof.Gen.Kernel.Launch
public import proofs.«01_k».proof.Proof.Machine.ScoreLoop
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

/-! One point of the second call of the kernel (the scores): what a run of its body leaves in the block of scores
and in the block maxima, as functions of the blocks it is called on. -/

namespace Cert.Kernel.Score

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Tile

variable (x0 : Vec F S320x64x128 .bf16) (x1 : Vec F S320x64x128 .f32) (x2 : Vec F S4x96x512 .i8) (x3 : Vec F S4x512 .f32) (x4 : Vec F S1x512 .f32) (x5 : Vec F S1x512 .f32)

/-- The four users' code rows of trip `k`. -/
def rowsOf (k : Fin k1_t1_loop.trips) : Vec F S4x64x128 .bf16 :=
  fun z => x0 ((Rect.unit (s := S320x64x128) (k1_off1 k) S4x64x128.size (k1_off1_inb k)).toLoadRect.idx z)

/-- The four users' gains of trip `k`. -/
def gainsOf (k : Fin k1_t1_loop.trips) : Vec F S4x64x128 .f32 :=
  fun z => x1 ((Rect.unit (s := S320x64x128) (k1_off1 k) S4x64x128.size (k1_off1_inb k)).toLoadRect.idx z)

theorem inb_codes (k : Fin 4) :
    ∀ a, (![k.val, 0, 0] : Fin 3 → ℕ) a + S1x96x512.size a ≤ S4x96x512.size a := by
  revert k; decide +kernel

/-- The `k`-th code block of the items. -/
def codesOf (k : Fin 4) : Vec F S1x96x512 .i8 :=
  fun z => x2 ((Rect.unit (s := S4x96x512) ![k.val, 0, 0] S1x96x512.size (inb_codes k)).toLoadRect.idx z)

/-- The four code matrices of the items. -/
def matsOf : Fin 4 → FVec F S96x512 .bf16 :=
  mats (k1_pay1112 (codesOf x2 0)) (k1_pay1113 (codesOf x2 1)) (k1_pay1114 (codesOf x2 2)) (k1_pay1115 (codesOf x2 3))

/-- The items' scale rows. -/
def scalesOf (kk cc : Fin 4) : Vec F S1x128 .f32 :=
  fun z => x3 ((Rect.unit (s := S4x512) ![kk.val, 128 * cc.val] S1x128.size (inb_scale kk cc)).toLoadRect.idx z)

/-- The lane columns of a one-row block. -/
def lanesOf (x : Vec F S1x512 .f32) (cc : Fin 4) : Vec F S1x128 .f32 :=
  fun z => x ((Rect.unit (s := S1x512) ![0, 128 * cc.val] S1x128.size (inb_lane cc)).toLoadRect.idx z)

/-- The trip and the user block of a row. -/
def tripOf {C : ℕ} (y : (⟨2, ![2560, C]⟩ : Shape).Idx) : Fin k1_t1_loop.trips :=
  ⟨(y (0 : Fin 2)).val / 32, by
    have h : (y (0 : Fin 2)).val < 2560 := (y (0 : Fin 2)).isLt
    rw [trips_eq]; omega⟩

def groupOf {C : ℕ} (y : (⟨2, ![2560, C]⟩ : Shape).Idx) : Fin 4 :=
  ⟨(y (0 : Fin 2)).val % 32 / 8, by omega⟩

/-- The place of a row in its user block. -/
def withinOf {C : ℕ} (y : (⟨2, ![2560, C]⟩ : Shape).Idx) : (⟨2, ![8, C]⟩ : Shape).Idx :=
  fun a => match a with
    | ⟨0, _⟩ => ⟨(y (0 : Fin 2)).val % 8, by show _ < 8; omega⟩
    | ⟨1, _⟩ => ⟨(y (1 : Fin 2)).val, (y (1 : Fin 2)).isLt⟩

/-- The block of scores the body leaves. -/
def scoreTile : Vec F S2560x512 .bf16 := fun y =>
  rows (matsOf x2) (rowsOf x0 (tripOf y)) (gainsOf x1 (tripOf y)) (scalesOf x3) (lanesOf x5) (lanesOf x4) (groupOf y)
    (withinOf y)

/-- The rows of the block maxima a user block finds. -/
def oldOf (x7 : Vec F S2560x128 .f32) (k : Fin k1_t1_loop.trips) (g : Fin 4) : Vec F S8x128 .f32 :=
  fun z => x7 ((Rect.unit (s := S2560x128) (k1_off3 k (BitVec.ofNat 32 g.val)) S8x128.size (k1_off3_inb k g)).toLoadRect.idx z)

/-- The block maxima the body leaves, over those it finds. -/
def topTile (i : BitVec 32) (x7 : Vec F S2560x128 .f32) : Vec F S2560x128 .f32 := fun y =>
  raised (matsOf x2) (rowsOf x0 (tripOf y)) (gainsOf x1 (tripOf y)) (scalesOf x3) (lanesOf x5) (lanesOf x4)
    i (iota .tc S8x128 32 [1] iota_S8x128_d1_w32) (groupOf y) (oldOf x7 (tripOf y) (groupOf y)) (withinOf y)

end Tile

/-- The item block of a tile: half the tile's number, rounded down. -/
def blockOf (i : grid1.Coords) : BitVec 32 :=
  Scalar.select (Scalar.andi (Scalar.cmpi .ne
        (Scalar.subi (Scalar.extui (Scalar.cmpi .sgt (BitVec.ofNat 32 (i 0).val) 0#32)) (Scalar.extui (Scalar.cmpi .slt (BitVec.ofNat 32 (i 0).val) 0#32)))
        (Scalar.subi (Scalar.extui (Scalar.cmpi .sgt 2#32 0#32)) (Scalar.extui (Scalar.cmpi .slt 2#32 0#32))))
      (Scalar.cmpi .ne (Scalar.remsi (BitVec.ofNat 32 (i 0).val) 2#32) 0#32))
    (Scalar.subi (Scalar.divsi (BitVec.ofNat 32 (i 0).val) 2#32) 1#32) (Scalar.divsi (BitVec.ofNat 32 (i 0).val) 2#32)

/-- The condition under which the body fills the block maxima: the first tile. -/
abbrev cond1_0 (i : grid1.Coords) : Prop := (Scalar.cmpi .ne (Scalar.extui (Scalar.cmpi .eq (BitVec.ofNat 32 (i 0).val) 0#32)) 0#32) = 1#1

/-- It holds at the first point only. -/
theorem hcond1_0 : ∀ t : Fin cfg1.N, cond1_0 (grid1.coords t) ↔ t.val % 144 = 0 :=
  (fun t => by
    have ht : t.val < 144 := Nat.lt_of_lt_of_eq t.isLt N_1
    have e0 : (grid1.coords t 0).val = t.val / 1 % 144 := Pipeline.Grid.coords_val t 0 (by decide) rfl
    simp only [cond1_0, e0]
    word_cmp
   : ∀ t : Fin grid1.N, cond1_0 (grid1.coords t) ↔ t.val % 144 = 0)

theorem readAt_unread {sp : Space} {s : Shape} {e : EltTy} (a : Memref sig .tc sp s e) (h : a.IsWhole) (x : s.Idx → Elt F e)
    (r : LoadRect s) : View.readAt (Elt F) a.view r (h.unread x) = fun z => x (r.idx z) :=
  funext fun z => congrFun (h.read_unread x) _

theorem rows_congr {W W' : Fin 4 → FVec F S96x512 .bf16} {L L' : Vec F S4x64x128 .bf16} {G G' : Vec F S4x64x128 .f32}
    {Sc Sc' : Fin 4 → Fin 4 → Vec F S1x128 .f32} {Va Va' Ba Ba' : Fin 4 → Vec F S1x128 .f32}
    (hW : W = W') (hL : L = L') (hG : G = G') (hS : Sc = Sc') (hV : Va = Va') (hB : Ba = Ba') (g : Fin 4) :
    rows W L G Sc Va Ba g = rows W' L' G' Sc' Va' Ba' g := by
  subst hW hL hG hS hV hB; rfl

theorem raised_congr {W W' : Fin 4 → FVec F S96x512 .bf16} {L L' : Vec F S4x64x128 .bf16} {G G' : Vec F S4x64x128 .f32}
    {Sc Sc' : Fin 4 → Fin 4 → Vec F S1x128 .f32} {Va Va' Ba Ba' : Fin 4 → Vec F S1x128 .f32}
    (hW : W = W') (hL : L = L') (hG : G = G') (hS : Sc = Sc') (hV : Va = Va') (hB : Ba = Ba')
    (b : BitVec 32) (l : IVec S8x128 32) (g : Fin 4) (old : Vec F S8x128 .f32) :
    raised W L G Sc Va Ba b l g old = raised W' L' G' Sc' Va' Ba' b l g old := by
  subst hW hL hG hS hV hB; rfl

theorem mats_read (arg3 : Memref sig .tc .vmem S4x96x512 .i8) (harg3 : arg3.IsWhole) (x2 : Vec F S4x96x512 .i8) :
    mats (k1_pay1112 (View.readAt (Elt F) arg3.view (Rect.unit (s := S4x96x512) ![0, 0, 0] S1x96x512.size inb_S4x96x512_S1x96x512_0_0_0).toLoadRect (harg3.unread x2))) (k1_pay1113 (View.readAt (Elt F) arg3.view (Rect.unit (s := S4x96x512) ![1, 0, 0] S1x96x512.size inb_S4x96x512_S1x96x512_1_0_0).toLoadRect (harg3.unread x2))) (k1_pay1114 (View.readAt (Elt F) arg3.view (Rect.unit (s := S4x96x512) ![2, 0, 0] S1x96x512.size inb_S4x96x512_S1x96x512_2_0_0).toLoadRect (harg3.unread x2))) (k1_pay1115 (View.readAt (Elt F) arg3.view (Rect.unit (s := S4x96x512) ![3, 0, 0] S1x96x512.size inb_S4x96x512_S1x96x512_3_0_0).toLoadRect (harg3.unread x2))) = matsOf x2 := by
  simp only [readAt_unread]; rfl

section Run

variable (c : Dev nD) (i : grid1.Coords) (arg1 : Memref sig .tc .vmem S320x64x128 .bf16) (harg1 : arg1.IsWhole) (arg2 : Memref sig .tc .vmem S320x64x128 .f32) (harg2 : arg2.IsWhole) (arg3 : Memref sig .tc .vmem S4x96x512 .i8) (harg3 : arg3.IsWhole) (arg4 : Memref sig .tc .vmem S4x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S2560x512 .bf16) (harg7 : arg7.IsWhole) (arg8 : Memref sig .tc .vmem S2560x128 .f32) (harg8 : arg8.IsWhole) (x0 : Vec F S320x64x128 .bf16) (x1 : Vec F S320x64x128 .f32) (x2 : Vec F S4x96x512 .i8) (x3 : Vec F S4x512 .f32) (x4 : Vec F S1x512 .f32) (x5 : Vec F S1x512 .f32)

/-- After all the trips the block of scores holds `scoreTile`. -/
theorem scores_read (f7 : BufTy.Contents (Elt F) arg7.view.ty) (f8 : BufTy.Contents (Elt F) arg8.view.ty) :
    arg7.view.read (Elt F) (arg7.view.writes (Elt F) f7 (pb_k1_t1 (F := F) Variants.none c none i arg1 harg1 arg2 harg2 arg3 harg3 arg4 harg4 arg5 harg5 arg6 harg6 arg7 harg7 arg8 harg8 (k1_pay1112 (View.readAt (Elt F) arg3.view (Rect.unit (s := S4x96x512) ![0, 0, 0] S1x96x512.size inb_S4x96x512_S1x96x512_0_0_0).toLoadRect (harg3.unread x2))) (k1_pay1113 (View.readAt (Elt F) arg3.view (Rect.unit (s := S4x96x512) ![1, 0, 0] S1x96x512.size inb_S4x96x512_S1x96x512_1_0_0).toLoadRect (harg3.unread x2))) (k1_pay1114 (View.readAt (Elt F) arg3.view (Rect.unit (s := S4x96x512) ![2, 0, 0] S1x96x512.size inb_S4x96x512_S1x96x512_2_0_0).toLoadRect (harg3.unread x2))) (k1_pay1115 (View.readAt (Elt F) arg3.view (Rect.unit (s := S4x96x512) ![3, 0, 0] S1x96x512.size inb_S4x96x512_S1x96x512_3_0_0).toLoadRect (harg3.unread x2))) (blockOf i) (iota .tc S8x128 32 [1] iota_S8x128_d1_w32) 0#32 1#32 (harg1.unread x0) (harg2.unread x1) (harg4.unread x3) (harg5.unread x4) (harg6.unread x5) f7 f8 k1_t1_loop.trips).1) = scoreTile x0 x1 x2 x3 x4 x5 := by
  funext y
  have hy : (y (0 : Fin 2)).val < 2560 := (y (0 : Fin 2)).isLt
  refine (scores_after Variants.none c none i arg1 harg1 arg2 harg2 arg3 harg3 arg4 harg4 arg5 harg5 arg6 harg6 arg7 harg7 arg8 harg8 _ _ _ _ _ _ _ _ _ _ _ _ _ f7 f8 k1_t1_loop.trips le_rfl (tripOf y) (tripOf y).isLt
    (groupOf y) (withinOf y) y ?_ rfl).trans ?_
  · show (y (0 : Fin 2)).val = 32 * ((y (0 : Fin 2)).val / 32) + 8 * ((y (0 : Fin 2)).val % 32 / 8) + (y (0 : Fin 2)).val % 8
    omega
  · exact congrFun (rows_congr (mats_read arg3 harg3 x2) (readAt_unread arg1 harg1 x0 _) (readAt_unread arg2 harg2 x1 _)
      (funext fun _ => funext fun _ => readAt_unread arg4 harg4 x3 _) (funext fun _ => readAt_unread arg6 harg6 x5 _)
      (funext fun _ => readAt_unread arg5 harg5 x4 _) _) _

/-- After all the trips the block maxima hold `topTile` over what they held before the loop. -/
theorem tops_read (f7 : BufTy.Contents (Elt F) arg7.view.ty) (f8 : BufTy.Contents (Elt F) arg8.view.ty)
    (x7 : Vec F S2560x128 .f32) (h : arg8.view.read (Elt F) f8 = x7) :
    arg8.view.read (Elt F) (arg8.view.writes (Elt F) f8 (pb_k1_t1 (F := F) Variants.none c none i arg1 harg1 arg2 harg2 arg3 harg3 arg4 harg4 arg5 harg5 arg6 harg6 arg7 harg7 arg8 harg8 (k1_pay1112 (View.readAt (Elt F) arg3.view (Rect.unit (s := S4x96x512) ![0, 0, 0] S1x96x512.size inb_S4x96x512_S1x96x512_0_0_0).toLoadRect (harg3.unread x2))) (k1_pay1113 (View.readAt (Elt F) arg3.view (Rect.unit (s := S4x96x512) ![1, 0, 0] S1x96x512.size inb_S4x96x512_S1x96x512_1_0_0).toLoadRect (harg3.unread x2))) (k1_pay1114 (View.readAt (Elt F) arg3.view (Rect.unit (s := S4x96x512) ![2, 0, 0] S1x96x512.size inb_S4x96x512_S1x96x512_2_0_0).toLoadRect (harg3.unread x2))) (k1_pay1115 (View.readAt (Elt F) arg3.view (Rect.unit (s := S4x96x512) ![3, 0, 0] S1x96x512.size inb_S4x96x512_S1x96x512_3_0_0).toLoadRect (harg3.unread x2))) (blockOf i) (iota .tc S8x128 32 [1] iota_S8x128_d1_w32) 0#32 1#32 (harg1.unread x0) (harg2.unread x1) (harg4.unread x3) (harg5.unread x4) (harg6.unread x5) f7 f8 k1_t1_loop.trips).2) = topTile x0 x1 x2 x3 x4 x5 (blockOf i) x7 := by
  subst h
  funext y
  have hy : (y (0 : Fin 2)).val < 2560 := (y (0 : Fin 2)).isLt
  refine (tops_after Variants.none c none i arg1 harg1 arg2 harg2 arg3 harg3 arg4 harg4 arg5 harg5 arg6 harg6 arg7 harg7 arg8 harg8 _ _ _ _ _ _ _ _ _ _ _ _ _ f7 f8 k1_t1_loop.trips le_rfl (tripOf y) (tripOf y).isLt
    (groupOf y) (withinOf y) y ?_ rfl).trans ?_
  · show (y (0 : Fin 2)).val = 32 * ((y (0 : Fin 2)).val / 32) + 8 * ((y (0 : Fin 2)).val % 32 / 8) + (y (0 : Fin 2)).val % 8
    omega
  · exact congrFun (raised_congr (mats_read arg3 harg3 x2) (readAt_unread arg1 harg1 x0 _) (readAt_unread arg2 harg2 x1 _)
      (funext fun _ => funext fun _ => readAt_unread arg4 harg4 x3 _) (funext fun _ => readAt_unread arg6 harg6 x5 _)
      (funext fun _ => readAt_unread arg5 harg5 x4 _) _ _ _ _) _

/-- A store over the whole block reads back as what was stored. -/
theorem read_fill (v : View sig .tc .vmem S2560x128 .f32) (f : BufTy.Contents (Elt F) v.ty) (w : Vec F S2560x128 .f32) :
    v.read (Elt F) (v.writes (Elt F) f [⟨Rect.unit (s := S2560x128) ![0, 0] S2560x128.size inb_S2560x128_S2560x128_0_0, w⟩]) = w := by
  funext y
  exact View.read_writes_cons_rows_of_mem v f inb_S2560x128_S2560x128_0_0 w [] y y (o := 0) rfl (by simp) rfl

-- (the run's proof term is large: checking it walks past the default budget)
set_option maxHeartbeats 2000000 in
/-- The body at the first tile: the block maxima start from minus infinity. -/
theorem run_A (hc0 : cond1_0 i)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (scoreTile x0 x1 x2 x3 x4 x5) ∗ owns (c : Thread nD τ) arg8 fullShare (topTile x0 x1 x2 x3 x4 x5 (blockOf i) (k1_pay1116 (F := F)))) -∗ K ⟨⟩))
      ⊢ wp frame (wpE (defs₀ (F := F)) Variants.none c none) E (cc1_score i arg1 harg1 arg2 harg2 arg3 harg3 arg4 harg4 arg5 harg5 arg6 harg6 arg7 harg7 arg8 harg8) K := by
  simp only [cc1_score_eq_skeleton]; unfold cc1_score_skel
  simp only [k1_part102_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    exact scores_read c i arg1 harg1 arg2 harg2 arg3 harg3 arg4 harg4 arg5 harg5 arg6 harg6 arg7 harg7 arg8 harg8 x0 x1 x2 x3 x4 x5 _ _
  iexists _; isplitr; swap; · iexact H7
  ipureintro
  rw [View.writes_append]
  exact tops_read c i arg1 harg1 arg2 harg2 arg3 harg3 arg4 harg4 arg5 harg5 arg6 harg6 arg7 harg7 arg8 harg8 x0 x1 x2 x3 x4 x5 _ _ _ (read_fill arg8.view _ _)

-- (the run's proof term is large: checking it walks past the default budget)
set_option maxHeartbeats 2000000 in
/-- The body at a later tile: the block maxima start from what the earlier tiles left. -/
theorem run_B (hc0 : ¬ cond1_0 i) (x7 : Vec F S2560x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (scoreTile x0 x1 x2 x3 x4 x5) ∗ owns (c : Thread nD τ) arg8 fullShare (topTile x0 x1 x2 x3 x4 x5 (blockOf i) x7)) -∗ K ⟨⟩))
      ⊢ wp frame (wpE (defs₀ (F := F)) Variants.none c none) E (cc1_score i arg1 harg1 arg2 harg2 arg3 harg3 arg4 harg4 arg5 harg5 arg6 harg6 arg7 harg7 arg8 harg8) K := by
  simp only [cc1_score_eq_skeleton]; unfold cc1_score_skel
  simp only [k1_part102_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    exact scores_read c i arg1 harg1 arg2 harg2 arg3 harg3 arg4 harg4 arg5 harg5 arg6 harg6 arg7 harg7 arg8 harg8 x0 x1 x2 x3 x4 x5 _ _
  iexists _; isplitr; swap; · iexact H7
  ipureintro

  exact tops_read c i arg1 harg1 arg2 harg2 arg3 harg3 arg4 harg4 arg5 harg5 arg6 harg6 arg7 harg7 arg8 harg8 x0 x1 x2 x3 x4 x5 _ _ _ hf7

end Run

end Cert.Kernel.Score

end
-- ==== Proof.Machine.ScoreRegion.lean ====
module

public import proofs.«01_k».proof.Proof.Gen.Kernel.Launch
public import proofs.«01_k».proof.Proof.Machine.ScoreRun
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

/-! The second call of the kernel (the scores) as a region of @main: what each point leaves in its output blocks, as
a function of the arrays the region is entered with, and the obligation of its body. The block of scores depends on
the point's blocks only; the block maxima are carried from tile to tile. -/

namespace Cert.Kernel.Score

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block maxima are written back at the last point only. -/
theorem flush1_7 : ∀ t : Fin cfg1.N, (cfg1.win 7).flush t = true ↔ t.val % 144 = 143 :=
  (fun t => Pipeline.Window.flush_const win1_7 rfl (fun _ _ => rfl) (n := 144) (by decide) rfl t : ∀ t : Fin grid1.N, win1_7.flush t = true ↔ t.val % 144 = 143)

/-- The kernel body at point `t`, on what the pipeline calls it with. -/
abbrev bodyAt1 (t : Fin cfg1.N) : Prog (TpuEff nD τ sig (Elt F) Λ₀ .tc) PUnit :=
  cc1_score (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
abbrev ms1_0 (t : Fin cfg1.N) : Memref sig .tc .vmem S320x64x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S320x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x96x512 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2560x512 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2560x128 .f32 := win1_7.stage (cfg1.slots t 7)
abbrev hs1_7 (t : Fin cfg1.N) : (ms1_7 t).IsWhole := hstage1_7 ((cfg1.slots t 7).cast nbuf1_7)

/-- The block of scores after the body at point `t`. -/
def scoresAt (c : Dev nD) (t : Fin cfg1.N) : Vec F S2560x512 .bf16 := scoreTile (iblk V c 0 t) (iblk V c 1 t) (iblk V c 2 t) (iblk V c 3 t) (iblk V c 4 t) (iblk V c 5 t)

/-- The block maxima point `t` leaves over what it finds. -/
def raiseAt (c : Dev nD) (t : Fin cfg1.N) (x7 : Vec F S2560x128 .f32) : Vec F S2560x128 .f32 :=
  topTile (iblk V c 0 t) (iblk V c 1 t) (iblk V c 2 t) (iblk V c 3 t) (iblk V c 4 t) (iblk V c 5 t) (blockOf (grid1.coords t)) x7

/-- The block maxima before point `n`: minus infinity, then raised by one point after the other. -/
def topsBefore (c : Dev nD) : ℕ → Vec F S2560x128 .f32
  | 0 => k1_pay1116
  | n + 1 => if h : n < cfg1.N then raiseAt V c ⟨n, h⟩ (topsBefore c n) else topsBefore c n

/-- The proof data of the region: the arrays as it finds them, after the body each input's buffer at its block, the
    scores at `scoresAt` and the block maxima raised. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => scoresAt V c t
    | ⟨7, _⟩ => topsBefore V c (t.val + 1)
  Φ _ := Pipeline.ΦA spec1 c
  q _ := fullShare
  owed _ := 0

theorem A_eq (c : Dev nD) (w : Fin cfg1.W) : (dat V c).A w = V c (Pipeline.arrRef spec1 w) := by
  dsimp only [dat]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = scoresAt V c t := by dsimp only [dat]
theorem after1_7 (c : Dev nD) (t : Fin cfg1.N) : (dat V c).after 7 t = topsBefore V c (t.val + 1) := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d

/-- After the first point the block maxima are found as the point before left them. -/
theorem before1_7 (c : Dev nD) (t : Fin cfg1.N) (ht : t.val ≠ 0) (d) : (dat V c).before 7 t d = topsBefore V c t.val := by
  have hN : t.val < 144 := lt_of_lt_of_eq t.isLt (show cfg1.N = 144 from N_1)
  rw [(dat V c).before_of_pos 7 t ht ((cfg1.win 7).fetch_out rfl t) d, if_neg]
  · show (dat V c).after 7 _ = _
    rw [after1_7]
    show topsBefore V c (t.val - 1 + 1) = _
    rw [Nat.sub_add_cancel (Nat.one_le_iff_ne_zero.mpr ht)]
  · rw [flush1_7]
    show ¬ (t.val - 1) % 144 = 143
    omega

theorem topsBefore_succ (c : Dev nD) (t : Fin cfg1.N) :
    topsBefore V c (t.val + 1) = raiseAt V c t (topsBefore V c t.val) := by
  rw [topsBefore, dif_pos t.isLt]

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).Φ t.succ = (dat V c).Φ t.castSucc from rfl,
    show (dat V c).owesAt () t.succ = (dat V c).owesAt () t.castSucc from rfl,
    after1_0, after1_1, after1_2, after1_3, after1_4, after1_5, after1_6, after1_7, topsBefore_succ]
  unfold scoresAt raiseAt
  have hN : t.val < 144 := lt_of_lt_of_eq t.isLt (show cfg1.N = 144 from N_1)
  by_cases h0 : t.val % 144 = 0
  · rw [show t.val = 0 by omega]
    unfold topsBefore
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c (grid1.coords t) _ _ _ _ _ _ _ _ _ _ _ _ _ _ _ _ (iblk V c 0 t) (iblk V c 1 t) (iblk V c 2 t) (iblk V c 3 t) (iblk V c 4 t) (iblk V c 5 t) ((hcond1_0 t).2 h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

  · have ht : t.val ≠ 0 := by omega
    simp only [before1_7 V c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_B c (grid1.coords t) _ _ _ _ _ _ _ _ _ _ _ _ _ _ _ _ (iblk V c 0 t) (iblk V c 1 t) (iblk V c 2 t) (iblk V c 3 t) (iblk V c 4 t) (iblk V c 5 t) (fun h => h0 ((hcond1_0 t).1 h)) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.Kernel.Score

end
-- ==== Proof.Machine.ShowRegion.lean ====
module

public import proofs.«01_k».proof.Proof.Gen.Kernel.Launch
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

/-! The third call of the kernel (the shown items) as a region of @main: what each point leaves in its output
block, as a function of the arrays the region is entered with, and the obligation of its body. -/

namespace Cert.Kernel.Show

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- The kernel body at point `t`, on what the pipeline calls it with (`defs₀`'s row at the slots). -/
abbrev bodyAt2 (t : Fin cfg2.N) : Prog (TpuEff nD τ sig (Elt F) Λ₀ .tc) PUnit :=
  cc2_show (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 5, through which its contents are stated (`View.read_writes_of_cover`: the
    choice does not matter). -/
abbrev VO2_5 : View sig .tc .vmem S72x32x256 .f32 := (Memref.whole cc2_stg5_0 : Memref sig .tc .vmem S72x32x256 .f32).view
/-- Each window's current staging memref at point `t`, spelled as the pipeline passes it (`bodyAt2`), and its wholeness. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S288x96 .i8 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S288x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x96x256 .i8 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S8x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S72x32x256 .f32 := win2_5.stage (cfg2.slots t 5)
abbrev hs2_5 (t : Fin cfg2.N) : (ms2_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg2 : Memref sig .tc .smem S1 .f32) (harg2 : arg2.IsWhole) (arg3 : Memref sig .tc .vmem S288x96 .i8) (harg3 : arg3.IsWhole) (arg4 : Memref sig .tc .vmem S288x128 .f32) (harg4 : arg4.IsWhole) (arg5 : Memref sig .tc .vmem S8x96x256 .i8) (harg5 : arg5.IsWhole) (arg6 : Memref sig .tc .vmem S8x256 .f32) (harg6 : arg6.IsWhole) (arg7 : Memref sig .tc .vmem S72x32x256 .f32) (harg7 : arg7.IsWhole)
    (x0 : Vec F S1 .f32) (x1 : Vec F S288x96 .i8) (x2 : Vec F S288x128 .f32) (x3 : Vec F S8x96x256 .i8) (x4 : Vec F S8x256 .f32) :
    { L5 : List (View.Piece (Elt F) S72x32x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc2_show i arg2 harg2 arg3 harg3 arg4 harg4 arg5 harg5 arg6 harg6 arg7 harg7) K } := by
  refine ⟨?_, fun E K => ?run⟩
  case run =>
    simp only [cc2_show_eq_skeleton]; unfold cc2_show_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

/-- The run's pieces for output 5 tile its block (8 stores of `S72x4x256`, checked by the kernel's evaluation: Lib/Ring.lean `Piece.tiledL`, linear in the pieces, through a loop's `@[irreducible]` trip theorem too), so they cover it. -/
theorem cover2_A_5 (c : Dev nD) (i : grid2.Coords) (arg2 : Memref sig .tc .smem S1 .f32) (harg2 : arg2.IsWhole) (arg3 : Memref sig .tc .vmem S288x96 .i8) (harg3 : arg3.IsWhole) (arg4 : Memref sig .tc .vmem S288x128 .f32) (harg4 : arg4.IsWhole) (arg5 : Memref sig .tc .vmem S8x96x256 .i8) (harg5 : arg5.IsWhole) (arg6 : Memref sig .tc .vmem S8x256 .f32) (harg6 : arg6.IsWhole) (arg7 : Memref sig .tc .vmem S72x32x256 .f32) (harg7 : arg7.IsWhole)
    (x0 : Vec F S1 .f32) (x1 : Vec F S288x96 .i8) (x2 : Vec F S288x128 .f32) (x3 : Vec F S8x96x256 .i8) (x4 : Vec F S8x256 .f32) (y : S72x32x256.Idx) :
    ∃ pc ∈ (kernelRun2_A c i arg2 harg2 arg3 harg3 arg4 harg4 arg5 harg5 arg6 harg6 arg7 harg7 x0 x1 x2 x3 x4).1, y ∈ pc.1.set :=
  View.cover_of_tiledL (kernelRun2_A c i arg2 harg2 arg3 harg3 arg4 harg4 arg5 harg5 arg6 harg6 arg7 harg7 x0 x1 x2 x3 x4).1 S72x4x256.size (by sl_kernel_rfl) y

/-- What the run leaves in output 5's staging buffer: its pieces read back over junk. -/
def out2_A_5 (c : Dev nD) (i : grid2.Coords) (arg2 : Memref sig .tc .smem S1 .f32) (harg2 : arg2.IsWhole) (arg3 : Memref sig .tc .vmem S288x96 .i8) (harg3 : arg3.IsWhole) (arg4 : Memref sig .tc .vmem S288x128 .f32) (harg4 : arg4.IsWhole) (arg5 : Memref sig .tc .vmem S8x96x256 .i8) (harg5 : arg5.IsWhole) (arg6 : Memref sig .tc .vmem S8x256 .f32) (harg6 : arg6.IsWhole) (arg7 : Memref sig .tc .vmem S72x32x256 .f32) (harg7 : arg7.IsWhole)
    (x0 : Vec F S1 .f32) (x1 : Vec F S288x96 .i8) (x2 : Vec F S288x128 .f32) (x3 : Vec F S8x96x256 .i8) (x4 : Vec F S8x256 .f32) : Vec F S72x32x256 .f32 :=
  VO2_5.read (Elt F) (VO2_5.writes (Elt F) VO2_5.junk (kernelRun2_A c i arg2 harg2 arg3 harg3 arg4 harg4 arg5 harg5 arg6 harg6 arg7 harg7 x0 x1 x2 x3 x4).1)

/-! ## What the outputs hold after each point -/

/-- What the outputs' staging buffers hold after the body at point `t`: the run's contents at
    the point's memrefs and input blocks. -/
def outsAt2 (c : Dev nD) (t : Fin cfg2.N) : Vec F S72x32x256 .f32 :=
  out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (iblk V c 0 t) (iblk V c 1 t) (iblk V c 2 t) (iblk V c 3 t) (iblk V c 4 t)

/-! ## The pipeline's proof data -/

/-- The proof data of the one pipeline on core `c`: the arrays as the region finds them (`V`); after the body at
    point `t` each input's buffer at its block and the outputs' at `outsAt2`; the invariant the class's
    (Lib/Pipeline/Frame.lean `ΦA`: the scoped rest and the generator register); nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt2 V c t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`). -/
theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = iblk V c 2 t := by dsimp only [dat]
theorem after2_3 (c : Dev nD) (t : Fin cfg2.N) : (dat V c).after 3 t = iblk V c 3 t := by dsimp only [dat]
theorem after2_4 (c : Dev nD) (t : Fin cfg2.N) : (dat V c).after 4 t = iblk V c 4 t := by dsimp only [dat]
theorem after2_5 (c : Dev nD) (t : Fin cfg2.N) : (dat V c).after 5 t = (outsAt2 V c t) := by dsimp only [dat]

/-- Each input's current staging buffer holds its block at every point, fetched there or not (`beforeK_W_of`). -/
theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d
theorem before2_2 (c : Dev nD) (t : Fin cfg2.N) (d) : (dat V c).before 2 t d = iblk V c 2 t :=
  before2_2_of V (dat V c) (A_eq V c 2) (after2_2 V c) t d
theorem before2_3 (c : Dev nD) (t : Fin cfg2.N) (d) : (dat V c).before 3 t d = iblk V c 3 t :=
  before2_3_of V (dat V c) (A_eq V c 3) (after2_3 V c) t d
theorem before2_4 (c : Dev nD) (t : Fin cfg2.N) (d) : (dat V c).before 4 t d = iblk V c 4 t :=
  before2_4_of V (dat V c) (A_eq V c 4) (after2_4 V c) t d

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d))
    ∗ (∃ d, owns (c : Thread nD τ) (ms2_3 t) fullShare ((dat V c).before 3 t d))
    ∗ (∃ d, owns (c : Thread nD τ) (ms2_4 t) fullShare ((dat V c).before 4 t d))
    ∗ (∃ d, owns (c : Thread nD τ) (ms2_5 t) fullShare ((dat V c).before 5 t d)))

/-- and what it returns. -/
def bodyPost (c : Dev nD) (t : Fin cfg2.N) : sProp 𝕄 :=
  iprop((dat V c).Φ t.succ ∗ (dat V c).owesAt () t.succ
    ∗ owns (c : Thread nD τ) (ms2_0 t) fullShare ((dat V c).after 0 t)
    ∗ owns (c : Thread nD τ) (ms2_1 t) fullShare ((dat V c).after 1 t)
    ∗ owns (c : Thread nD τ) (ms2_2 t) fullShare ((dat V c).after 2 t)
    ∗ owns (c : Thread nD τ) (ms2_3 t) fullShare ((dat V c).after 3 t)
    ∗ owns (c : Thread nD τ) (ms2_4 t) fullShare ((dat V c).after 4 t)
    ∗ owns (c : Thread nD τ) (ms2_5 t) fullShare ((dat V c).after 5 t))

/-- The body at any point: the inputs' memrefs hold their blocks (`before2_W`); so the
    run applies; the invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1, before2_2, before2_3, before2_4]
  rw [show (dat V c).Φ t.succ = (dat V c).Φ t.castSucc from rfl,
    show (dat V c).owesAt () t.succ = (dat V c).owesAt () t.castSucc from rfl,
    after2_0, after2_1, after2_2, after2_3, after2_4, after2_5]
  unfold outsAt2
  unfold out2_A_5
  iintro ⟨HΦ, Ho, ⟨%d0, H0⟩, ⟨%d1, H1⟩, ⟨%d2, H2⟩, ⟨%d3, H3⟩, ⟨%d4, H4⟩, ⟨%d5, H5⟩⟩
  iapply ((kernelRun2_A c (grid2.coords t) _ _ _ _ _ _ _ _ _ _ _ _ (iblk V c 0 t) (iblk V c 1 t) (iblk V c 2 t) (iblk V c 3 t) (iblk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 c _ _ _ _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.Kernel.Show

end
-- ==== Proof.Machine.Run.lean ====
module

public import proofs.«01_k».proof.Proof.Machine.QuantRegion
public import proofs.«01_k».proof.Proof.Machine.ScoreRegion
public import proofs.«01_k».proof.Proof.Machine.ShowRegion
public import proofs.«01_k».proof.Proof.Gen.Kernel.Regions
public import Idealize.ShloMosaic.Lib.Pipeline.RegionArraysS
public import Idealize.ShloMosaic.Lib.Pipeline.Frame

@[expose] public section

noncomputable section

/-! The run of the whole kernel: what each of the three calls leaves in its arrays, the three calls as segments of
@main, and the contents of every unscoped buffer at the end. -/

namespace Cert.Kernel.Run

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

variable (m : (ℓ : Loc nD τ sig) → Buf (Elt F) ℓ)

/-! ## What the calls leave -/

/-- The contents a call is entered with, read off the valuation before it. -/
abbrev atRefs (V : Dev nD → Valuation τ sig (Elt F)) (c : Dev nD) (b : Ref sig .tc) : Buf (Elt F) ((c : Thread nD τ).loc b) := V c b

/-- The first call's proof data, over the launch contents. -/
abbrev quantDat (c : Dev nD) : Dat τ (Elt F) Unit ℕ (UR sig nD τ) ℕ cfg0 c := Quant.dat (atRefs (V1 m)) c
/-- What the first call leaves. -/
def outsQuant : Outs (F := F) := fun _ r c => afterRegion (quantDat m c) (V1 m c) r
/-- The second call's proof data. -/
abbrev scoreDat (c : Dev nD) : Dat τ (Elt F) Unit ℕ (UR sig nD τ) ℕ cfg1 c := Score.dat (atRefs (V3 m (outsQuant m))) c
/-- What the first two calls leave. -/
def outsScore : Outs (F := F)
  | 4, r, c => afterRegion (scoreDat m c) (V3 m (outsQuant m) c) r
  | J, r, c => outsQuant m J r c
/-- The third call's proof data. -/
abbrev showDat (c : Dev nD) : Dat τ (Elt F) Unit ℕ (UR sig nD τ) ℕ cfg2 c := Show.dat (atRefs (V7 m (outsScore m))) c
/-- What the three calls leave. -/
def outs : Outs (F := F)
  | 8, r, c => afterRegion (showDat m c) (V7 m (outsScore m) c) r
  | J, r, c => outsScore m J r c

theorem outs_two (r : Ref sig .tc) (c : Dev nD) : outs m 2 r c = outsQuant m 2 r c := rfl
theorem outsScore_two (r : Ref sig .tc) (c : Dev nD) : outsScore m 2 r c = outsQuant m 2 r c := rfl
theorem outs_four (r : Ref sig .tc) (c : Dev nD) : outs m 4 r c = outsScore m 4 r c := rfl
theorem V3_outs (c : Dev nD) : V3 m (outs m) c = V3 m (outsQuant m) c := by
  unfold V3 V2; simp only [outs_two]
theorem V3_outsScore (c : Dev nD) : V3 m (outsScore m) c = V3 m (outsQuant m) c := by
  unfold V3 V2; simp only [outsScore_two]
theorem V7_outs (c : Dev nD) : V7 m (outs m) c = V7 m (outsScore m) c := by
  have h : V3 m (outs m) c = V3 m (outsScore m) c := (V3_outs m c).trans (V3_outsScore m c).symm
  show StableHlo.after hostOps2_2 (StableHlo.after hostOps2_1 (StableHlo.after hostOps2
    (Function.update (Function.update (V3 m (outs m) c) main_v19_0 (outsScore m 4 main_v19_0 c)) main_v19_1 (outsScore m 4 main_v19_1 c)))) = _
  rw [h]

/-- The proof data of the three calls. -/
def pdats : (p : Fin 3) → (c : Dev nD) → Dat τ (Elt F) Unit ℕ (UR sig nD τ) ℕ (cfgs p) c
  | 0 => quantDat m
  | 1 => scoreDat m
  | 2 => showDat m

/-- A buffer among the unscoped ones is a TensorCore reference. -/
theorem devRef_of_mem {b : DevRef τ sig} (hb : b ∈ Pipeline.ucRefs τ sig) : ∃ r : Ref sig .tc, b = Proc.devRef .tc r := by
  have h := (Finset.mem_filter.mp hb).1
  unfold StableHlo.tcRefs at h
  obtain ⟨r, -, h⟩ := Finset.mem_map.mp h
  exact ⟨r, h.symm⟩

/-- After the first call the buffers hold the generated valuation. -/
theorem after_quant (c : Dev nD) : ∀ b ∈ Pipeline.ucRefs τ sig, afterRegion (quantDat m c) (V1 m c) b = V2 m (outs m) c b := by
  intro b hb
  obtain ⟨r, rfl⟩ := devRef_of_mem hb
  by_cases h0 : r = main_v3_0
  · subst h0
    unfold V2; rw [Function.update_of_ne (StableHlo.devRef_ne_of_ne (by decide) : (Proc.devRef .tc main_v3_0 : DevRef τ sig) ≠ Proc.devRef .tc main_v3_3), Function.update_of_ne (StableHlo.devRef_ne_of_ne (by decide) : (Proc.devRef .tc main_v3_0 : DevRef τ sig) ≠ Proc.devRef .tc main_v3_2), Function.update_of_ne (StableHlo.devRef_ne_of_ne (by decide) : (Proc.devRef .tc main_v3_0 : DevRef τ sig) ≠ Proc.devRef .tc main_v3_1), Function.update_self]; rfl
  by_cases h1 : r = main_v3_1
  · subst h1
    unfold V2; rw [Function.update_of_ne (StableHlo.devRef_ne_of_ne (by decide) : (Proc.devRef .tc main_v3_1 : DevRef τ sig) ≠ Proc.devRef .tc main_v3_3), Function.update_of_ne (StableHlo.devRef_ne_of_ne (by decide) : (Proc.devRef .tc main_v3_1 : DevRef τ sig) ≠ Proc.devRef .tc main_v3_2), Function.update_self]; rfl
  by_cases h2 : r = main_v3_2
  · subst h2
    unfold V2; rw [Function.update_of_ne (StableHlo.devRef_ne_of_ne (by decide) : (Proc.devRef .tc main_v3_2 : DevRef τ sig) ≠ Proc.devRef .tc main_v3_3), Function.update_self]; rfl
  by_cases h3 : r = main_v3_3
  · subst h3
    unfold V2; rw [Function.update_self]; rfl
  have hn : r ∉ ([main_v3_0, main_v3_1, main_v3_2, main_v3_3] : List (Ref sig .tc)) := by
    simp only [List.mem_cons, List.not_mem_nil, _root_.or_false, not_or]
    exact ⟨h0, h1, h2, h3⟩
  refine Eq.trans ?_ (V2_of m (outs m) c r hn).symm
  exact Pipeline.afterRegion_keeps _ _ launch0.win.arr_inj (Quant.A_eq _ c) r (by
    intro w hw
    revert w
    decide +revert)

/-- After the second call the buffers hold the generated valuation. -/
theorem after_score (c : Dev nD) : ∀ b ∈ Pipeline.ucRefs τ sig, afterRegion (scoreDat m c) (V3 m (outsQuant m) c) b = V4 m (outs m) c b := by
  intro b hb
  obtain ⟨r, rfl⟩ := devRef_of_mem hb
  by_cases h0 : r = main_v19_0
  · subst h0
    unfold V4; rw [Function.update_of_ne (StableHlo.devRef_ne_of_ne (by decide) : (Proc.devRef .tc main_v19_0 : DevRef τ sig) ≠ Proc.devRef .tc main_v19_1), Function.update_self]; rfl
  by_cases h1 : r = main_v19_1
  · subst h1
    unfold V4; rw [Function.update_self]; rfl
  have hn : r ∉ ([main_v19_0, main_v19_1] : List (Ref sig .tc)) := by
    simp only [List.mem_cons, List.not_mem_nil, _root_.or_false, not_or]
    exact ⟨h0, h1⟩
  refine Eq.trans ?_ (V4_of m (outs m) c r hn).symm
  rw [V3_outs]; exact Pipeline.afterRegion_keeps _ _ launch1.win.arr_inj (Score.A_eq _ c) r (by
    intro w hw
    revert w
    decide +revert)

/-- After the third call the buffers hold the generated valuation. -/
theorem after_show (c : Dev nD) : ∀ b ∈ Pipeline.ucRefs τ sig, afterRegion (showDat m c) (V7 m (outsScore m) c) b = V8 m (outs m) c b := by
  intro b hb
  obtain ⟨r, rfl⟩ := devRef_of_mem hb
  by_cases h0 : r = main_v29
  · subst h0
    unfold V8; rw [Function.update_self]; rfl
  have hn : r ∉ ([main_v29] : List (Ref sig .tc)) := by
    simp only [List.mem_cons, List.not_mem_nil, _root_.or_false, not_or]
    exact h0
  refine Eq.trans ?_ (V8_of m (outs m) c r hn).symm
  rw [V7_outs]; exact Pipeline.afterRegion_keeps _ _ launch2.win.arr_inj (Show.A_eq _ c) r (by
    intro w hw
    revert w
    decide +revert)

-- the library theorem's implicit arguments are found by unifying its conclusion with this one, which takes unfolding
-- plain definitions in a metavariable's type
set_option backward.isDefEq.respectTransparency.types false in
/-- The run of @main, given the three regions' records: every weakly fair execution from memory `m` with zero counters
    terminates, and every final state holds in each unscoped buffer what the last valuation `V9` says, every counter at
    zero. (The generated `frame_cond` reads the arguments only; this reads every buffer.) -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => (∀ c : Dev nD,
      ∀ b ∈ Pipeline.ucRefs τ sig, r.2.mem (((c : Thread nD τ).1, b)) = V9 m outs c b)
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, hpre1 c, hpost1 c, .rfl, .rfl, hpre2 c, hpost2 c, sep_mono .rfl (hE3 c)⟩)
    (hinit := ?_) (QY := fun c s => ∀ b ∈ Pipeline.ucRefs τ sig, s.mem (((c : Thread nD τ).1, b)) = V9 m outs c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

/-! ## The calls as segments -/

/-- The TensorCores' counters are named by one index. -/
def L : GSem nD τ sig → Finset Unit := fun g => if g.1.2 = .tc then {()} else ∅
abbrev lv : GSem nD τ sig → Unit → ℕ := fun _ _ => 0
/-- No core owes anything. -/
abbrev D : Dev nD → CellTallies nD τ sig Unit := fun _ => 0
/-- What rides beside the buffers. -/
def E (c : Dev nD) : sProp 𝕄 :=
  iprop((∃ W, owes (c : Thread nD τ) (0 : CellTallies nD τ sig Unit) W) ∗ (∃ r, prngReg c r) ∗ BI.emp)

theorem cut (p : Fin 3) : Pipeline.LevelCut (pcfgs (F := F)) adm () L lv p D (fun _ => 0) where
  hι _ _ _ := by simp [L]
  hιb _ _ _ := le_refl _
  hD _ _ _ h := absurd h (lt_irrefl _)

set_option backward.isDefEq.respectTransparency.types false in
/-- The first call's segment. -/
def reg0 : RegionSeg (pcfgs (F := F)) adm (pdats m) () defs₀ Variants.none L lv 0 :=
  RegionSeg.ofHeldIn (pcfgs (F := F)) adm (pdats m) () defs₀ Variants.none L lv 0 D (Pipeline.ucRefs τ sig)
    (fun c => iprop(∃ r, prngReg c r)) (fun c => iprop(∃ r, prngReg c r)) launch0.toP rfl
    (fun c => (Quant.body_obligation _ c).loose) (fun _ _ => rfl) (fun _ => rfl)
    (fun c => (quantDat m c).share_full fun _ => rfl) (fun _ => .rfl) (fun _ => .rfl) (fun _ => 0) (cut 0) (fun _ => BI.emp)
    (V1 m) (fun c w => Quant.A_eq _ c w)

set_option backward.isDefEq.respectTransparency.types false in
theorem pre0 (c : Dev nD) : iprop(StableHlo.held (c : Thread nD τ) (Pipeline.ucRefs τ sig) ((V1 m) c) ∗ E c) ⊢ (reg0 m).pre c := by
  unfold reg0
  refine BI.Entails.trans ?_ (RegionSeg.ofHeldIn_pre (Pipeline.arrRefs_sub_ucRefs _ (launch0.win.arr_unscoped)) c)
  exact BI.Entails.refl _
set_option backward.isDefEq.respectTransparency.types false in
theorem post0 (c : Dev nD) : (reg0 m).post c ⊢ iprop(StableHlo.held (c : Thread nD τ) (Pipeline.ucRefs τ sig) (V2 m (outs m) c) ∗ E c) := by
  rw [← StableHlo.held_congr (c : Thread nD τ) (after_quant m c)]
  exact RegionSeg.ofHeldIn_post (Pipeline.arrRefs_sub_ucRefs _ (launch0.win.arr_unscoped)) c

set_option backward.isDefEq.respectTransparency.types false in
/-- The second call's segment. -/
def reg1 : RegionSeg (pcfgs (F := F)) adm (pdats m) () defs₀ Variants.none L lv 1 :=
  RegionSeg.ofHeldIn (pcfgs (F := F)) adm (pdats m) () defs₀ Variants.none L lv 1 D (Pipeline.ucRefs τ sig)
    (fun c => iprop(∃ r, prngReg c r)) (fun c => iprop(∃ r, prngReg c r)) launch1.toP rfl
    (fun c => (Score.body_obligation _ c).loose) (fun _ _ => rfl) (fun _ => rfl)
    (fun c => (scoreDat m c).share_full fun _ => rfl) (fun _ => .rfl) (fun _ => .rfl) (fun _ => 0) (cut 1) (fun _ => BI.emp)
    (V3 m (outsQuant m)) (fun c w => Score.A_eq _ c w)

set_option backward.isDefEq.respectTransparency.types false in
theorem pre1 (c : Dev nD) : iprop(StableHlo.held (c : Thread nD τ) (Pipeline.ucRefs τ sig) ((V3 m (outsQuant m)) c) ∗ E c) ⊢ (reg1 m).pre c := by
  unfold reg1
  refine BI.Entails.trans ?_ (RegionSeg.ofHeldIn_pre (Pipeline.arrRefs_sub_ucRefs _ (launch1.win.arr_unscoped)) c)
  exact BI.Entails.refl _
set_option backward.isDefEq.respectTransparency.types false in
theorem post1 (c : Dev nD) : (reg1 m).post c ⊢ iprop(StableHlo.held (c : Thread nD τ) (Pipeline.ucRefs τ sig) (V4 m (outs m) c) ∗ E c) := by
  rw [← StableHlo.held_congr (c : Thread nD τ) (after_score m c)]
  exact RegionSeg.ofHeldIn_post (Pipeline.arrRefs_sub_ucRefs _ (launch1.win.arr_unscoped)) c

set_option backward.isDefEq.respectTransparency.types false in
/-- The third call's segment. -/
def reg2 : RegionSeg (pcfgs (F := F)) adm (pdats m) () defs₀ Variants.none L lv 2 :=
  RegionSeg.ofHeldIn (pcfgs (F := F)) adm (pdats m) () defs₀ Variants.none L lv 2 D (Pipeline.ucRefs τ sig)
    (fun c => iprop(∃ r, prngReg c r)) (fun c => iprop(∃ r, prngReg c r)) launch2.toP rfl
    (fun c => (Show.body_obligation _ c).loose) (fun _ _ => rfl) (fun _ => rfl)
    (fun c => (showDat m c).share_full fun _ => rfl) (fun _ => .rfl) (fun _ => .rfl) (fun _ => 0) (cut 2) (fun _ => BI.emp)
    (V7 m (outsScore m)) (fun c w => Show.A_eq _ c w)

set_option backward.isDefEq.respectTransparency.types false in
theorem pre2 (c : Dev nD) : iprop(StableHlo.held (c : Thread nD τ) (Pipeline.ucRefs τ sig) ((V7 m (outsScore m)) c) ∗ E c) ⊢ (reg2 m).pre c := by
  unfold reg2
  refine BI.Entails.trans ?_ (RegionSeg.ofHeldIn_pre (Pipeline.arrRefs_sub_ucRefs _ (launch2.win.arr_unscoped)) c)
  exact BI.Entails.refl _
set_option backward.isDefEq.respectTransparency.types false in
theorem post2 (c : Dev nD) : (reg2 m).post c ⊢ iprop(StableHlo.held (c : Thread nD τ) (Pipeline.ucRefs τ sig) (V8 m (outs m) c) ∗ E c) := by
  rw [← StableHlo.held_congr (c : Thread nD τ) (after_show m c)]
  exact RegionSeg.ofHeldIn_post (Pipeline.arrRefs_sub_ucRefs _ (launch2.win.arr_unscoped)) c

/-- The run of the kernel: every unscoped buffer ends at the last valuation, every counter at zero. -/
theorem run (ρ : Dev nD → PrngReg) :
    θ_run defs (onTc (τ := τ) (main (F := F))) ⟨m, fun _ => 0, ρ⟩ (fun r => (∀ c : Dev nD,
      ∀ b ∈ Pipeline.ucRefs τ sig, r.2.mem (((c : Thread nD τ).1, b)) = V9 m (outs m) c b)
      ∧ r.2.sem = fun _ => 0) :=
  run_cond m (emb₁ : Emb _ 𝕄) () Variants.none L lv (fun g h => if_neg h) ρ (outs m) (pdats m) 0 (fun _ => BI.emp)
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const]); iempintro)
    (fun _ => E)
    (Pipeline.initEach L lv fun c => by
      unfold E
      iintro ⟨⟨-, HO, -, Hp, -⟩, -⟩
      imodintro
      isplitl [HO]; · iexists _; iexact HO
      isplitl [Hp]; · iexists _; iexact Hp
      iempintro)
    (fun c => by unfold E; iintro ⟨HO, -, -⟩; iexact HO)
    (reg0 m) (pre0 m) (post0 m)
    (reg1 m) (fun c => by rw [V3_outs]; exact pre1 m c) (post1 m)
    (reg2 m) (fun c => by rw [V7_outs]; exact pre2 m c) (post2 m)

/-- An unscoped TensorCore buffer at the end of the run. -/
theorem mem_uc (r : Ref sig .tc) (h : (Proc.devRef .tc r : DevRef τ sig).isScoped = false) : Proc.devRef .tc r ∈ Pipeline.ucRefs τ sig :=
  Finset.mem_filter.mpr ⟨StableHlo.devRef_mem_tcRefs r, by simp [h]⟩

/-- The frame: the run leaves the arguments as launched and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1 c _ (mem_uc main_arg0 (by decide))).trans (V9_main_arg0 m _ c), (h.1 c _ (mem_uc main_arg1 (by decide))).trans (V9_main_arg1 m _ c), (h.1 c _ (mem_uc main_arg2 (by decide))).trans (V9_main_arg2 m _ c), (h.1 c _ (mem_uc main_arg3 (by decide))).trans (V9_main_arg3 m _ c), (h.1 c _ (mem_uc main_arg4 (by decide))).trans (V9_main_arg4 m _ c), (h.1 c _ (mem_uc main_arg5 (by decide))).trans (V9_main_arg5 m _ c)⟩, h.2⟩) (run m ρ)

end Cert.Kernel.Run

end
-- ==== Proof.Spec.lean ====
module

public import Idealize.ShloMosaic.Lib.Pointwise
public import Idealize.ShloMosaic.Lib.IdealHost

/-!
# What the problem computes, one number at a time

The functions below take plain extended reals (and int8, uint32 words) and say what each result of the problem is. Both
programs are read down to them.
-/

@[expose] public section

noncomputable section

namespace Cert.Spec

open Idealize.ShloMosaic

theorem ofBits_bot : Ideal.ofBits .f32 0xFF800000#32 = (⊥ : EReal) := by
  simp [Ideal.ofBits, Ideal.ieee]

/-- `ln 2` as the f32 constant both programs use. -/
def ln2 : EReal := Ideal.ofBits .f32 0x3F317218#32

/-- `log2 e` as the f32 constant both programs use. -/
def log2e : EReal := Ideal.ofBits .f32 0x3FB8AA3B#32

/-- `log 32` as the f32 constant both programs use. -/
def logP : EReal := Ideal.ofBits .f32 0x405DCE9E#32

theorem ln2_real : ∃ r : ℝ, 0 < r ∧ ln2 = (r : EReal) := by
  refine ⟨(11629080 : ℝ) / 2 ^ 24, by norm_num, ?_⟩
  simp [ln2, Ideal.ofBits, Ideal.ieee, -EReal.coe_mul]
  norm_num

/-- The largest magnitude of a row of numbers. -/
def biggest (v : Fin 96 → EReal) : EReal :=
  Finset.univ.fold max (Ideal.ofBits .f32 0xFF800000#32) fun d => FloatOps.absf (F := Ideal) (φ := .f32) (v d)

/-- The scale of a row of largest magnitude `a`. -/
def scaleOf (a : EReal) : EReal := if a = 0 then 1 else Ideal.div a (Ideal.ofBits .f32 0x42FE0000#32)

/-- The number nearest `v / s` that the int8 range holds, before it is converted. -/
def levelOf (v s : EReal) : EReal :=
  min (((127#32 : BitVec 32).toInt : ℝ) : EReal)
    (max (((4294967169#32 : BitVec 32).toInt : ℝ) : EReal) (Ideal.liftRound Ideal.roundHalfEven (Ideal.div v s)))

/-- The int8 code of `v` at scale `s`. -/
def codeOf (v s : EReal) : BitVec 8 := FloatOps.fptosi (F := Ideal) (φ := .f32) 8 (levelOf v s)

/-- A level is a whole number between −127 and 127. -/
theorem levelOf_int (v s : EReal) : ∃ n : ℤ, -127 ≤ n ∧ n ≤ 127 ∧ levelOf v s = ((n : ℝ) : EReal) := by
  unfold levelOf
  have h1 : (127#32 : BitVec 32).toInt = 127 := by decide
  have h2 : (4294967169#32 : BitVec 32).toInt = -127 := by decide
  rw [h1, h2]
  induction Ideal.div v s with
  | bot => exact ⟨-127, by norm_num, by norm_num, by
      rw [show Ideal.liftRound Ideal.roundHalfEven ⊥ = ⊥ from rfl, max_eq_left bot_le, min_eq_right]
      exact EReal.coe_le_coe_iff.mpr (by norm_num)⟩
  | top => exact ⟨127, by norm_num, by norm_num, by
      rw [show Ideal.liftRound Ideal.roundHalfEven ⊤ = ⊤ from rfl, max_eq_right le_top, min_eq_left le_top]⟩
  | coe r =>
      refine ⟨min 127 (max (-127) (Ideal.roundHalfEven r)), by omega, by omega, ?_⟩
      rw [show Ideal.liftRound Ideal.roundHalfEven (r : EReal) = ((Ideal.roundHalfEven r : ℝ) : EReal) from rfl,
        ← EReal.coe_strictMono.monotone.map_max, ← EReal.coe_strictMono.monotone.map_min]
      push_cast
      rfl

/-- Converting a level to int8 and back gives the level. -/
theorem code_level (v s : EReal) :
    FloatOps.sitofp (F := Ideal) .bf16 (codeOf v s) = levelOf v s := by
  obtain ⟨n, h1, h2, h⟩ := levelOf_int v s
  unfold codeOf
  rw [h]
  show ((((Ideal.fptosi 8 ((n : ℝ) : EReal)).toInt : ℤ) : ℝ) : EReal) = _
  have : (Ideal.fptosi 8 ((n : ℝ) : EReal)).toInt = n := by
    unfold Ideal.fptosi
    rw [Ideal.toIntClamped_coe]
    simp only [Int.floor_intCast, Int.ceil_intCast, ite_self]
    rw [BitVec.toInt_ofInt]
    norm_num
    rw [min_eq_right (by omega), max_eq_right (by omega)]
    rw [Int.bmod_eq_of_le] <;> omega
  rw [this]

/-- The product of a row of the users' codes and a row of an item's codes. -/
def dot (q : Fin 96 → EReal) (w : Fin 96 → BitVec 8) : EReal :=
  ∑ d, q d * FloatOps.sitofp (F := Ideal) .bf16 (w d)

/-- The rounded-up largest of the 8 × 4 products. -/
def peakOf (s : Fin 8 → Fin 4 → EReal) : EReal :=
  Ideal.liftRound Int.ceil (Finset.univ.fold max ⊥ fun u =>
    max (max (max (s u 0) (s u 1)) (s u 2)) (s u 3))

/-- The sum of the powers of two of the 8 × 4 products, each lowered by `p`. -/
def denOf (s : Fin 8 → Fin 4 → EReal) (p : EReal) : EReal :=
  ∑ u, (FloatOps.exp2 (F := Ideal) (φ := .f32) (s u 0 - p) + FloatOps.exp2 (F := Ideal) (φ := .f32) (s u 1 - p)
    + FloatOps.exp2 (F := Ideal) (φ := .f32) (s u 2 - p) + FloatOps.exp2 (F := Ideal) (φ := .f32) (s u 3 - p))

/-- The natural logarithm of the sum of the exponentials, less the logarithm of the count and a penalty. -/
def scoreOf (s : Fin 8 → Fin 4 → EReal) (pen : EReal) : EReal :=
  (peakOf s + Ideal.div (Ideal.log (denOf s (peakOf s))) ln2) * ln2 - logP - pen

/-- The score in the form that multiplies the peak alone by `ln 2`. -/
theorem scoreOf_eq (s : Fin 8 → Fin 4 → EReal) (pen : EReal) :
    scoreOf s pen = peakOf s * ln2 + Ideal.log (denOf s (peakOf s)) - logP - pen := by
  unfold scoreOf
  congr 2
  obtain ⟨r, hr, h⟩ := ln2_real
  rw [h]
  generalize peakOf s = a
  generalize Ideal.log _ = b
  have h0 : (r : EReal) ≠ 0 := by exact_mod_cast hr.ne'
  rw [mul_comm, EReal.left_distrib_of_nonneg_of_ne_top (by exact_mod_cast hr.le) (EReal.coe_ne_top r), mul_comm]
  congr 1
  unfold Ideal.div
  rw [if_neg h0, mul_comm b, ← mul_assoc, ← EReal.coe_inv, ← EReal.coe_mul, mul_inv_cancel₀ hr.ne', EReal.coe_one,
    one_mul]

/-! ## The five results, as functions of the arguments -/

section Results

variable (X : Fin 2560 → Fin 8 → Fin 96 → EReal) (C : Fin 73728 → Fin 4 → Fin 96 → BitVec 8)
  (S : Fin 73728 → Fin 4 → EReal) (T : EReal) (P : Fin 73728 → EReal) (W : Fin 2304 → BitVec 32)

/-- The scale of interest `u` of user `b`. -/
def scaleAt (b : Fin 2560) (u : Fin 8) : EReal := scaleOf (biggest (X b u))

/-- The quantised entries of interest `u` of user `b`, as numbers. -/
def levelAt (b : Fin 2560) (u : Fin 8) (d : Fin 96) : EReal := levelOf (X b u d) (scaleAt X b u)

/-- The same as int8 codes. -/
def codeAt (b : Fin 2560) (u : Fin 8) (d : Fin 96) : BitVec 8 := codeOf (X b u d) (scaleAt X b u)

/-- The gain of interest `u` of user `b`: its scale times `log2 e` over the temperature. -/
def gainAt (b : Fin 2560) (u : Fin 8) : EReal := scaleAt X b u * Ideal.div log2e T

/-- The scaled product of interest `u` of user `b` and vector `k` of item `n`. -/
def prodAt (b : Fin 2560) (n : Fin 73728) (u : Fin 8) (k : Fin 4) : EReal :=
  dot (levelAt X b u) (C n k) * gainAt X T b u * S n k

/-- Bit `n` of the validity words. -/
def bitAt (n : Fin 73728) : BitVec 32 :=
  IntOp.andi (IntOp.shrui ArithUnit.host (W ⟨n.val / 32, by omega⟩) (BitVec.ofNat 32 (n.val % 32))) 1#32

/-- Whether item `n` is valid. -/
def validAt (n : Fin 73728) : BitVec 1 := IntOp.cmpi CmpIPredicate.ne (bitAt W n) 0#32

/-- The score of item `n` for user `b`, before the mask. -/
def rawAt (b : Fin 2560) (n : Fin 73728) : EReal := scoreOf (prodAt X C S T b n) (P n)

/-- Result 1: the score, zero for an item that is not valid. -/
def scoreAt (b : Fin 2560) (n : Fin 73728) : EReal := Scalar.select (validAt W n) (rawAt X C S T P b n) 0

/-- Whether block `j` of 1024 items has a valid one. -/
def anyAt (j : Fin 72) : EReal :=
  Finset.univ.fold max (⊥ : EReal) fun i : Fin 1024 =>
    Scalar.select (validAt W ⟨j.val * 1024 + i.val, by omega⟩) (1 : EReal) 0

/-- The largest score of a valid item of block `j`. -/
def bestAt (b : Fin 2560) (j : Fin 72) : EReal :=
  Finset.univ.fold max (⊥ : EReal) fun i : Fin 1024 =>
    Scalar.select (validAt W ⟨j.val * 1024 + i.val, by omega⟩) (rawAt X C S T P b ⟨j.val * 1024 + i.val, by omega⟩) ⊥

/-- Result 2: the block's best score, zero for a block without a valid item. -/
def topAt (b : Fin 2560) (j : Fin 72) : EReal := if 0 < anyAt W j then bestAt X C S T P W b j else 0

/-- Result 3: the logit of interest `u` of user `b` and vector `k` of the `i`th item of block `j`. -/
def showAt (b : Fin 2560) (j : Fin 72) (i : Fin 3) (u : Fin 8) (k : Fin 4) : EReal :=
  Ideal.div (dot (levelAt X b u) (C ⟨j.val * 1024 + i.val, by omega⟩ k) * scaleAt X b u
    * S ⟨j.val * 1024 + i.val, by omega⟩ k) T

/-! ### The results as arrays -/

def scaleVec : Vec Ideal ⟨2, ![2560, 8]⟩ .f32 := fun y => scaleAt X (y 0) (y 1)

def codeVec : Vec Ideal ⟨3, ![2560, 8, 96]⟩ .i8 := fun y => codeAt X (y 0) (y 1) (y 2)

def scoreVec : Vec Ideal ⟨2, ![2560, 73728]⟩ .bf16 := fun y => scoreAt X C S T P W (y 0) (y 1)

def topVec : Vec Ideal ⟨2, ![2560, 72]⟩ .f32 := fun y => topAt X C S T P W (y 0) (y 1)

/-- Lane `4 u + k` of the last axis holds interest `u` and vector `k`. -/
def lane (l : Fin 32) : Fin 8 × Fin 4 := (⟨l.val / 4, by omega⟩, ⟨l.val % 4, by omega⟩)

def showVec : Vec Ideal ⟨4, ![2560, 72, 3, 32]⟩ .f32 :=
  fun y => showAt X C S T (y 0) (y 1) (y 2) (lane (y 3)).1 (lane (y 3)).2

end Results

end Cert.Spec

end
-- ==== Proof.RefRead.lean ====
module

public import proofs.«01_k».proof.Proof.Gen.ReferenceIdeal.Skeleton
public import proofs.«01_k».proof.Proof.Spec

/-!
# The reference's vector terms at an index

Each printed term of the reference, read at one index, is the function of `Spec` it should be. The reductions over an axis are named
first, so that the large shapes are never opened.
-/

@[expose] public section

set_option maxRecDepth 16384

noncomputable section

namespace Cert.ReferenceIdeal.Read

open Cert.ReferenceIdeal Cert.ReferenceIdeal.Gen
open Idealize.ShloMosaic
open Cert.Spec

/-! ## Scales and codes -/

/-- The largest entry of each row of 96. -/
def rowMax (v : FVec Ideal S2560x8x96 .f32) : FVec Ideal S2560x8 .f32 :=
  multiReduction (F := Ideal) .maximumf [2] S2560x8 v 0xFF800000#32 reduces_S2560x8x96_S2560x8 (.inl rfl) rfl

theorem rowMax_at (v : FVec Ideal S2560x8x96 .f32) (b : Fin 2560) (u : Fin 8) :
    rowMax v (ix2 b u) = Finset.univ.fold max (Ideal.ofBits FTy.f32 0xFF800000#32) fun k : Fin 96 => v (ix3 b u k) := by
  unfold rowMax
  pointwise

/-- The scales from the largest magnitudes. -/
def scales (a : FVec Ideal S2560x8 .f32) : FVec Ideal S2560x8 .f32 :=
  select (cmpf (F := Ideal) .oeq a (broadcast S2560x8 (Scalar.ofBits (F := Ideal) .f32 0x00000000#32)))
    (broadcast S2560x8 (Scalar.ofBits (F := Ideal) .f32 0x3F800000#32))
    (divf a (broadcast S2560x8 (Scalar.ofBits (F := Ideal) .f32 0x42FE0000#32)))

theorem scales_at (a : FVec Ideal S2560x8 .f32) (b : Fin 2560) (u : Fin 8) :
    scales a (ix2 b u) = scaleOf (a (ix2 b u)) := by
  unfold scales scaleOf
  pointwise

theorem pay3_eq (x : Vec Ideal S2560x8x96 .bf16) : k0_pay3 (F := Ideal) x = scales (rowMax (absf (k0_pay2 x))) := by
  unfold k0_pay3 scales rowMax
  rfl

theorem abs_at (x : Vec Ideal S2560x8x96 .bf16) (b : Fin 2560) (u : Fin 8) (d : Fin 96) :
    absf (k0_pay2 x) (ix3 b u d) = FloatOps.absf (F := Ideal) (φ := .f32) (x (ix3 b u d)) := by
  pointwise [k0_pay2]

theorem pay3_at (x : Vec Ideal S2560x8x96 .bf16) (b : Fin 2560) (u : Fin 8) :
    k0_pay3 (F := Ideal) x (ix2 b u) = scaleOf (biggest fun d => x (ix3 b u d)) := by
  rw [pay3_eq, scales_at, rowMax_at]
  unfold biggest
  simp only [abs_at]

/-- The codes of `x` at given scales. -/
def codes (x : FVec Ideal S2560x8x96 .f32) (s : FVec Ideal S2560x8 .f32) : IVec S2560x8x96 8 :=
  fptosi 8 (minimumf (broadcast S2560x8x96 (Scalar.sitofp (F := Ideal) .f32 127#32))
    (maximumf (broadcast S2560x8x96 (Scalar.sitofp (F := Ideal) .f32 4294967169#32))
      (roundeven (divf x (broadcastTo S2560x8x96 (shapeCast S2560x8x1 s shapeCasts_S2560x8_S2560x8x1)
        broadcasts_S2560x8x1_S2560x8x96)))))

theorem codes_at (x : FVec Ideal S2560x8x96 .f32) (s : FVec Ideal S2560x8 .f32) (b : Fin 2560) (u : Fin 8) (d : Fin 96) :
    codes x s (ix3 b u d) = codeOf (x (ix3 b u d)) (s (ix2 b u)) := by
  unfold codes codeOf levelOf
  pointwise

theorem pay4_eq (x : Vec Ideal S2560x8x96 .bf16) : k0_pay4 (F := Ideal) x = codes (k0_pay2 x) (k0_pay3 x) := by
  unfold k0_pay4 codes
  rfl

theorem pay2_at (x : Vec Ideal S2560x8x96 .bf16) (b : Fin 2560) (u : Fin 8) (d : Fin 96) :
    k0_pay2 (F := Ideal) x (ix3 b u d) = x (ix3 b u d) := by
  pointwise [k0_pay2]

theorem pay4_at (x : Vec Ideal S2560x8x96 .bf16) (b : Fin 2560) (u : Fin 8) (d : Fin 96) :
    k0_pay4 (F := Ideal) x (ix3 b u d)
      = codeOf (x (ix3 b u d)) (scaleOf (biggest fun d => x (ix3 b u d))) := by
  rw [pay4_eq, codes_at, pay2_at, pay3_at]

/-- Codes widened again, the users' interests one below the other. -/
def widened (q : IVec S2560x8x96 8) : FVec Ideal S20480x96 .bf16 :=
  shapeCast S20480x96 (sitofp .bf16 q) shapeCasts_S2560x8x96_S20480x96

theorem widened_at (q : IVec S2560x8x96 8) (b : Fin 2560) (u : Fin 8) (h : b.val * 8 + u.val < 20480) (d : Fin 96) :
    widened q (ix2 ⟨b.val * 8 + u.val, h⟩ d) = FloatOps.sitofp (F := Ideal) .bf16 (q (ix3 b u d)) := by
  unfold widened
  pointwise

theorem pay5_eq (x : Vec Ideal S2560x8x96 .bf16) : k0_pay5 (F := Ideal) x = widened (k0_pay4 x) := by
  unfold k0_pay5 widened
  rfl

theorem pay5_at (x : Vec Ideal S2560x8x96 .bf16) (b : Fin 2560) (u : Fin 8) (h : b.val * 8 + u.val < 20480) (d : Fin 96) :
    k0_pay5 (F := Ideal) x (ix2 ⟨b.val * 8 + u.val, h⟩ d)
      = levelOf (x (ix3 b u d)) (scaleOf (biggest fun d => x (ix3 b u d))) := by
  rw [pay5_eq, widened_at, pay4_at, code_level]

/-- The scales times `log2 e` over the temperature. -/
def gains (T : EReal) (s : FVec Ideal S2560x8 .f32) : FVec Ideal S2560x8 .f32 :=
  mulf s (broadcast S2560x8 (Scalar.divf (F := Ideal) (φ := .f32) (Scalar.ofBits .f32 0x3FB8AA3B#32) T))

theorem gains_at (T : EReal) (s : FVec Ideal S2560x8 .f32) (b : Fin 2560) (u : Fin 8) :
    gains T s (ix2 b u) = s (ix2 b u) * Ideal.div log2e T := by
  unfold gains log2e
  pointwise

theorem pay6_eq (T : EReal) (x : Vec Ideal S2560x8x96 .bf16) : k0_pay6 (F := Ideal) T x = gains T (k0_pay3 x) := by
  unfold k0_pay6 gains
  rfl

theorem pay6_at (T : EReal) (x : Vec Ideal S2560x8x96 .bf16) (b : Fin 2560) (u : Fin 8) :
    k0_pay6 (F := Ideal) T x (ix2 b u) = scaleOf (biggest fun d => x (ix3 b u d)) * Ideal.div log2e T := by
  rw [pay6_eq, gains_at, pay3_at]

/-! ## Scores -/

theorem pay9_at (X : FVec Ideal S20480x96 .bf16) (G : FVec Ideal S2560x8 .f32) (C : Vec Ideal S1x73728x96 .i8)
    (S : Vec Ideal S1x1x73728 .f32) (b : Fin 2560) (u : Fin 8) (n : Fin 73728) :
    k0_pay9 (F := Ideal) X G C S (ix3 b u n)
      = dot (fun d => X (ix2 ⟨b.val * 8 + u.val, by omega⟩ d)) (fun d => C (ix3 0 n d)) * G (ix2 b u) * S (ix3 0 0 n) := by
  unfold dot
  pointwise [k0_pay9]

theorem pay10_eq (X : FVec Ideal S20480x96 .bf16) (G : FVec Ideal S2560x8 .f32) (C : Vec Ideal S1x73728x96 .i8)
    (S : Vec Ideal S1x1x73728 .f32) : k0_pay10 X G C S = k0_pay9 X G C S := by
  unfold k0_pay10 k0_pay9; rfl

theorem pay11_eq (X : FVec Ideal S20480x96 .bf16) (G : FVec Ideal S2560x8 .f32) (C : Vec Ideal S1x73728x96 .i8)
    (S : Vec Ideal S1x1x73728 .f32) : mulf (k0_pay11 X G C) (k0_pay12 S) = k0_pay9 X G C S := by
  unfold k0_pay11 k0_pay12 k0_pay9; rfl

/-- The largest entry over the eight interests. -/
def userMax (v : FVec Ideal S2560x8x73728 .f32) : FVec Ideal S2560x73728 .f32 :=
  multiReduction (F := Ideal) .maximumf [1] S2560x73728 v 0xFF800000#32 reduces_S2560x8x73728_S2560x73728 (.inl rfl) rfl

theorem userMax_at (v : FVec Ideal S2560x8x73728 .f32) (b : Fin 2560) (n : Fin 73728) :
    userMax v (ix2 b n) = Finset.univ.fold max (Ideal.ofBits FTy.f32 0xFF800000#32) fun u : Fin 8 => v (ix3 b u n) := by
  unfold userMax
  pointwise

/-- The sum over the eight interests. -/
def userSum (v : FVec Ideal S2560x8x73728 .f32) : FVec Ideal S2560x73728 .f32 :=
  multiReduction (F := Ideal) .add [1] S2560x73728 v 0x00000000#32 reduces_S2560x8x73728_S2560x73728 (.inl rfl) rfl

theorem userSum_at (v : FVec Ideal S2560x8x73728 .f32) (b : Fin 2560) (n : Fin 73728) :
    userSum v (ix2 b n) = ∑ u : Fin 8, v (ix3 b u n) := by
  unfold userSum
  pointwise

/-- The powers of two of `v` lowered by `p`. -/
def powers (v : FVec Ideal S2560x8x73728 .f32) (p : FVec Ideal S2560x73728 .f32) : FVec Ideal S2560x8x73728 .f32 :=
  exp2 (subf v (broadcastTo S2560x8x73728 (shapeCast S2560x1x73728 p shapeCasts_S2560x73728_S2560x1x73728)
    broadcasts_S2560x1x73728_S2560x8x73728))

theorem powers_at (v : FVec Ideal S2560x8x73728 .f32) (p : FVec Ideal S2560x73728 .f32) (b : Fin 2560) (u : Fin 8)
    (n : Fin 73728) :
    powers v p (ix3 b u n) = FloatOps.exp2 (F := Ideal) (φ := .f32) (v (ix3 b u n) - p (ix2 b n)) := by
  unfold powers
  pointwise

/-- The sum of the four items' powers. -/
def powerSum (A B C D : FVec Ideal S2560x8x73728 .f32) (p : FVec Ideal S2560x73728 .f32) : FVec Ideal S2560x8x73728 .f32 :=
  addf (addf (addf (addf (broadcast S2560x8x73728 (Scalar.ofBits (F := Ideal) .f32 0x00000000#32)) (powers A p)) (powers B p))
    (powers C p)) (powers D p)

theorem sum4_at (A B C D : FVec Ideal S2560x8x73728 .f32) (b : Fin 2560) (u : Fin 8) (n : Fin 73728) :
    addf (addf (addf (addf (broadcast S2560x8x73728 (Scalar.ofBits (F := Ideal) .f32 0x00000000#32)) A) B) C) D (ix3 b u n)
      = A (ix3 b u n) + B (ix3 b u n) + C (ix3 b u n) + D (ix3 b u n) := by
  pointwise

theorem powerSum_at (A B C D : FVec Ideal S2560x8x73728 .f32) (p : FVec Ideal S2560x73728 .f32) (b : Fin 2560) (u : Fin 8)
    (n : Fin 73728) :
    powerSum A B C D p (ix3 b u n)
      = FloatOps.exp2 (F := Ideal) (φ := .f32) (A (ix3 b u n) - p (ix2 b n))
        + FloatOps.exp2 (F := Ideal) (φ := .f32) (B (ix3 b u n) - p (ix2 b n))
        + FloatOps.exp2 (F := Ideal) (φ := .f32) (C (ix3 b u n) - p (ix2 b n))
        + FloatOps.exp2 (F := Ideal) (φ := .f32) (D (ix3 b u n) - p (ix2 b n)) := by
  unfold powerSum
  simp only [← powers_at]
  exact sum4_at _ _ _ _ _ _ _

/-- The rounded-up largest product. -/
def peaks (A B C D : FVec Ideal S2560x8x73728 .f32) : FVec Ideal S2560x73728 .f32 :=
  ceil (userMax (maximumf (maximumf (maximumf A B) C) D))

theorem largest_at (A B C D : FVec Ideal S2560x8x73728 .f32) (b : Fin 2560) (u : Fin 8) (n : Fin 73728) :
    maximumf (maximumf (maximumf A B) C) D (ix3 b u n)
      = max (max (max (A (ix3 b u n)) (B (ix3 b u n))) (C (ix3 b u n))) (D (ix3 b u n)) := by
  pointwise

theorem ceil_at (v : FVec Ideal S2560x73728 .f32) (b : Fin 2560) (n : Fin 73728) :
    ceil v (ix2 b n) = Ideal.liftRound Int.ceil (v (ix2 b n)) := by
  pointwise

/-- The four products of user `b`'s interest `u` and item `n`, out of four arrays. -/
def four (A B C D : FVec Ideal S2560x8x73728 .f32) (b : Fin 2560) (n : Fin 73728) (u : Fin 8) (k : Fin 4) : EReal :=
  ![A (ix3 b u n), B (ix3 b u n), C (ix3 b u n), D (ix3 b u n)] k

theorem peaks_at (A B C D : FVec Ideal S2560x8x73728 .f32) (b : Fin 2560) (n : Fin 73728) :
    peaks A B C D (ix2 b n) = peakOf (four A B C D b n) := by
  unfold peaks
  rw [ceil_at, userMax_at, ofBits_bot]
  simp only [largest_at]
  rfl

/-- The score less its constants, in units of the natural logarithm. -/
def logs (p s : FVec Ideal S2560x73728 .f32) : FVec Ideal S2560x73728 .f32 :=
  mulf (addf p (divf (log s) (broadcast S2560x73728 (Scalar.ofBits (F := Ideal) .f32 0x3F317218#32))))
    (broadcast S2560x73728 (Scalar.ofBits (F := Ideal) .f32 0x3F317218#32))

theorem logs_at (p s : FVec Ideal S2560x73728 .f32) (b : Fin 2560) (n : Fin 73728) :
    logs p s (ix2 b n) = (p (ix2 b n) + Ideal.div (Ideal.log (s (ix2 b n))) ln2) * ln2 := by
  unfold logs ln2
  pointwise

theorem pay13_eq (X : FVec Ideal S20480x96 .bf16) (G : FVec Ideal S2560x8 .f32) (A B D E : FVec Ideal S2560x8x73728 .f32)
    (C : Vec Ideal S1x73728x96 .i8) (S : Vec Ideal S1x1x73728 .f32) :
    k0_pay13 (F := Ideal) X G A B D E C S
      = logs (peaks A B (mulf D E) (k0_pay9 X G C S))
          (userSum (powerSum A B (mulf D E) (k0_pay9 X G C S) (peaks A B (mulf D E) (k0_pay9 X G C S)))) := by
  unfold k0_pay13 logs userSum powerSum powers peaks userMax k0_pay9
  rfl

theorem pay13_at (X : FVec Ideal S20480x96 .bf16) (G : FVec Ideal S2560x8 .f32) (A B D E : FVec Ideal S2560x8x73728 .f32)
    (C : Vec Ideal S1x73728x96 .i8) (S : Vec Ideal S1x1x73728 .f32) (b : Fin 2560) (n : Fin 73728) :
    k0_pay13 (F := Ideal) X G A B D E C S (ix2 b n)
      = (peakOf (four A B (mulf D E) (k0_pay9 X G C S) b n)
          + Ideal.div (Ideal.log (denOf (four A B (mulf D E) (k0_pay9 X G C S) b n)
              (peakOf (four A B (mulf D E) (k0_pay9 X G C S) b n)))) ln2) * ln2 := by
  rw [pay13_eq]
  generalize mulf D E = D', k0_pay9 X G C S = E'
  rw [logs_at, userSum_at]
  simp only [powerSum_at, peaks_at]
  rfl

theorem pay14_at (P : FVec Ideal S1x73728 .f32) (T : FVec Ideal S2560x73728 .f32) (b : Fin 2560) (n : Fin 73728) :
    k0_pay14 (F := Ideal) P T (ix2 b n) = T (ix2 b n) - logP - P (ix2 0 n) := by
  unfold logP
  pointwise [k0_pay14]

/-- A masked array, zero where the mask is off. -/
def masked (M : IVec S1x73728 1) (Q : FVec Ideal S2560x73728 .f32) : FVec Ideal S2560x73728 .bf16 :=
  truncf .bf16 (select (broadcastTo S2560x73728 (shapeCast S1x73728 M shapeCasts_S1x73728_S1x73728)
    broadcasts_S1x73728_S2560x73728) Q (broadcast S2560x73728 (Scalar.ofBits (F := Ideal) .f32 0x00000000#32)))
    bitsLt_bf16_f32

theorem masked_at (M : IVec S1x73728 1) (Q : FVec Ideal S2560x73728 .f32) (b : Fin 2560) (n : Fin 73728) :
    masked M Q (ix2 b n) = Scalar.select (M (ix2 0 n)) (Q (ix2 b n)) (0 : EReal) := by
  unfold masked
  pointwise

theorem pay15_eq (P : FVec Ideal S1x73728 .f32) (M : IVec S1x73728 1) (T : FVec Ideal S2560x73728 .f32) :
    k0_pay15 (F := Ideal) P M T = masked M (k0_pay14 P T) := by
  unfold k0_pay15 masked
  rfl

theorem pay15_at (P : FVec Ideal S1x73728 .f32) (M : IVec S1x73728 1) (T : FVec Ideal S2560x73728 .f32) (b : Fin 2560)
    (n : Fin 73728) :
    k0_pay15 (F := Ideal) P M T (ix2 b n)
      = Scalar.select (M (ix2 0 n)) (T (ix2 b n) - logP - P (ix2 0 n)) (0 : EReal) := by
  rw [pay15_eq, masked_at, pay14_at]

theorem pay8_at (V : Vec Ideal S1x73728 .i32) (n : Fin 73728) :
    k0_pay8 (F := Ideal) V (ix2 0 n) = IntOp.cmpi CmpIPredicate.ne (V (ix2 0 n)) 0#32 := by
  pointwise [k0_pay8]

theorem pay7_at (V : Vec Ideal S1x73728 .f32) (n : Fin 73728) :
    k0_pay7 (F := Ideal) V (ix2 0 n) = V (ix2 0 n) := by
  pointwise [k0_pay7]

/-! ## The best score of a block -/

/-- A masked array, minus infinity where the mask is off. -/
def ranked (M : IVec S1x73728 1) (Q : FVec Ideal S2560x73728 .f32) : FVec Ideal S2560x73728 .f32 :=
  select (broadcastTo S2560x73728 (shapeCast S1x73728 M shapeCasts_S1x73728_S1x73728)
    broadcasts_S1x73728_S2560x73728) Q (broadcast S2560x73728 (Scalar.ofBits (F := Ideal) .f32 0xFF800000#32))

theorem ranked_at (M : IVec S1x73728 1) (Q : FVec Ideal S2560x73728 .f32) (b : Fin 2560) (n : Fin 73728) :
    ranked M Q (ix2 b n) = Scalar.select (M (ix2 0 n)) (Q (ix2 b n)) (⊥ : EReal) := by
  unfold ranked
  rw [← ofBits_bot]
  pointwise

/-- The largest entry of each block of 1024. -/
def blockMax (v : FVec Ideal S2560x73728 .f32) : FVec Ideal S2560x72 .f32 :=
  multiReduction (F := Ideal) .maximumf [2] S2560x72 (shapeCast S2560x72x1024 v shapeCasts_S2560x73728_S2560x72x1024)
    0xFF800000#32 reduces_S2560x72x1024_S2560x72 (.inl rfl) rfl

theorem blockMax_at (v : FVec Ideal S2560x73728 .f32) (b : Fin 2560) (j : Fin 72) :
    blockMax v (ix2 b j) = Finset.univ.fold max (⊥ : EReal) fun i : Fin 1024 => v (ix2 b ⟨j.val * 1024 + i.val, by omega⟩) := by
  unfold blockMax
  rw [← ofBits_bot]
  pointwise

/-- The mask as zeros and ones. -/
def ones (M : IVec S1x73728 1) : FVec Ideal S1x73728 .f32 :=
  select M (broadcast S1x73728 (Scalar.ofBits (F := Ideal) .f32 0x3F800000#32))
    (broadcast S1x73728 (Scalar.ofBits (F := Ideal) .f32 0x00000000#32))

theorem ones_at (M : IVec S1x73728 1) (n : Fin 73728) :
    ones M (ix2 0 n) = Scalar.select (M (ix2 0 n)) (1 : EReal) 0 := by
  unfold ones
  pointwise

/-- The largest entry of each block of 1024 of a row. -/
def rowBlockMax (v : FVec Ideal S1x73728 .f32) : FVec Ideal S1x72 .f32 :=
  multiReduction (F := Ideal) .maximumf [2] S1x72 (shapeCast S1x72x1024 v shapeCasts_S1x73728_S1x72x1024)
    0xFF800000#32 reduces_S1x72x1024_S1x72 (.inl rfl) rfl

theorem rowBlockMax_at (v : FVec Ideal S1x73728 .f32) (j : Fin 72) :
    rowBlockMax v (ix2 0 j) = Finset.univ.fold max (⊥ : EReal) fun i : Fin 1024 => v (ix2 0 ⟨j.val * 1024 + i.val, by omega⟩) := by
  unfold rowBlockMax
  rw [← ofBits_bot]
  pointwise

/-- The blocks' best scores, zero for a block without a positive flag. -/
def tops (f : FVec Ideal S1x72 .f32) (v : FVec Ideal S2560x72 .f32) : FVec Ideal S2560x72 .f32 :=
  select (broadcastTo S2560x72 (shapeCast S1x72 (cmpf (F := Ideal) .ogt f (broadcast S1x72 (Scalar.ofBits (F := Ideal) .f32 0x00000000#32)))
      shapeCasts_S1x72_S1x72) broadcasts_S1x72_S2560x72) v
    (broadcast S2560x72 (Scalar.ofBits (F := Ideal) .f32 0x00000000#32))

theorem tops_at (f : FVec Ideal S1x72 .f32) (v : FVec Ideal S2560x72 .f32) (b : Fin 2560) (j : Fin 72) :
    tops f v (ix2 b j) = if 0 < (f (ix2 0 j) : EReal) then v (ix2 b j) else (0 : EReal) := by
  unfold tops
  pointwise

theorem pay16_eq (P : FVec Ideal S1x73728 .f32) (M : IVec S1x73728 1) (T : FVec Ideal S2560x73728 .f32) :
    k0_pay16 (F := Ideal) P M T = tops (rowBlockMax (ones M)) (blockMax (ranked M (k0_pay14 P T))) := by
  unfold k0_pay16 tops rowBlockMax ones blockMax ranked
  rfl

theorem pay16_at (P : FVec Ideal S1x73728 .f32) (M : IVec S1x73728 1) (T : FVec Ideal S2560x73728 .f32) (b : Fin 2560)
    (j : Fin 72) :
    k0_pay16 (F := Ideal) P M T (ix2 b j)
      = if 0 < (Finset.univ.fold max (⊥ : EReal) fun i : Fin 1024 =>
            Scalar.select (M (ix2 0 ⟨j.val * 1024 + i.val, by omega⟩)) (1 : EReal) 0)
        then Finset.univ.fold max (⊥ : EReal) fun i : Fin 1024 =>
            Scalar.select (M (ix2 0 ⟨j.val * 1024 + i.val, by omega⟩))
              (T (ix2 b ⟨j.val * 1024 + i.val, by omega⟩) - logP - P (ix2 0 ⟨j.val * 1024 + i.val, by omega⟩)) (⊥ : EReal)
        else (0 : EReal) := by
  rw [pay16_eq, tops_at, rowBlockMax_at, blockMax_at]
  simp only [ones_at, ranked_at, pay14_at]

/-! ## The logits of the shown items -/

/-- The logits of one of an item's four vectors. -/
def logits (T : EReal) (s : FVec Ideal S2560x8 .f32) (X : FVec Ideal S20480x96 .bf16) (C : Vec Ideal S1x216x96 .i8)
    (S : Vec Ideal S1x1x216 .f32) : FVec Ideal S2560x8x216 .f32 :=
  k0_pay19 (F := Ideal) T s X C S

theorem logits_at (T : EReal) (s : FVec Ideal S2560x8 .f32) (X : FVec Ideal S20480x96 .bf16) (C : Vec Ideal S1x216x96 .i8)
    (S : Vec Ideal S1x1x216 .f32) (b : Fin 2560) (u : Fin 8) (i : Fin 216) :
    logits T s X C S (ix3 b u i)
      = Ideal.div (dot (fun d => X (ix2 ⟨b.val * 8 + u.val, by omega⟩ d)) (fun d => C (ix3 0 i d)) * s (ix2 b u) * S (ix3 0 0 i)) T := by
  unfold logits dot
  pointwise [k0_pay19]

theorem pay18_eq (T : EReal) (s : FVec Ideal S2560x8 .f32) (X : FVec Ideal S20480x96 .bf16) (C : Vec Ideal S1x216x96 .i8)
    (S : Vec Ideal S1x1x216 .f32) : k0_pay18 T (k0_pay17 s X C) S = logits T s X C S := by
  unfold k0_pay18 k0_pay17 logits k0_pay19; rfl

theorem pay20_eq (T : EReal) (s : FVec Ideal S2560x8 .f32) (X : FVec Ideal S20480x96 .bf16) (C : Vec Ideal S1x216x96 .i8)
    (S : Vec Ideal S1x1x216 .f32) : k0_pay20 T s X C S = logits T s X C S := by
  unfold k0_pay20 logits k0_pay19; rfl

/-- Four arrays of logits stacked inside the interests and laid out by shown item. -/
def stacked (A B C D : FVec Ideal S2560x8x216 .f32) : FVec Ideal S2560x72x3x32 .f32 :=
  shapeCast S2560x72x3x32 (transpose S2560x216x32 [0, 2, 1] (shapeCast S2560x32x216
    (concatenate S2560x8x4x216 2
      [⟨S2560x8x1x216, shapeCast S2560x8x1x216 A shapeCasts_S2560x8x216_S2560x8x1x216⟩,
       ⟨S2560x8x1x216, shapeCast S2560x8x1x216 B shapeCasts_S2560x8x216_S2560x8x1x216⟩,
       ⟨S2560x8x1x216, shapeCast S2560x8x1x216 C shapeCasts_S2560x8x216_S2560x8x1x216⟩,
       ⟨S2560x8x1x216, shapeCast S2560x8x1x216 D shapeCasts_S2560x8x216_S2560x8x1x216⟩]
      concatenates_S2560x8x1x216_S2560x8x1x216_S2560x8x1x216_S2560x8x1x216_S2560x8x4x216_d2)
    shapeCasts_S2560x8x4x216_S2560x32x216) transposes_S2560x32x216_p0_2_1_S2560x216x32) shapeCasts_S2560x216x32_S2560x72x3x32

theorem stacked_at (A B C D : FVec Ideal S2560x8x216 .f32) (b : Fin 2560) (j : Fin 72) (i : Fin 3) (u : Fin 8) (k : Fin 4) :
    stacked A B C D (ix4 b j i ⟨u.val * 4 + k.val, by omega⟩)
      = (![A, B, C, D] k) (ix3 b u ⟨j.val * 3 + i.val, by omega⟩) := by
  unfold stacked
  pointwise
  fin_cases k <;> rfl

theorem pay1_eq (T : EReal) (s : FVec Ideal S2560x8 .f32) (X : FVec Ideal S20480x96 .bf16) (A B D : FVec Ideal S2560x8x216 .f32)
    (C : Vec Ideal S1x216x96 .i8) (S : Vec Ideal S1x1x216 .f32) :
    k0_pay1 (F := Ideal) T s X A B D (k0_pay21 C) (constant S20480x216 FTy.f32 0#32) S = stacked A B D (logits T s X C S) := by
  unfold k0_pay1 stacked logits k0_pay19 k0_pay21; rfl

end Cert.ReferenceIdeal.Read

end
-- ==== Proof.RefValue.lean ====
module

public import proofs.«01_k».proof.Proof.Gen.ReferenceIdeal.Value
public import proofs.«01_k».proof.Proof.RefRead
public import Idealize.ShloMosaic.Lib.Pipeline.ValueKit

/-!
# What the reference's run leaves in its results
-/

@[expose] public section

set_option maxRecDepth 16384

noncomputable section

namespace Cert.ReferenceIdeal.Value

open Cert.ReferenceIdeal.Gen Cert.ReferenceIdeal.Read Cert.Spec
open Idealize.ShloMosaic Idealize.ShloMosaic.TcCoe

variable (m : (ℓ : Loc nD τ sig) → Buf (Elt Ideal) ℓ)

theorem t0 (t : Fin cfg0.N) : t = ⟨0, by decide⟩ :=
  Fin.ext (by have h := t.isLt; have : cfg0.N = 1 := by decide
              omega)

/-- The block of a window whose block is its whole array is the array. -/
theorem whole_index {d : ℕ} {i k y : ℕ} (h : i = 0) (_ : k = d) : i * d + y = y := by
  subst h; omega

theorem blk0 (c : Dev nD) (t : Fin cfg0.N) : iblk m c 0 t = (V m c main_arg3 : Vec Ideal S1 .f32) := by
  funext y
  unfold iblk
  obtain rfl := t0 t
  blk_simp
  congr 1
  blk_ext
  all_goals first | exact whole_index rfl rfl | rfl

theorem blk1 (c : Dev nD) (t : Fin cfg0.N) : iblk m c 1 t = (V m c main_arg0 : Vec Ideal S2560x8x96 .bf16) := by
  funext y
  unfold iblk
  obtain rfl := t0 t
  blk_simp
  congr 1
  blk_ext
  all_goals first | exact whole_index rfl rfl | rfl

theorem blk2 (c : Dev nD) (t : Fin cfg0.N) : iblk m c 2 t = (V m c main_v15 : Vec Ideal S4x73728x96 .i8) := by
  funext y
  unfold iblk
  obtain rfl := t0 t
  blk_simp
  congr 1
  blk_ext
  all_goals first | exact whole_index rfl rfl | rfl

theorem blk3 (c : Dev nD) (t : Fin cfg0.N) : iblk m c 3 t = (V m c main_v17 : Vec Ideal S4x1x73728 .f32) := by
  funext y
  unfold iblk
  obtain rfl := t0 t
  blk_simp
  congr 1
  blk_ext
  all_goals first | exact whole_index rfl rfl | rfl

theorem blk4 (c : Dev nD) (t : Fin cfg0.N) : iblk m c 4 t = (V m c main_v18 : Vec Ideal S1x73728 .f32) := by
  funext y
  unfold iblk
  obtain rfl := t0 t
  blk_simp
  congr 1
  blk_ext
  all_goals first | exact whole_index rfl rfl | rfl

theorem blk5 (c : Dev nD) (t : Fin cfg0.N) : iblk m c 5 t = (V m c main_v8 : Vec Ideal S1x73728 .i32) := by
  funext y
  unfold iblk
  obtain rfl := t0 t
  blk_simp
  congr 1
  blk_ext
  all_goals first | exact whole_index rfl rfl | rfl

theorem blk6 (c : Dev nD) (t : Fin cfg0.N) : iblk m c 6 t = (V m c main_v19 : Vec Ideal S4x216x96 .i8) := by
  funext y
  unfold iblk
  obtain rfl := t0 t
  blk_simp
  congr 1
  blk_ext
  all_goals first | exact whole_index rfl rfl | rfl

theorem blk7 (c : Dev nD) (t : Fin cfg0.N) : iblk m c 7 t = (V m c main_v21 : Vec Ideal S4x1x216 .f32) := by
  funext y
  unfold iblk
  obtain rfl := t0 t
  blk_simp
  congr 1
  blk_ext
  all_goals first | exact whole_index rfl rfl | rfl

theorem emb8 (t : Fin cfg0.N) (y) : (win0_8.blk t).view.emb y = y := by
  obtain rfl := t0 t
  blk_ext
  all_goals first | exact whole_index rfl rfl | rfl

theorem emb9 (t : Fin cfg0.N) (y) : (win0_9.blk t).view.emb y = y := by
  obtain rfl := t0 t
  blk_ext
  all_goals first | exact whole_index rfl rfl | rfl

theorem emb10 (t : Fin cfg0.N) (y) : (win0_10.blk t).view.emb y = y := by
  obtain rfl := t0 t
  blk_ext
  all_goals first | exact whole_index rfl rfl | rfl

theorem emb11 (t : Fin cfg0.N) (y) : (win0_11.blk t).view.emb y = y := by
  obtain rfl := t0 t
  blk_ext
  all_goals first | exact whole_index rfl rfl | rfl

theorem emb12 (t : Fin cfg0.N) (y) : (win0_12.blk t).view.emb y = y := by
  obtain rfl := t0 t
  blk_ext
  all_goals first | exact whole_index rfl rfl | rfl

theorem staged0 (c : Dev nD) (t : Fin cfg0.N) :
    View.read (Elt Ideal) (View.whole cc0_stg0_0) ((hs0_0 t).unread (iblk m c 0 t)) = (V m c main_arg3 : Vec Ideal S1 .f32) :=
  ((hs0_0 t).read_unread _).trans (blk0 m c t)

theorem staged1 (c : Dev nD) (t : Fin cfg0.N) :
    View.read (Elt Ideal) (View.whole cc0_stg1_0) ((hs0_1 t).unread (iblk m c 1 t)) = (V m c main_arg0 : Vec Ideal S2560x8x96 .bf16) :=
  ((hs0_1 t).read_unread _).trans (blk1 m c t)

theorem staged2 (c : Dev nD) (t : Fin cfg0.N) :
    View.read (Elt Ideal) (View.whole cc0_stg2_0) ((hs0_2 t).unread (iblk m c 2 t)) = (V m c main_v15 : Vec Ideal S4x73728x96 .i8) :=
  ((hs0_2 t).read_unread _).trans (blk2 m c t)

theorem staged3 (c : Dev nD) (t : Fin cfg0.N) :
    View.read (Elt Ideal) (View.whole cc0_stg3_0) ((hs0_3 t).unread (iblk m c 3 t)) = (V m c main_v17 : Vec Ideal S4x1x73728 .f32) :=
  ((hs0_3 t).read_unread _).trans (blk3 m c t)

theorem staged4 (c : Dev nD) (t : Fin cfg0.N) :
    View.read (Elt Ideal) (View.whole cc0_stg4_0) ((hs0_4 t).unread (iblk m c 4 t)) = (V m c main_v18 : Vec Ideal S1x73728 .f32) :=
  ((hs0_4 t).read_unread _).trans (blk4 m c t)

theorem staged5 (c : Dev nD) (t : Fin cfg0.N) :
    View.read (Elt Ideal) (View.whole cc0_stg5_0) ((hs0_5 t).unread (iblk m c 5 t)) = (V m c main_v8 : Vec Ideal S1x73728 .i32) :=
  ((hs0_5 t).read_unread _).trans (blk5 m c t)

theorem staged6 (c : Dev nD) (t : Fin cfg0.N) :
    View.read (Elt Ideal) (View.whole cc0_stg6_0) ((hs0_6 t).unread (iblk m c 6 t)) = (V m c main_v19 : Vec Ideal S4x216x96 .i8) :=
  ((hs0_6 t).read_unread _).trans (blk6 m c t)

theorem staged7 (c : Dev nD) (t : Fin cfg0.N) :
    View.read (Elt Ideal) (View.whole cc0_stg7_0) ((hs0_7 t).unread (iblk m c 7 t)) = (V m c main_v21 : Vec Ideal S4x1x216 .f32) :=
  ((hs0_7 t).read_unread _).trans (blk7 m c t)

/-! ## The arguments, and the staged arrays in terms of them -/

abbrev X (c : Dev nD) (b : Fin 2560) (u : Fin 8) (d : Fin 96) : EReal :=
  (m ((c : Thread nD τ).loc main_arg0) : Vec Ideal S2560x8x96 .bf16) (ix3 b u d)
abbrev C (c : Dev nD) (n : Fin 73728) (k : Fin 4) (d : Fin 96) : BitVec 8 :=
  (m ((c : Thread nD τ).loc main_arg1) : Vec Ideal S73728x4x96 .i8) (ix3 n k d)
abbrev S (c : Dev nD) (n : Fin 73728) (k : Fin 4) : EReal :=
  (m ((c : Thread nD τ).loc main_arg2) : Vec Ideal S73728x4 .f32) (ix2 n k)
abbrev T (c : Dev nD) : EReal := (m ((c : Thread nD τ).loc main_arg3) : Vec Ideal S1 .f32) (ix1 0)
abbrev P (c : Dev nD) (n : Fin 73728) : EReal := (m ((c : Thread nD τ).loc main_arg4) : Vec Ideal S73728 .f32) (ix1 n)
abbrev W (c : Dev nD) (n : Fin 2304) : BitVec 32 := (m ((c : Thread nD τ).loc main_arg5) : Vec Ideal S2304 .i32) (ix1 n)

theorem ld_items (C : Vec Ideal S4x73728x96 .i8) (k : Fin 4) (h) (n : Fin 73728) (d : Fin 96) :
    View.ld C (Rect.unit ![k.val, 0, 0] ![1, 73728, 96] h) (ix3 0 n d) = C (ix3 k n d) := by
  pointwise

theorem ld_scale (C : Vec Ideal S4x1x73728 .f32) (k : Fin 4) (h) (n : Fin 73728) :
    View.ld C (Rect.unit ![k.val, 0, 0] ![1, 1, 73728] h) (ix3 0 0 n) = C (ix3 k 0 n) := by
  pointwise

theorem ld_shown (C : Vec Ideal S4x216x96 .i8) (k : Fin 4) (h) (n : Fin 216) (d : Fin 96) :
    View.ld C (Rect.unit ![k.val, 0, 0] ![1, 216, 96] h) (ix3 0 n d) = C (ix3 k n d) := by
  pointwise

theorem ld_shown_scale (C : Vec Ideal S4x1x216 .f32) (k : Fin 4) (h) (n : Fin 216) :
    View.ld C (Rect.unit ![k.val, 0, 0] ![1, 1, 216] h) (ix3 0 0 n) = C (ix3 k 0 n) := by
  pointwise

theorem in2 (c : Dev nD) (k : Fin 4) (n : Fin 73728) (d : Fin 96) :
    (V m c main_v15 : Vec Ideal S4x73728x96 .i8) (ix3 k n d) = C m c n k d := by
  entry_read
  pointwise

theorem in3 (c : Dev nD) (k : Fin 4) (n : Fin 73728) : (V m c main_v17 : Vec Ideal S4x1x73728 .f32) (ix3 k 0 n) = S m c n k := by
  entry_read
  pointwise

theorem in4 (c : Dev nD) (n : Fin 73728) : (V m c main_v18 : Vec Ideal S1x73728 .f32) (ix2 0 n) = P m c n := by
  entry_read
  pointwise

theorem in5 (c : Dev nD) (n : Fin 73728) : (V m c main_v8 : Vec Ideal S1x73728 .i32) (ix2 0 n) = bitAt (W m c) n := by
  unfold bitAt
  entry_read
  pointwise

theorem shown_row (j : Fin 72) (i : Fin 3) :
    (j.val * 3 + i.val) / 3 * 1024 + (j.val * 3 + i.val) % 3 = j.val * 1024 + i.val := by
  have := i.isLt
  omega

theorem in6 (c : Dev nD) (k : Fin 4) (j : Fin 72) (i : Fin 3) (d : Fin 96) :
    (V m c main_v19 : Vec Ideal S4x216x96 .i8) (ix3 k ⟨j.val * 3 + i.val, by omega⟩ d) = C m c ⟨j.val * 1024 + i.val, by omega⟩ k d := by
  entry_read
  pointwise
  exact congrArg (fun n => C m c n k d) (Fin.ext (shown_row j i))

theorem in7 (c : Dev nD) (k : Fin 4) (j : Fin 72) (i : Fin 3) :
    (V m c main_v21 : Vec Ideal S4x1x216 .f32) (ix3 k 0 ⟨j.val * 3 + i.val, by omega⟩) = S m c ⟨j.val * 1024 + i.val, by omega⟩ k := by
  entry_read
  pointwise
  exact congrArg (fun n => S m c n k) (Fin.ext (shown_row j i))

theorem in1 (c : Dev nD) : (V m c main_arg0 : Vec Ideal S2560x8x96 .bf16) = (m ((c : Thread nD τ).loc main_arg0) : Vec Ideal S2560x8x96 .bf16) :=
  V_main_arg0 m c

theorem in0 (c : Dev nD) (h) : (V m c main_arg3 : Vec Ideal S1 .f32) (Shape.Idx.first h) = T m c := by
  rw [V_main_arg3 m c]
  refine congrArg (m ((c : Thread nD τ).loc main_arg3) : Vec Ideal S1 .f32) ?_
  exact (eq_ix1 (n0 := 1) _).trans (congrArg ix1 (Subsingleton.elim _ _))

/-! ## The results -/

theorem scales (c : Dev nD) :
    (dats m 0 c).arrAt 12 cfg0.N = scaleVec (X m c) := by
  refine (dats m 0 c).arrAt_eq_of_covers 12 _ (by decide +kernel) fun t hf y => ?_
  blk_simp
  rw [after0_12]
  unfold outsAt0
  rw [emb12]
  frame_out
  rw [staged1, in1]
  exact (congrArg _ (eq_ix2 (n0 := 2560) (n1 := 8) y)).trans (pay3_at _ _ _)

theorem codes (c : Dev nD) :
    (dats m 0 c).arrAt 11 cfg0.N = codeVec (X m c) := by
  refine (dats m 0 c).arrAt_eq_of_covers 11 _ (by decide +kernel) fun t hf y => ?_
  blk_simp
  rw [after0_11]
  unfold outsAt0
  rw [emb11]
  frame_out
  rw [staged1, in1]
  exact (congrArg _ (eq_ix3 (n0 := 2560) (n1 := 8) (n2 := 96) y)).trans (pay4_at _ _ _ _)

/-- The scaled products with the items' vectors `k`. -/
theorem prods_at (c : Dev nD) (k : Fin 4) (Cv : Vec Ideal S1x73728x96 .i8) (Sv : Vec Ideal S1x1x73728 .f32)
    (hC : ∀ n d, Cv (ix3 0 n d) = C m c n k d) (hS : ∀ n, Sv (ix3 0 0 n) = S m c n k) (b : Fin 2560) (u : Fin 8)
    (n : Fin 73728) :
    k0_pay9 (F := Ideal) (k0_pay5 (m ((c : Thread nD τ).loc main_arg0) : Vec Ideal S2560x8x96 .bf16))
        (k0_pay6 (T m c) (m ((c : Thread nD τ).loc main_arg0) : Vec Ideal S2560x8x96 .bf16)) Cv Sv (ix3 b u n)
      = prodAt (X m c) (C m c) (S m c) (T m c) b n u k := by
  rw [pay9_at, pay6_at, hS]
  simp only [hC, pay5_at]
  rfl

theorem four_at (c : Dev nD) (A B D E : FVec Ideal S2560x8x73728 .f32)
    (hA : ∀ b u n, A (ix3 b u n) = prodAt (X m c) (C m c) (S m c) (T m c) b n u 0)
    (hB : ∀ b u n, B (ix3 b u n) = prodAt (X m c) (C m c) (S m c) (T m c) b n u 1)
    (hD : ∀ b u n, D (ix3 b u n) = prodAt (X m c) (C m c) (S m c) (T m c) b n u 2)
    (hE : ∀ b u n, E (ix3 b u n) = prodAt (X m c) (C m c) (S m c) (T m c) b n u 3) (b : Fin 2560) (n : Fin 73728) :
    four A B D E b n = prodAt (X m c) (C m c) (S m c) (T m c) b n := by
  funext u k
  unfold four
  rw [hA, hB, hD, hE]
  fin_cases k <;> rfl

theorem raw_at (c : Dev nD) (P' : FVec Ideal S1x73728 .f32) (hP : ∀ n, P' (ix2 0 n) = P m c n) (T' : FVec Ideal S2560x73728 .f32)
    (hT : ∀ b n, T' (ix2 b n) = (peakOf (prodAt (X m c) (C m c) (S m c) (T m c) b n)
      + Ideal.div (Ideal.log (denOf (prodAt (X m c) (C m c) (S m c) (T m c) b n)
          (peakOf (prodAt (X m c) (C m c) (S m c) (T m c) b n)))) ln2) * ln2) (b : Fin 2560) (n : Fin 73728) :
    T' (ix2 b n) - logP - P' (ix2 0 n) = rawAt (X m c) (C m c) (S m c) (T m c) (P m c) b n := by
  rw [hT, hP]
  rfl

/-- The scores before their constants, as the reference's body computes them. -/
def core (c : Dev nD) : FVec Ideal S2560x73728 .f32 :=
  (k0_pay13 (k0_pay5 (V m c main_arg0)) (k0_pay6 ((V m c main_arg3 : Vec Ideal S1 .f32) (ix1 0)) (V m c main_arg0))
        (k0_pay9 (k0_pay5 (V m c main_arg0)) (k0_pay6 ((V m c main_arg3 : Vec Ideal S1 .f32) (ix1 0)) (V m c main_arg0))
          (View.ld (V m c main_v15) (Rect.unit ![0, 0, 0] ![1, 73728, 96] inb_S4x73728x96_S1x73728x96_0_0_0))
          (View.ld (V m c main_v17) (Rect.unit ![0, 0, 0] ![1, 1, 73728] inb_S4x1x73728_S1x1x73728_0_0_0)))
        (k0_pay10 (k0_pay5 (V m c main_arg0)) (k0_pay6 ((V m c main_arg3 : Vec Ideal S1 .f32) (ix1 0)) (V m c main_arg0))
          (View.ld (V m c main_v15) (Rect.unit ![1, 0, 0] ![1, 73728, 96] inb_S4x73728x96_S1x73728x96_1_0_0))
          (View.ld (V m c main_v17) (Rect.unit ![1, 0, 0] ![1, 1, 73728] inb_S4x1x73728_S1x1x73728_1_0_0)))
        (k0_pay11 (k0_pay5 (V m c main_arg0)) (k0_pay6 ((V m c main_arg3 : Vec Ideal S1 .f32) (ix1 0)) (V m c main_arg0))
          (View.ld (V m c main_v15) (Rect.unit ![2, 0, 0] ![1, 73728, 96] inb_S4x73728x96_S1x73728x96_2_0_0)))
        (k0_pay12 (View.ld (V m c main_v17) (Rect.unit ![2, 0, 0] ![1, 1, 73728] inb_S4x1x73728_S1x1x73728_2_0_0)))
        (View.ld (V m c main_v15) (Rect.unit ![3, 0, 0] ![1, 73728, 96] inb_S4x73728x96_S1x73728x96_3_0_0))
        (View.ld (V m c main_v17) (Rect.unit ![3, 0, 0] ![1, 1, 73728] inb_S4x1x73728_S1x1x73728_3_0_0)))

theorem items_at (c : Dev nD) (k : Fin 4) (h) (n : Fin 73728) (d : Fin 96) :
    View.ld (V m c main_v15 : Vec Ideal S4x73728x96 .i8) (Rect.unit ![k.val, 0, 0] ![1, 73728, 96] h) (ix3 0 n d) = C m c n k d :=
  (ld_items _ k h n d).trans (in2 m c k n d)

theorem item_scales_at (c : Dev nD) (k : Fin 4) (h) (n : Fin 73728) :
    View.ld (V m c main_v17 : Vec Ideal S4x1x73728 .f32) (Rect.unit ![k.val, 0, 0] ![1, 1, 73728] h) (ix3 0 0 n) = S m c n k :=
  (ld_scale _ k h n).trans (in3 m c k n)

theorem core_at (c : Dev nD) (b : Fin 2560) (n : Fin 73728) :
    core m c (ix2 b n) = (peakOf (prodAt (X m c) (C m c) (S m c) (T m c) b n)
      + Ideal.div (Ideal.log (denOf (prodAt (X m c) (C m c) (S m c) (T m c) b n)
          (peakOf (prodAt (X m c) (C m c) (S m c) (T m c) b n)))) ln2) * ln2 := by
  unfold core
  rw [pay13_at, pay10_eq, pay11_eq, in1, V_main_arg3 m c, four_at m c]
  · exact fun b u n => prods_at m c 0 _ _ (items_at m c 0 _) (item_scales_at m c 0 _) b u n
  · exact fun b u n => prods_at m c 1 _ _ (items_at m c 1 _) (item_scales_at m c 1 _) b u n
  · exact fun b u n => prods_at m c 2 _ _ (items_at m c 2 _) (item_scales_at m c 2 _) b u n
  · exact fun b u n => prods_at m c 3 _ _ (items_at m c 3 _) (item_scales_at m c 3 _) b u n

theorem first_one (h) : Shape.Idx.first (s := S1) h = ix1 0 := (eq_ix1 (n0 := 1) _).trans (congrArg ix1 (Subsingleton.elim _ _))

theorem valid_at (c : Dev nD) (n : Fin 73728) :
    k0_pay8 (F := Ideal) (V m c main_v8 : Vec Ideal S1x73728 .i32) (ix2 0 n) = validAt (W m c) n := by
  rw [pay8_at, in5]
  rfl

theorem penalty_at (c : Dev nD) (n : Fin 73728) :
    k0_pay7 (F := Ideal) (V m c main_v18 : Vec Ideal S1x73728 .f32) (ix2 0 n) = P m c n := by
  rw [pay7_at, in4]

theorem score_at (c : Dev nD) (b : Fin 2560) (n : Fin 73728) :
    k0_pay15 (k0_pay7 (V m c main_v18)) (k0_pay8 (F := Ideal) (V m c main_v8)) (core m c) (ix2 b n)
      = scoreAt (X m c) (C m c) (S m c) (T m c) (P m c) (W m c) b n := by
  rw [pay15_at, raw_at m c _ (penalty_at m c) _ (core_at m c), valid_at]
  rfl

theorem score_all (c : Dev nD) (y : S2560x73728.Idx) :
    k0_pay15 (k0_pay7 (V m c main_v18)) (k0_pay8 (F := Ideal) (V m c main_v8)) (core m c) y
      = scoreVec (X m c) (C m c) (S m c) (T m c) (P m c) (W m c) y :=
  (congrArg (k0_pay15 _ _ (core m c)) (eq_ix2 (n0 := 2560) (n1 := 73728) y)).trans (score_at m c _ _)

/-- The best of a block's valid scores, zero if it has none. -/
def topForm (v : Fin 73728 → BitVec 1) (r : Fin 73728 → EReal) (j : Fin 72) : EReal :=
  if 0 < Finset.univ.fold max (⊥ : EReal) fun i : Fin 1024 =>
      Scalar.select (v ⟨j.val * 1024 + i.val, by omega⟩) (1 : EReal) 0
  then Finset.univ.fold max (⊥ : EReal) fun i : Fin 1024 =>
      Scalar.select (v ⟨j.val * 1024 + i.val, by omega⟩) (r ⟨j.val * 1024 + i.val, by omega⟩) ⊥
  else 0

theorem top_at (c : Dev nD) (b : Fin 2560) (j : Fin 72) :
    k0_pay16 (k0_pay7 (V m c main_v18)) (k0_pay8 (F := Ideal) (V m c main_v8)) (core m c) (ix2 b j)
      = topAt (X m c) (C m c) (S m c) (T m c) (P m c) (W m c) b j := by
  have hv : (fun n => k0_pay8 (F := Ideal) (V m c main_v8) (ix2 0 n)) = validAt (W m c) := funext (valid_at m c)
  have hr : (fun n => core m c (ix2 b n) - logP - k0_pay7 (F := Ideal) (V m c main_v18) (ix2 0 n))
      = rawAt (X m c) (C m c) (S m c) (T m c) (P m c) b := funext (raw_at m c _ (penalty_at m c) _ (core_at m c) b)
  refine (pay16_at _ _ _ _ _).trans ?_
  change topForm (fun n => k0_pay8 (F := Ideal) (V m c main_v8) (ix2 0 n))
    (fun n => core m c (ix2 b n) - logP - k0_pay7 (F := Ideal) (V m c main_v18) (ix2 0 n)) j = _
  rw [hv, hr]
  rfl

theorem top_all (c : Dev nD) (y : S2560x72.Idx) :
    k0_pay16 (k0_pay7 (V m c main_v18)) (k0_pay8 (F := Ideal) (V m c main_v8)) (core m c) y
      = topVec (X m c) (C m c) (S m c) (T m c) (P m c) (W m c) y :=
  (congrArg (k0_pay16 _ _ (core m c)) (eq_ix2 (n0 := 2560) (n1 := 72) y)).trans (top_at m c _ _)

theorem scores (c : Dev nD) :
    (dats m 0 c).arrAt 8 cfg0.N = scoreVec (X m c) (C m c) (S m c) (T m c) (P m c) (W m c) := by
  refine (dats m 0 c).arrAt_eq_of_covers 8 _ (by decide +kernel) fun t hf y => ?_
  blk_simp
  rw [after0_8]
  unfold outsAt0 out0_A_8
  rw [emb8]
  frame_out
  rw [staged0, staged1, staged2, staged3, staged4, staged5, first_one]
  exact score_all m c y

theorem tops (c : Dev nD) :
    (dats m 0 c).arrAt 9 cfg0.N = topVec (X m c) (C m c) (S m c) (T m c) (P m c) (W m c) := by
  refine (dats m 0 c).arrAt_eq_of_covers 9 _ (by decide +kernel) fun t hf y => ?_
  blk_simp
  rw [after0_9]
  unfold outsAt0 out0_A_9
  rw [emb9]
  frame_out
  rw [staged0, staged1, staged2, staged3, staged4, staged5, first_one]
  exact top_all m c y

/-- The logits of one of an item's vectors, for the shown items. -/
theorem logit_at (c : Dev nD) (k : Fin 4) (Cv : Vec Ideal S1x216x96 .i8) (Sv : Vec Ideal S1x1x216 .f32)
    (hC : ∀ (j : Fin 72) (i : Fin 3) (d : Fin 96), Cv (ix3 0 ⟨j.val * 3 + i.val, by omega⟩ d) = C m c ⟨j.val * 1024 + i.val, by omega⟩ k d)
    (hS : ∀ (j : Fin 72) (i : Fin 3), Sv (ix3 0 0 ⟨j.val * 3 + i.val, by omega⟩) = S m c ⟨j.val * 1024 + i.val, by omega⟩ k)
    (b : Fin 2560) (u : Fin 8) (j : Fin 72) (i : Fin 3) :
    logits (T m c) (k0_pay3 (m ((c : Thread nD τ).loc main_arg0) : Vec Ideal S2560x8x96 .bf16))
        (k0_pay5 (m ((c : Thread nD τ).loc main_arg0) : Vec Ideal S2560x8x96 .bf16)) Cv Sv
        (ix3 b u ⟨j.val * 3 + i.val, by omega⟩)
      = showAt (X m c) (C m c) (S m c) (T m c) b j i u k := by
  rw [logits_at, pay3_at, hS]
  simp only [hC, pay5_at]
  rfl

theorem shown_index (y : S2560x72x3x32.Idx) :
    y = ix4 (y 0 : Fin 2560) (y 1 : Fin 72) (y 2 : Fin 3)
      ⟨(lane (y 3)).1.val * 4 + (lane (y 3)).2.val, by have := (lane (y 3)).1.isLt; have := (lane (y 3)).2.isLt; omega⟩ := by
  refine (eq_ix4 (n0 := 2560) (n1 := 72) (n2 := 3) (n3 := 32) y).trans (congrArg (ix4 _ _ _) (Fin.ext ?_))
  change (y 3).val = (y 3).val / 4 * 4 + (y 3).val % 4
  omega

theorem shown_at (c : Dev nD) (k : Fin 4) (h : ∀ a, (![k.val, 0, 0] : Fin 3 → ℕ) a + (![1, 216, 96] : Fin 3 → ℕ) a ≤ S4x216x96.size a)
    (j : Fin 72) (i : Fin 3) (d : Fin 96) :
    View.ld (V m c main_v19 : Vec Ideal S4x216x96 .i8) (Rect.unit ![k.val, 0, 0] ![1, 216, 96] h)
        (ix3 0 ⟨j.val * 3 + i.val, by omega⟩ d) = C m c ⟨j.val * 1024 + i.val, by omega⟩ k d :=
  (ld_shown _ k h _ d).trans (in6 m c k j i d)

theorem shown_scale_at (c : Dev nD) (k : Fin 4) (h : ∀ a, (![k.val, 0, 0] : Fin 3 → ℕ) a + (![1, 1, 216] : Fin 3 → ℕ) a ≤ S4x1x216.size a)
    (j : Fin 72) (i : Fin 3) :
    View.ld (V m c main_v21 : Vec Ideal S4x1x216 .f32) (Rect.unit ![k.val, 0, 0] ![1, 1, 216] h)
        (ix3 0 0 ⟨j.val * 3 + i.val, by omega⟩) = S m c ⟨j.val * 1024 + i.val, by omega⟩ k :=
  (ld_shown_scale _ k h _).trans (in7 m c k j i)

/-- The logits of the items' vectors `k`, as the reference's body computes them. -/
def logitsOf (c : Dev nD) (k : Fin 4) (h : ∀ a, (![k.val, 0, 0] : Fin 3 → ℕ) a + (![1, 216, 96] : Fin 3 → ℕ) a ≤ S4x216x96.size a)
    (h' : ∀ a, (![k.val, 0, 0] : Fin 3 → ℕ) a + (![1, 1, 216] : Fin 3 → ℕ) a ≤ S4x1x216.size a) : FVec Ideal S2560x8x216 .f32 :=
  logits (T m c) (k0_pay3 (m ((c : Thread nD τ).loc main_arg0) : Vec Ideal S2560x8x96 .bf16))
    (k0_pay5 (m ((c : Thread nD τ).loc main_arg0) : Vec Ideal S2560x8x96 .bf16))
    (View.ld (V m c main_v19 : Vec Ideal S4x216x96 .i8) (Rect.unit ![k.val, 0, 0] ![1, 216, 96] h))
    (View.ld (V m c main_v21 : Vec Ideal S4x1x216 .f32) (Rect.unit ![k.val, 0, 0] ![1, 1, 216] h'))

theorem logitsOf_at (c : Dev nD) (k : Fin 4) (h) (h') (b : Fin 2560) (u : Fin 8) (j : Fin 72) (i : Fin 3) :
    logitsOf m c k h h' (ix3 b u ⟨j.val * 3 + i.val, by omega⟩) = showAt (X m c) (C m c) (S m c) (T m c) b j i u k :=
  logit_at m c k _ _ (shown_at m c k h) (shown_scale_at m c k h') b u j i

theorem show_all (c : Dev nD) (y : S2560x72x3x32.Idx) :
    stacked (logitsOf m c 0 inb_S4x216x96_S1x216x96_0_0_0 inb_S4x1x216_S1x1x216_0_0_0)
      (logitsOf m c 1 inb_S4x216x96_S1x216x96_1_0_0 inb_S4x1x216_S1x1x216_1_0_0)
      (logitsOf m c 2 inb_S4x216x96_S1x216x96_2_0_0 inb_S4x1x216_S1x1x216_2_0_0)
      (logitsOf m c 3 inb_S4x216x96_S1x216x96_3_0_0 inb_S4x1x216_S1x1x216_3_0_0) y
      = showVec (X m c) (C m c) (S m c) (T m c) y := by
  refine (congrArg (stacked _ _ _ _) (shown_index y)).trans ((stacked_at _ _ _ _ _ _ _ (lane (y 3)).1 (lane (y 3)).2).trans ?_)
  change _ = showAt _ _ _ _ (y 0) (y 1) (y 2) (lane (y 3)).1 (lane (y 3)).2
  generalize (lane (y 3)).2 = k, (lane (y 3)).1 = u
  fin_cases k
  · exact logitsOf_at m c 0 _ _ _ _ _ _
  · exact logitsOf_at m c 1 _ _ _ _ _ _
  · exact logitsOf_at m c 2 _ _ _ _ _ _
  · exact logitsOf_at m c 3 _ _ _ _ _ _

theorem shows (c : Dev nD) :
    (dats m 0 c).arrAt 10 cfg0.N = showVec (X m c) (C m c) (S m c) (T m c) := by
  refine (dats m 0 c).arrAt_eq_of_covers 10 _ (by decide +kernel) fun t hf y => ?_
  blk_simp
  rw [after0_10]
  unfold outsAt0 out0_A_10
  rw [emb10]
  frame_out
  rw [staged0, staged1, staged6, staged7, first_one, in1, V_main_arg3 m c, pay1_eq, pay18_eq, pay20_eq]
  exact show_all m c y

end Cert.ReferenceIdeal.Value

end
-- ==== Proof.ScoreTile.lean ====
module

public import proofs.«01_k».proof.Proof.ScoreTrip
public import proofs.«01_k».proof.Proof.Spec

@[expose] public section

set_option maxRecDepth 16384

noncomputable section

/-! # One user block of the scoring loop, entry by entry -/

namespace Cert.KernelIdeal.ScoreTile

open Cert.KernelIdeal Cert.KernelIdeal.Gen Cert.KernelIdeal.Score
open Idealize.ShloMosaic Idealize.ShloMosaic.TcCoe
open Cert.Spec

/-! ## Left folds -/

theorem foldTo_le (f : ℕ → EReal) (n : ℕ) (a : EReal) : foldTo max f n ≤ a ↔ ∀ i ≤ n, f i ≤ a := by
  induction n with
  | zero => simp [foldTo]
  | succ n ih =>
      rw [foldTo, max_le_iff, ih]
      constructor
      · rintro ⟨h, h'⟩ i hi
        rcases Nat.lt_or_ge n i with h1 | h1
        · rw [show i = n + 1 by omega]; exact h'
        · exact h i h1
      · intro h
        exact ⟨fun i hi => h i (by omega), h _ le_rfl⟩

theorem foldTo_add (f : ℕ → EReal) (n : ℕ) : foldTo (· + ·) f n = ∑ i ∈ Finset.range (n + 1), f i := by
  induction n with
  | zero => simp [foldTo]
  | succ n ih => rw [foldTo, ih, Finset.sum_range_succ _ (n + 1)]

/-- The 32 numbers of a family in the order the loop takes them. -/
def nth (s : Fin 8 → Fin 4 → EReal) (n : ℕ) : EReal := s (Fin.ofNat 8 (n % 8)) (Fin.ofNat 4 (n / 8))

theorem foldTo_max_eq (s : Fin 8 → Fin 4 → EReal) :
    foldTo max (nth s) 31 = Finset.univ.fold max ⊥ fun u => max (max (max (s u 0) (s u 1)) (s u 2)) (s u 3) := by
  refine eq_of_forall_ge_iff fun a => ?_
  rw [foldTo_le, Finset.fold_max_le]
  constructor
  · intro h
    refine ⟨bot_le, fun u _ => ?_⟩
    have key : ∀ k : Fin 4, s u k ≤ a := fun k => by
      have := h (8 * k.val + u.val) (by omega)
      unfold nth at this
      have e1 : Fin.ofNat 8 ((8 * k.val + u.val) % 8) = u := Fin.ext (by simp [Fin.ofNat])
      have e2 : Fin.ofNat 4 ((8 * k.val + u.val) / 8) = k := Fin.ext (by simp [Fin.ofNat]; omega)
      rwa [e1, e2] at this
    exact max_le (max_le (max_le (key 0) (key 1)) (key 2)) (key 3)
  · rintro ⟨-, h⟩ i _
    unfold nth
    have := h (Fin.ofNat 8 (i % 8)) (Finset.mem_univ _)
    simp only [max_le_iff] at this
    obtain ⟨⟨⟨h0, h1⟩, h2⟩, h3⟩ := this
    generalize Fin.ofNat 4 (i / 8) = k
    fin_cases k
    exacts [h0, h1, h2, h3]

theorem foldTo_sum_eq (s : Fin 8 → Fin 4 → EReal) :
    foldTo (· + ·) (nth s) 31 = ∑ u, (s u 0 + s u 1 + s u 2 + s u 3) := by
  rw [foldTo_add]
  simp only [Fin.sum_univ_eight, Finset.sum_range_succ, Finset.sum_range_zero, zero_add]
  change s 0 0 + s 1 0 + s 2 0 + s 3 0 + s 4 0 + s 5 0 + s 6 0 + s 7 0
    + s 0 1 + s 1 1 + s 2 1 + s 3 1 + s 4 1 + s 5 1 + s 6 1 + s 7 1
    + s 0 2 + s 1 2 + s 2 2 + s 3 2 + s 4 2 + s 5 2 + s 6 2 + s 7 2
    + s 0 3 + s 1 3 + s 2 3 + s 3 3 + s 4 3 + s 5 3 + s 6 3 + s 7 3 = _
  ac_rfl

section Fold

variable {S : Shape}

theorem foldTo_max_at (t : ℕ → FVec Ideal S .f32) (n : ℕ) (y : S.Idx) :
    foldTo maximumf t n y = foldTo max (fun i => t i y) n := by
  induction n with
  | zero => rfl
  | succ n ih => rw [foldTo, foldTo, ← ih]; rfl

theorem foldTo_add_at (t : ℕ → FVec Ideal S .f32) (n : ℕ) (y : S.Idx) :
    foldTo addf t n y = foldTo (· + ·) (fun i => t i y) n := by
  induction n with
  | zero => rfl
  | succ n ih => rw [foldTo, foldTo, ← ih]; rfl

end Fold

/-! ## The scores of a user block -/

section Tile

variable (W : Fin 4 → FVec Ideal S96x512 .bf16) (L : Vec Ideal S4x64x128 .bf16) (G : Vec Ideal S4x64x128 .f32)
  (Sc : Fin 4 → Fin 4 → Vec Ideal S1x128 .f32) (Va Ba : Fin 4 → Vec Ideal S1x128 .f32)

theorem codes_at (B : Vec Ideal S1x96x512 .i8) (d : Fin 96) (q : Fin 512) :
    k1_pay1112 (F := Ideal) B (ix2 d q) = FloatOps.sitofp (F := Ideal) .bf16 (B (ix3 0 d q)) := by
  pointwise [k1_pay1112]

theorem users_at (g : Fin 4) (p : Fin 64) (d : Fin 96) :
    k1_pay2 (F := Ideal) L (ix2 ⟨64 * g.val + p.val, by omega⟩ d) = L (ix3 g p ⟨d.val, by omega⟩) := by
  pointwise [k1_pay2]

theorem dots_at (k : Fin 4) (r : Fin 256) (n : Fin 512) :
    dots W L k (ix2 r n) = ∑ d : Fin 96, k1_pay2 (F := Ideal) L (ix2 r d) * W k (ix2 d n) := by
  unfold dots
  generalize k1_pay2 (F := Ideal) L = A
  pointwise

theorem term_at (g c k : Fin 4) (u s : Fin 8) (j : Fin 128) :
    term W L G Sc g c k u (ix2 s j)
      = (∑ d : Fin 96, L (ix3 g ⟨8 * u.val + s.val, by omega⟩ ⟨d.val, by omega⟩) * W k (ix2 d ⟨128 * c.val + j.val, by omega⟩))
        * G (ix3 g ⟨8 * u.val + s.val, by omega⟩ j) * Sc k c (ix2 0 j) := by
  have e : dots W L k (ix2 ⟨64 * g.val + (8 * u.val + s.val), by omega⟩ ⟨128 * c.val + j.val, by omega⟩)
      = ∑ d : Fin 96, L (ix3 g ⟨8 * u.val + s.val, by omega⟩ ⟨d.val, by omega⟩) * W k (ix2 d ⟨128 * c.val + j.val, by omega⟩) := by
    rw [dots_at]
    exact Finset.sum_congr rfl fun d _ => congrArg (· * _) (users_at L g ⟨8 * u.val + s.val, by omega⟩ d)
  rw [← e]
  unfold term
  generalize dots W L k = D
  pointwise
  exact congrArg (fun r => D (ix2 r ⟨128 * c.val + j.val, by omega⟩) * G (ix3 g ⟨8 * u.val + s.val, by omega⟩ j) * Sc k c (ix2 0 j))
    (Fin.ext (by simp only []; omega))

/-- The 32 scaled products of one user and item. -/
def prods (g c : Fin 4) (s : Fin 8) (j : Fin 128) (u : Fin 8) (k : Fin 4) : EReal := term W L G Sc g c k u (ix2 s j)

theorem peak_at (g c : Fin 4) (s : Fin 8) (j : Fin 128) :
    peak W L G Sc g c (ix2 s j) = peakOf (prods W L G Sc g c s j) := by
  unfold peakOf peak
  rw [← foldTo_max_eq]
  exact congrArg (Ideal.liftRound Int.ceil) (foldTo_max_at _ _ _)

theorem den_at (g c : Fin 4) (s : Fin 8) (j : Fin 128) :
    den W L G Sc g c (ix2 s j) = denOf (prods W L G Sc g c s j) (peakOf (prods W L G Sc g c s j)) := by
  unfold denOf den
  rw [foldTo_add_at, ← peak_at]
  exact foldTo_sum_eq fun u k => FloatOps.exp2 (F := Ideal) (φ := .f32) (prods W L G Sc g c s j u k - peak W L G Sc g c (ix2 s j))

theorem score_at (g c : Fin 4) (s : Fin 8) (j : Fin 128) :
    score W L G Sc Ba g c (ix2 s j) = scoreOf (prods W L G Sc g c s j) (Ba c (ix2 0 j)) := by
  rw [scoreOf_eq, ← den_at, ← peak_at]
  unfold score
  generalize peak W L G Sc g c = A
  generalize den W L G Sc g c = B
  pointwise
  rfl

/-- Whether the item's word is not zero. -/
def isValid (v : EReal) : BitVec 1 := BitVec.ofBool (decide (v ≠ 0))

theorem mask_at (c : Fin 4) (s : Fin 8) (j : Fin 128) : mask Va c (ix2 s j) = isValid (Va c (ix2 0 j)) := by
  unfold mask
  pointwise
  rfl

theorem shown_at (g c : Fin 4) (s : Fin 8) (j : Fin 128) : shown W L G Sc Va Ba g c (ix2 s j)
    = Scalar.select (isValid (Va c (ix2 0 j))) (scoreOf (prods W L G Sc g c s j) (Ba c (ix2 0 j))) 0 := by
  rw [← mask_at Va c s j, ← score_at]
  unfold shown
  generalize mask Va c = A
  generalize score W L G Sc Ba g c = B
  pointwise
  first | done | rfl | simp [Ideal.ofBits, Ideal.ieee]

theorem ranked_at (g c : Fin 4) (s : Fin 8) (j : Fin 128) : ranked W L G Sc Va Ba g c (ix2 s j)
    = Scalar.select (isValid (Va c (ix2 0 j))) (scoreOf (prods W L G Sc g c s j) (Ba c (ix2 0 j))) ⊥ := by
  rw [← mask_at Va c s j, ← score_at]
  unfold ranked
  generalize mask Va c = A
  generalize score W L G Sc Ba g c = B
  pointwise
  first | done | rfl | simp [Ideal.ofBits, Ideal.ieee]

/-- Four lane columns side by side. -/
def joined (A : Fin 4 → FVec Ideal S8x128 .f32) : FVec Ideal S8x512 .bf16 :=
  truncf .bf16 (concatenate S8x512 1 [⟨S8x128, A 0⟩, ⟨S8x128, A 1⟩, ⟨S8x128, A 2⟩, ⟨S8x128, A 3⟩]
    concatenates_S8x128_S8x128_S8x128_S8x128_S8x512_d1) bitsLt_bf16_f32

theorem joined_at (A : Fin 4 → FVec Ideal S8x128 .f32) (s : Fin 8) (n : Fin 512) :
    joined A (ix2 s n) = A ⟨n.val / 128, by omega⟩ (ix2 s ⟨n.val % 128, by omega⟩) := by
  unfold joined
  pointwise
  split_ifs
  all_goals exact congrArg₂ (fun c j => A c (ix2 s j)) (Fin.ext (by simp; omega)) (Fin.ext (by simp only []; omega))

theorem rows_at (g : Fin 4) (s : Fin 8) (n : Fin 512) : rows W L G Sc Va Ba g (ix2 s n)
    = shown W L G Sc Va Ba g ⟨n.val / 128, by omega⟩ (ix2 s ⟨n.val % 128, by omega⟩) :=
  joined_at (fun c => shown W L G Sc Va Ba g c) s n

/-- The largest entry of a row. -/
def rowMax (A : FVec Ideal S8x128 .f32) : FVec Ideal S8x1 .f32 :=
  shapeCast S8x1 (multiReduction .maximumf [1] S8 A 0xFF800000#32 reduces_S8x128_S8 (.inl rfl) rfl) shapeCasts_S8_S8x1

theorem rowMax_at (A : FVec Ideal S8x128 .f32) (s : Fin 8) :
    rowMax A (ix2 s 0) = Finset.univ.fold max (Ideal.ofBits .f32 0xFF800000#32) fun j : Fin 128 => A (ix2 s j) := by
  unfold rowMax
  pointwise

/-- The largest entry of four lane columns. -/
def colMax (A : Fin 4 → FVec Ideal S8x128 .f32) : FVec Ideal S8x128 .f32 :=
  maximumf (maximumf (maximumf (maximumf (broadcast S8x128 (Scalar.ofBits .f32 0xFF800000#32)) (A 0)) (A 1)) (A 2)) (A 3)

theorem colMax_at (A : Fin 4 → FVec Ideal S8x128 .f32) (y : S8x128.Idx) :
    colMax A y = max (max (max (max (Ideal.ofBits .f32 0xFF800000#32) (A 0 y)) (A 1 y)) (A 2 y)) (A 3 y) := rfl

theorem bottom : Ideal.ofBits .f32 0xFF800000#32 = ⊥ := by simp [Ideal.ofBits, Ideal.ieee]

theorem best_le (g : Fin 4) (s : Fin 8) (a : EReal) : best W L G Sc Va Ba g (ix2 s 0) ≤ a
    ↔ ∀ (c : Fin 4) (j : Fin 128), ranked W L G Sc Va Ba g c (ix2 s j) ≤ a := by
  have e : best W L G Sc Va Ba g = rowMax (colMax fun c => ranked W L G Sc Va Ba g c) := rfl
  rw [e, rowMax_at, Finset.fold_max_le, bottom]
  change _ ↔ ∀ (c : Fin 4) (j : Fin 128), (fun c => ranked W L G Sc Va Ba g c) c (ix2 s j) ≤ a
  generalize (fun c => ranked W L G Sc Va Ba g c) = A
  simp only [colMax_at, bottom, max_le_iff, bot_le, true_and, Finset.mem_univ, forall_const]
  constructor
  · intro h c j
    obtain ⟨⟨⟨h0, h1⟩, h2⟩, h3⟩ := h j
    fin_cases c
    exacts [h0, h1, h2, h3]
  · exact fun h j => ⟨⟨⟨h 0 j, h 1 j⟩, h 2 j⟩, h 3 j⟩

theorem raised_at (block : BitVec 32) (lane : IVec S8x128 32) (g : Fin 4) (old : Vec Ideal S8x128 .f32) (s : Fin 8) (l : Fin 128) :
    raised W L G Sc Va Ba block lane g old (ix2 s l)
      = Scalar.select (IntOp.cmpi CmpIPredicate.eq (lane (ix2 s l)) block)
          (max (old (ix2 s l)) (best W L G Sc Va Ba g (ix2 s 0))) (old (ix2 s l)) := by
  unfold raised
  generalize best W L G Sc Va Ba g = B
  pointwise

end Tile

end Cert.KernelIdeal.ScoreTile

end
-- ==== Proof.QuantTile.lean ====
module

public import proofs.«01_k».proof.Proof.Gen.KernelIdeal.Skeleton
public import proofs.«01_k».proof.Proof.Spec

/-!
# The first call's vector terms at an index

One interest of 512 users at a time, features down and users across. The printed terms of the eight interests are cut
differently, but each is the same function of its tile; those functions are read here at one index.
-/

@[expose] public section

set_option maxRecDepth 16384

noncomputable section

namespace Cert.KernelIdeal.QuantTile

open Cert.KernelIdeal Cert.KernelIdeal.Gen
open Idealize.ShloMosaic
open Cert.Spec

/-- The largest entry of each column of 96. -/
def colMax (v : FVec Ideal S96x512 .f32) : FVec Ideal S512 .f32 :=
  multiReduction (F := Ideal) .maximumf [0] S512 v 0xFF800000#32 reduces_S96x512_S512 (.inl rfl) rfl

theorem colMax_at (v : FVec Ideal S96x512 .f32) (q : Fin 512) :
    colMax v (ix1 q) = Finset.univ.fold max (Ideal.ofBits FTy.f32 0xFF800000#32) fun k : Fin 96 => v (ix2 k q) := by
  unfold colMax
  pointwise

/-- The scales from the largest magnitudes. -/
def scales (a : FVec Ideal S1x512 .f32) : FVec Ideal S1x512 .f32 :=
  select (cmpf (F := Ideal) .oeq a (broadcast S1x512 (Scalar.ofBits (F := Ideal) .f32 0x00000000#32)))
    (broadcast S1x512 (Scalar.ofBits (F := Ideal) .f32 0x3F800000#32))
    (divf a (broadcast S1x512 (Scalar.ofBits (F := Ideal) .f32 0x42FE0000#32)))

theorem scales_at (a : FVec Ideal S1x512 .f32) (q : Fin 512) : scales a (ix2 0 q) = scaleOf (a (ix2 0 q)) := by
  unfold scales scaleOf
  pointwise

/-- A row of the columns' maxima. -/
def row (a : FVec Ideal S512 .f32) : FVec Ideal S1x512 .f32 := shapeCast S1x512 a shapeCasts_S512_S1x512

theorem row_at (a : FVec Ideal S512 .f32) (q : Fin 512) : row a (ix2 0 q) = a (ix1 q) := by
  unfold row
  pointwise

theorem wide_at (x : Vec Ideal S1x96x512 .bf16) (d : Fin 96) (q : Fin 512) :
    k0_pay5 (F := Ideal) x (ix2 d q) = x (ix3 0 d q) := by
  pointwise [k0_pay5]

theorem abs_at (x : Vec Ideal S1x96x512 .bf16) (d : Fin 96) (q : Fin 512) :
    absf (F := Ideal) (k0_pay5 x) (ix2 d q) = FloatOps.absf (F := Ideal) (φ := .f32) (x (ix3 0 d q)) := by
  pointwise [k0_pay5]

theorem scale_eq (x : Vec Ideal S1x96x512 .bf16) : k0_pay6 (F := Ideal) x = scales (row (colMax (absf (k0_pay5 x)))) := by
  unfold k0_pay6 scales row colMax
  rfl

theorem scale_at (x : Vec Ideal S1x96x512 .bf16) (q : Fin 512) :
    k0_pay6 (F := Ideal) x (ix2 0 q) = scaleOf (biggest fun d => x (ix3 0 d q)) := by
  rw [scale_eq, scales_at, row_at, colMax_at]
  refine congrArg scaleOf (congrArg (fun f => Finset.univ.fold max (Ideal.ofBits FTy.f32 0xFF800000#32) f) (funext fun d => abs_at x d q))

/-- The levels of `x` at given scales. -/
def levels (x : FVec Ideal S96x512 .f32) (s : FVec Ideal S1x512 .f32) : FVec Ideal S96x512 .f32 :=
  minimumf (broadcast S96x512 (Scalar.ofBits (F := Ideal) .f32 0x42FE0000#32))
    (maximumf (broadcast S96x512 (Scalar.ofBits (F := Ideal) .f32 0xC2FE0000#32))
      (roundeven (divf x (broadcastTo S96x512 s broadcasts_S1x512_S96x512))))

theorem ofBits_top : Ideal.ofBits .f32 0x42FE0000#32 = ((127 : ℝ) : EReal) := by
  simp [Ideal.ofBits, Ideal.ieee]
  rw [← EReal.coe_mul]
  norm_num

theorem ofBits_low : Ideal.ofBits .f32 0xC2FE0000#32 = ((-127 : ℝ) : EReal) := by
  simp [Ideal.ofBits, Ideal.ieee]
  rw [← EReal.coe_mul]
  norm_num

theorem levels_at (x : FVec Ideal S96x512 .f32) (s : FVec Ideal S1x512 .f32) (d : Fin 96) (q : Fin 512) :
    levels x s (ix2 d q) = levelOf (x (ix2 d q)) (s (ix2 0 q)) := by
  unfold levels levelOf
  pointwise
  rw [ofBits_top, ofBits_low, show (127#32 : BitVec 32).toInt = 127 by decide,
    show (4294967169#32 : BitVec 32).toInt = -127 by decide]
  norm_num

theorem level_eq (x : Vec Ideal S1x96x512 .bf16) : k0_pay7 (F := Ideal) x = levels (k0_pay5 x) (k0_pay6 x) := by
  unfold k0_pay7 levels
  rfl

theorem level_at (x : Vec Ideal S1x96x512 .bf16) (d : Fin 96) (q : Fin 512) :
    k0_pay7 (F := Ideal) x (ix2 d q) = levelOf (x (ix3 0 d q)) (scaleOf (biggest fun d => x (ix3 0 d q))) := by
  rw [level_eq, levels_at, wide_at, scale_at]

/-- Codes as a tile with a leading axis. -/
def narrow (v : FVec Ideal S96x512 .f32) : IVec S1x96x512 8 :=
  shapeCast S1x96x512 (fptosi (F := Ideal) 8 v) shapeCasts_S96x512_S1x96x512

theorem narrow_at (v : FVec Ideal S96x512 .f32) (d : Fin 96) (q : Fin 512) :
    narrow v (ix3 0 d q) = FloatOps.fptosi (F := Ideal) (φ := .f32) 8 (v (ix2 d q)) := by
  unfold narrow
  pointwise

theorem code_eq (x : Vec Ideal S1x96x512 .bf16) : k0_pay8 (F := Ideal) x = narrow (k0_pay7 x) := by
  unfold k0_pay8 narrow
  rfl

theorem code_at (x : Vec Ideal S1x96x512 .bf16) (d : Fin 96) (q : Fin 512) :
    k0_pay8 (F := Ideal) x (ix3 0 d q) = codeOf (x (ix3 0 d q)) (scaleOf (biggest fun d => x (ix3 0 d q))) := by
  rw [code_eq, narrow_at, level_at]
  rfl

/-- Levels padded to 128 lanes, users down, in groups of eight. -/
def spread (v : FVec Ideal S96x512 .f32) (z : FVec Ideal S32x512 .f32) : FVec Ideal S64x8x128 .f32 :=
  shapeCast S64x8x128 (transpose S512x128 [1, 0]
    (concatenate S128x512 0 [⟨S96x512, v⟩, ⟨S32x512, z⟩] concatenates_S96x512_S32x512_S128x512_d0)
    transposes_S128x512_p1_0_S512x128) shapeCasts_S512x128_S64x8x128

theorem spread_at (v : FVec Ideal S96x512 .f32) (z : FVec Ideal S32x512 .f32) (r : Fin 64) (s : Fin 8) (d : Fin 96) :
    spread v z (ix3 r s ⟨d.val, by omega⟩) = v (ix2 d ⟨r.val * 8 + s.val, by omega⟩) := by
  unfold spread
  pointwise

theorem spread_pad (v : FVec Ideal S96x512 .f32) (z : FVec Ideal S32x512 .f32) (r : Fin 64) (s : Fin 8) (l : Fin 128)
    (h : 96 ≤ l.val) : spread v z (ix3 r s l) = z (ix2 ⟨l.val - 96, by omega⟩ ⟨r.val * 8 + s.val, by omega⟩) := by
  unfold spread
  pointwise
  exact dif_neg (by omega)

theorem zero_at (d : Fin 32) (q : Fin 512) : k0_pay4 (F := Ideal) (ix2 d q) = 0 := by
  pointwise [k0_pay4]

theorem padded_eq (x : Vec Ideal S1x96x512 .bf16) : k0_pay9 (F := Ideal) x = spread (k0_pay7 x) k0_pay4 := by
  unfold k0_pay9 spread
  rfl

/-- Gains over 128 lanes, users down, in groups of eight. -/
def gains (g : EReal) (s : FVec Ideal S1x512 .f32) : FVec Ideal S64x8x128 .f32 :=
  shapeCast S64x8x128 (transpose S512x128 [1, 0]
    (broadcastTo S128x512 (shapeCast S1x512 (mulf (F := Ideal) (φ := .f32) s (broadcast S1x512 g)) shapeCasts_S1x512_S1x512) broadcasts_S1x512_S128x512)
    transposes_S128x512_p1_0_S512x128) shapeCasts_S512x128_S64x8x128

theorem gains_at (g : EReal) (v : FVec Ideal S1x512 .f32) (r : Fin 64) (s : Fin 8) (l : Fin 128) :
    gains g v (ix3 r s l) = v (ix2 0 ⟨r.val * 8 + s.val, by omega⟩) * g := by
  unfold gains
  pointwise

theorem gain_eq (T : EReal) (x : Vec Ideal S1x96x512 .bf16) : k0_pay10 (F := Ideal) T x = gains (k0_pay3 (F := Ideal) T) (k0_pay6 x) := by
  unfold k0_pay10 gains
  rfl

theorem factor (T : EReal) : k0_pay3 (F := Ideal) T = Ideal.div log2e T := rfl

/-- Eight padded tiles, one interest after the other in each group of eight users. -/
def stacked (A : Fin 8 → FVec Ideal S64x8x128 .f32) : FVec Ideal S64x64x128 .bf16 :=
  truncf (F := Ideal) .bf16 (concatenate S64x64x128 1 [⟨S64x8x128, A 0⟩, ⟨S64x8x128, A 1⟩, ⟨S64x8x128, A 2⟩, ⟨S64x8x128, A 3⟩,
    ⟨S64x8x128, A 4⟩, ⟨S64x8x128, A 5⟩, ⟨S64x8x128, A 6⟩, ⟨S64x8x128, A 7⟩]
    concatenates_S64x8x128_S64x8x128_S64x8x128_S64x8x128_S64x8x128_S64x8x128_S64x8x128_S64x8x128_S64x64x128_d1) bitsLt_bf16_f32

theorem stacked_at (A : Fin 8 → FVec Ideal S64x8x128 .f32) (r : Fin 64) (u s : Fin 8) (l : Fin 128) :
    stacked A (ix3 r ⟨u.val * 8 + s.val, by omega⟩ l) = A u (ix3 r s l) := by
  unfold stacked
  pointwise
  split_ifs
  all_goals exact congrArg₂ (fun u s => A u (ix3 r s l)) (Fin.ext (by simp; omega)) (Fin.ext (by simp only []; omega))

theorem stack_eq (v : Vec Ideal S1x96x512 .bf16) (A0 A1 A2 A3 A4 A5 A6 : FVec Ideal S64x8x128 .f32) (L : FVec Ideal S96x512 .f32) :
    k0_pay2 (F := Ideal) k0_pay4 A0 A1 A2 A3 A4 A5 A6 L = stacked ![A0, A1, A2, A3, A4, A5, A6, spread L k0_pay4] := by
  unfold k0_pay2 stacked spread
  rfl

end Cert.KernelIdeal.QuantTile

end
-- ==== Proof.QuantValue.lean ====
module

public import proofs.«01_k».proof.Proof.QuantRegion
public import proofs.«01_k».proof.Proof.QuantTile
public import Idealize.ShloMosaic.Lib.Pipeline.ValueKit

@[expose] public section

set_option maxRecDepth 16384

noncomputable section

/-! # What the first call leaves in its arrays, from the users it is entered with -/

namespace Cert.KernelIdeal.QuantValue

open Cert.KernelIdeal Cert.KernelIdeal.Gen Cert.KernelIdeal.Quant Cert.KernelIdeal.QuantTile
open Idealize.ShloMosaic Idealize.ShloMosaic.TcCoe
open Idealize.ShloMosaic.Pipeline (Dat)
open Cert.Spec

variable (V : (c : Dev nD) → (b : Ref sig .tc) → Buf (Elt Ideal) ((c : Thread nD τ).loc b)) (c : Dev nD)
  (X : Fin 2560 → Fin 8 → Fin 96 → EReal) (T : EReal)

/-- Row `8 u + s` of a group is interest `u` of user `s`. -/
def fold8 (p : Fin 64) : Fin 8 × Fin 8 := (⟨p.val / 8, by omega⟩, ⟨p.val % 8, by omega⟩)

theorem fold8_mk (u s : Fin 8) (h : u.val * 8 + s.val < 64) : fold8 ⟨u.val * 8 + s.val, h⟩ = (u, s) :=
  Prod.ext (Fin.ext (by simp only [fold8]; omega)) (Fin.ext (by simp only [fold8]; omega))

/-- The codes, users last. -/
def codeT : Vec Ideal S8x96x2560 .i8 := fun y => codeAt X (y 2) (y 0) (y 1)

/-- The scales, users last. -/
def scaleT : Vec Ideal S8x2560 .f32 := fun y => scaleAt X (y 1) (y 0)

/-- Entry `l` of row `p` of group `r` of the levels, zero past the 96 features. -/
def wideG (r : Fin 320) (us : Fin 8 × Fin 8) (l : Fin 128) : EReal :=
  if h : l.val < 96 then levelAt X ⟨r.val * 8 + us.2.val, by omega⟩ us.1 ⟨l.val, h⟩ else 0

/-- The levels in groups of eight users, padded to 128 lanes. -/
def wideVec : Vec Ideal S320x64x128 .bf16 := fun y => wideG X (y 0) (fold8 (y 1)) (y 2)

/-- The gain of row `p` of group `r`. -/
def gainG (r : Fin 320) (us : Fin 8 × Fin 8) : EReal := gainAt X T ⟨r.val * 8 + us.2.val, by omega⟩ us.1

/-- The gains in groups of eight users. -/
def gainVec : Vec Ideal S320x64x128 .f32 := fun y => gainG X T (y 0) (fold8 (y 1))

theorem index0 : ∀ t : Fin cfg0.N, win0_0.index t 0 = 0 := by decide +kernel

theorem index1 : ∀ t : Fin cfg0.N, win0_1.index t 0 = 0 ∧ win0_1.index t 1 = 0 ∧ win0_1.index t 2 = t.val := by
  decide +kernel

theorem index2 : ∀ t : Fin cfg0.N, win0_2.index t 0 = 0 ∧ win0_2.index t 1 = 0 ∧ win0_2.index t 2 = t.val := by
  decide +kernel

theorem index3 : ∀ t : Fin cfg0.N, win0_3.index t 0 = 0 ∧ win0_3.index t 1 = t.val := by decide +kernel

theorem index4 : ∀ t : Fin cfg0.N, win0_4.index t 0 = t.val ∧ win0_4.index t 1 = 0 ∧ win0_4.index t 2 = 0 := by
  decide +kernel

theorem index5 : ∀ t : Fin cfg0.N, win0_5.index t 0 = t.val ∧ win0_5.index t 1 = 0 ∧ win0_5.index t 2 = 0 := by
  decide +kernel

theorem at_block (t : Fin cfg0.N) (q : Fin 512) : t.val * 512 + q.val < 2560 := by
  have := t.isLt
  change t.val < 5 at this
  omega

theorem emb1 (t : Fin cfg0.N) (y : S8x96x512.Idx) :
    (win0_1.blk t).view.emb y = (ix3 (y 0) (y 1) ⟨t.val * 512 + (y 2).val, at_block t (y 2)⟩ : S8x96x2560.Idx) := by
  obtain ⟨h0, h1, h2⟩ := index1 t
  funext a
  apply Fin.ext
  fin_cases a <;> blk_simp
  · rw [h0, Nat.zero_mul, Nat.zero_add]; rfl
  · rw [h1, Nat.zero_mul, Nat.zero_add]; rfl
  · rw [h2]; rfl

theorem emb2 (t : Fin cfg0.N) (y : S8x96x512.Idx) :
    (win0_2.blk t).view.emb y = (ix3 (y 0) (y 1) ⟨t.val * 512 + (y 2).val, at_block t (y 2)⟩ : S8x96x2560.Idx) := by
  obtain ⟨h0, h1, h2⟩ := index2 t
  funext a
  apply Fin.ext
  fin_cases a <;> blk_simp
  · rw [h0, Nat.zero_mul, Nat.zero_add]; rfl
  · rw [h1, Nat.zero_mul, Nat.zero_add]; rfl
  · rw [h2]; rfl

theorem emb3 (t : Fin cfg0.N) (y : S8x512.Idx) :
    (win0_3.blk t).view.emb y = (ix2 (y 0) ⟨t.val * 512 + (y 1).val, at_block t (y 1)⟩ : S8x2560.Idx) := by
  obtain ⟨h0, h1⟩ := index3 t
  funext a
  apply Fin.ext
  fin_cases a <;> blk_simp
  · rw [h0, Nat.zero_mul, Nat.zero_add]; rfl
  · rw [h1]; rfl

theorem at_group (t : Fin cfg0.N) (r : Fin 64) : t.val * 64 + r.val < 320 := by
  have := t.isLt
  change t.val < 5 at this
  omega

theorem emb4 (t : Fin cfg0.N) (y : S64x64x128.Idx) :
    (win0_4.blk t).view.emb y = (ix3 ⟨t.val * 64 + (y 0).val, at_group t (y 0)⟩ (y 1) (y 2) : S320x64x128.Idx) := by
  obtain ⟨h0, h1, h2⟩ := index4 t
  funext a
  apply Fin.ext
  fin_cases a <;> blk_simp
  · rw [h0]; rfl
  · rw [h1, Nat.zero_mul, Nat.zero_add]; rfl
  · rw [h2, Nat.zero_mul, Nat.zero_add]; rfl

theorem emb5 (t : Fin cfg0.N) (y : S64x64x128.Idx) :
    (win0_5.blk t).view.emb y = (ix3 ⟨t.val * 64 + (y 0).val, at_group t (y 0)⟩ (y 1) (y 2) : S320x64x128.Idx) := by
  obtain ⟨h0, h1, h2⟩ := index5 t
  funext a
  apply Fin.ext
  fin_cases a <;> blk_simp
  · rw [h0]; rfl
  · rw [h1, Nat.zero_mul, Nat.zero_add]; rfl
  · rw [h2, Nat.zero_mul, Nat.zero_add]; rfl

theorem block0_at (t : Fin cfg0.N) : (iblk V c 0 t : Vec Ideal S1 .f32) (ix1 0) = (V c main_arg3 : Vec Ideal S1 .f32) (ix1 0) := by
  unfold iblk
  exact congrArg (V c main_arg3 : Vec Ideal S1 .f32) ((eq_ix1 (n0 := 1) _).trans (congrArg ix1 (Subsingleton.elim _ _)))

theorem block1_at (t : Fin cfg0.N) (u : Fin 8) (d : Fin 96) (q : Fin 512)
    (hX : ∀ (u : Fin 8) (d : Fin 96) (b : Fin 2560), (V c main_v0 : Vec Ideal S8x96x2560 .bf16) (ix3 u d b) = X b u d) :
    (iblk V c 1 t : Vec Ideal S8x96x512 .bf16) (ix3 u d q) = X ⟨t.val * 512 + q.val, at_block t q⟩ u d := by
  unfold iblk
  exact (congrArg (V c main_v0 : Vec Ideal S8x96x2560 .bf16) (emb1 t (ix3 u d q))).trans (hX _ _ _)

/-- The codes of a tile of users. -/
def codeTile (x : Vec Ideal S8x96x512 .bf16) : Vec Ideal S8x96x512 .i8 :=
  fun y => codeOf (x y) (scaleOf (biggest fun d => x (ix3 (y 0) d (y 2))))

/-- Their scales. -/
def scaleTile (x : Vec Ideal S8x96x512 .bf16) : Vec Ideal S8x512 .f32 :=
  fun y => scaleOf (biggest fun d => x (ix3 (y 0) d (y 1)))

/-- Entry `l` of interest `u` of user `s` of group `r`, zero past the 96 features. -/
def wideAt (x : Vec Ideal S8x96x512 .bf16) (r : Fin 64) (u s : Fin 8) (l : Fin 128) : EReal :=
  if h : l.val < 96 then levelOf (x (ix3 u ⟨l.val, h⟩ ⟨r.val * 8 + s.val, by omega⟩))
    (scaleOf (biggest fun d => x (ix3 u d ⟨r.val * 8 + s.val, by omega⟩))) else 0

/-- The levels in groups of eight users, padded to 128 lanes. -/
def wideTile (x : Vec Ideal S8x96x512 .bf16) : Vec Ideal S64x64x128 .bf16 :=
  fun y => wideAt x (y 0) (fold8 (y 1)).1 (fold8 (y 1)).2 (y 2)

def gainOf (T : EReal) (x : Vec Ideal S8x96x512 .bf16) (r : Fin 64) (us : Fin 8 × Fin 8) : EReal :=
  scaleOf (biggest fun d => x (ix3 us.1 d ⟨r.val * 8 + us.2.val, by omega⟩)) * Ideal.div log2e T

/-- The gains in groups of eight users. -/
def gainTile (T : EReal) (x : Vec Ideal S8x96x512 .bf16) : Vec Ideal S64x64x128 .f32 :=
  fun y => gainOf T x (y 0) (fold8 (y 1))

theorem temperature_at (arg1 : Memref sig .tc .smem S1 .f32) (harg1 : arg1.IsWhole) (x0 : Vec Ideal S1 .f32) (h) (h') :
    View.readAt (Elt Ideal) arg1.view (Rect.unit (s := S1) ![0] S1.size h).toLoadRect (harg1.unread x0) (Shape.Idx.first h')
      = x0 (ix1 0) := by
  rw [View.readAt_apply, harg1.read_unread]
  exact congrArg x0 ((eq_ix1 (n0 := 1) _).trans (congrArg ix1 (Subsingleton.elim _ _)))

section Pieces

variable (arg2 : Memref sig .tc .vmem S8x96x512 .bf16) (harg2 : arg2.IsWhole) (x1 : Vec Ideal S8x96x512 .bf16)

/-- One interest of a tile, as the body loads it. -/
abbrev interest (u : Fin 8) (h : ∀ a, (![u.val, 0, 0] : Fin 3 → ℕ) a + (![1, 96, 512] : Fin 3 → ℕ) a ≤ S8x96x512.size a) :
    Vec Ideal S1x96x512 .bf16 :=
  View.readAt (Elt Ideal) arg2.view (Rect.unit (s := S8x96x512) ![u.val, 0, 0] ![1, 96, 512] h).toLoadRect (harg2.unread x1)

theorem interest_at (u : Fin 8) (h) (d : Fin 96) (q : Fin 512) : interest arg2 harg2 x1 u h (ix3 0 d q) = x1 (ix3 u d q) := by
  unfold interest
  rw [View.readAt_apply, harg2.read_unread]
  congr 1
  pointwise

theorem code_piece (u : Fin 8) (h) (x : S1x96x512.Idx) :
    k0_pay8 (interest arg2 harg2 x1 u h) x = codeTile x1 ((Rect.unit (s := S8x96x512) ![u.val, 0, 0] ![1, 96, 512] h).emb x) := by
  obtain ⟨d, q, rfl⟩ : ∃ (d : Fin 96) (q : Fin 512), x = ix3 0 d q :=
    ⟨x 1, x 2, (eq_ix3 (n0 := 1) (n1 := 96) (n2 := 512) x).trans (congrArg (fun a => ix3 a _ _) (Subsingleton.elim _ _))⟩
  have e : (Rect.unit (s := S8x96x512) ![u.val, 0, 0] ![1, 96, 512] h).emb (ix3 0 d q) = (ix3 u d q : S8x96x512.Idx) := by
    funext a; apply Fin.ext; refine (ValueKit.rect_emb_unit_val _ _ _ _ _).trans ?_; fin_cases a <;> simp [ix3]
  rw [e, code_at, interest_at]
  simp only [interest_at]
  rfl

theorem scale_piece (u : Fin 8) (h) (h') (x : S1x512.Idx) :
    k0_pay6 (interest arg2 harg2 x1 u h) x = scaleTile x1 ((Rect.unit (s := S8x512) ![u.val, 0] ![1, 512] h').emb x) := by
  obtain ⟨q, rfl⟩ : ∃ q : Fin 512, x = ix2 0 q :=
    ⟨x 1, (eq_ix2 (n0 := 1) (n1 := 512) x).trans (congrArg (fun a => ix2 a _) (Subsingleton.elim _ _))⟩
  have e : (Rect.unit (s := S8x512) ![u.val, 0] ![1, 512] h').emb (ix2 0 q) = (ix2 u q : S8x512.Idx) := by
    funext a; apply Fin.ext; refine (ValueKit.rect_emb_unit_val _ _ _ _ _).trans ?_; fin_cases a <;> simp [ix2]
  rw [e, scale_at]
  simp only [interest_at]
  rfl

theorem gain_piece (T : EReal) (u : Fin 8) (h) (h') (x : S64x8x128.Idx) :
    k0_pay10 (F := Ideal) T (interest arg2 harg2 x1 u h) x
      = gainTile T x1 ((Rect.unit (s := S64x64x128) ![0, u.val * 8, 0] ![64, 8, 128] h').emb x) := by
  obtain ⟨r, s, l, rfl⟩ : ∃ (r : Fin 64) (s : Fin 8) (l : Fin 128), x = ix3 r s l :=
    ⟨x 0, x 1, x 2, eq_ix3 (n0 := 64) (n1 := 8) (n2 := 128) x⟩
  have e : (Rect.unit (s := S64x64x128) ![0, u.val * 8, 0] ![64, 8, 128] h').emb (ix3 r s l)
      = (ix3 r ⟨u.val * 8 + s.val, by omega⟩ l : S64x64x128.Idx) := by
    funext a; apply Fin.ext; refine (ValueKit.rect_emb_unit_val _ _ _ _ _).trans ?_; fin_cases a <;> simp [ix3]
  rw [e, gain_eq, gains_at, scale_at, factor]
  simp only [interest_at]
  exact (congrArg (gainOf T x1 r) (fold8_mk u s (by omega))).symm

/-- An interest of the tile, padded and laid out in groups of eight users. -/
theorem wide_piece (u : Fin 8) (h) (r : Fin 64) (s : Fin 8) (l : Fin 128) :
    spread (k0_pay7 (F := Ideal) (interest arg2 harg2 x1 u h)) k0_pay4 (ix3 r s l) = wideAt x1 r u s l := by
  unfold wideAt
  split
  · rename_i hl
    refine (spread_at _ _ r s ⟨l.val, hl⟩).trans ?_
    rw [level_at]
    simp only [interest_at]
  · rename_i hl
    rw [spread_pad _ _ _ _ _ (by omega), zero_at]

/-- The eight interests of the tile, padded. -/
def padded (u : Fin 8) : FVec Ideal S64x8x128 .f32 :=
  spread (k0_pay7 (interest arg2 harg2 x1 u (by revert u; decide))) k0_pay4

theorem stack_piece (h) (x : S64x64x128.Idx) :
    stacked (padded arg2 harg2 x1) x = wideTile x1 ((Rect.unit (s := S64x64x128) ![0, 0, 0] ![64, 64, 128] h).emb x) := by
  obtain ⟨r, p, l, rfl⟩ : ∃ (r : Fin 64) (p : Fin 64) (l : Fin 128), x = ix3 r p l :=
    ⟨x 0, x 1, x 2, eq_ix3 (n0 := 64) (n1 := 64) (n2 := 128) x⟩
  have e : (Rect.unit (s := S64x64x128) ![0, 0, 0] ![64, 64, 128] h).emb (ix3 r p l) = (ix3 r p l : S64x64x128.Idx) := by
    funext a; apply Fin.ext; refine (ValueKit.rect_emb_unit_val _ _ _ _ _).trans ?_; fin_cases a <;> simp [ix3]
  have hp : p = ⟨(fold8 p).1.val * 8 + (fold8 p).2.val, by simp only [fold8]; omega⟩ := Fin.ext (by simp only [fold8]; omega)
  rw [e]
  refine (congrArg (fun p => stacked (padded arg2 harg2 x1) (ix3 r p l)) hp).trans ((stacked_at _ _ _ _ _).trans ?_)
  exact wide_piece arg2 harg2 x1 _ _ r _ l

end Pieces

theorem out2_eq (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec Ideal S1 .f32) (x1 : Vec Ideal S8x96x512 .bf16) (y : S8x96x512.Idx) :
    out0_A_2 c i arg1 harg1 arg2 harg2 arg3 harg3 arg4 harg4 arg5 harg5 arg6 harg6 x0 x1 y = codeTile x1 y := by
  refine View.read_writes_apply_of_pieces VO0_2 _ (codeTile x1) _ ?_ y (cover0_A_2 ..)
  unfold kernelRun0_A
  dsimp only
  simp only [List.forall_mem_cons]
  exact ⟨code_piece arg2 harg2 x1 7 _, code_piece arg2 harg2 x1 6 _, code_piece arg2 harg2 x1 5 _, code_piece arg2 harg2 x1 4 _,
    code_piece arg2 harg2 x1 3 _, code_piece arg2 harg2 x1 2 _, code_piece arg2 harg2 x1 1 _, code_piece arg2 harg2 x1 0 _,
    fun _ h => absurd h List.not_mem_nil⟩

theorem out3_eq (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec Ideal S1 .f32) (x1 : Vec Ideal S8x96x512 .bf16) (y : S8x512.Idx) :
    out0_A_3 c i arg1 harg1 arg2 harg2 arg3 harg3 arg4 harg4 arg5 harg5 arg6 harg6 x0 x1 y = scaleTile x1 y := by
  refine View.read_writes_apply_of_pieces VO0_3 _ (scaleTile x1) _ ?_ y (cover0_A_3 ..)
  unfold kernelRun0_A
  dsimp only
  simp only [List.forall_mem_cons]
  exact ⟨scale_piece arg2 harg2 x1 7 inb_S8x96x512_S1x96x512_7_0_0 _, scale_piece arg2 harg2 x1 6 inb_S8x96x512_S1x96x512_6_0_0 _,
    scale_piece arg2 harg2 x1 5 inb_S8x96x512_S1x96x512_5_0_0 _, scale_piece arg2 harg2 x1 4 inb_S8x96x512_S1x96x512_4_0_0 _,
    scale_piece arg2 harg2 x1 3 inb_S8x96x512_S1x96x512_3_0_0 _, scale_piece arg2 harg2 x1 2 inb_S8x96x512_S1x96x512_2_0_0 _,
    scale_piece arg2 harg2 x1 1 inb_S8x96x512_S1x96x512_1_0_0 _, scale_piece arg2 harg2 x1 0 inb_S8x96x512_S1x96x512_0_0_0 _,
    fun _ h => absurd h List.not_mem_nil⟩

theorem out5_eq (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec Ideal S1 .f32) (x1 : Vec Ideal S8x96x512 .bf16) (y : S64x64x128.Idx) :
    out0_A_5 c i arg1 harg1 arg2 harg2 arg3 harg3 arg4 harg4 arg5 harg5 arg6 harg6 x0 x1 y = gainTile (x0 (ix1 0)) x1 y := by
  refine View.read_writes_apply_of_pieces VO0_5 _ (gainTile (x0 (ix1 0)) x1) _ ?_ y (cover0_A_5 ..)
  unfold kernelRun0_A
  dsimp only
  simp only [List.forall_mem_cons]
  have hT : kernelRun0_A.sl.r_1 c arg1 harg1 x0 = k0_pay3 (x0 (ix1 0)) := by
    unfold kernelRun0_A.sl.r_1 kernelRun0_A.sl.r
    exact congrArg k0_pay3 (temperature_at arg1 harg1 x0 _ _)
  have h3 : kernelRun0_A.sl.r_3 c arg1 harg1 arg2 harg2 x0 x1
      = k0_pay10 (x0 (ix1 0)) (interest arg2 harg2 x1 0 inb_S8x96x512_S1x96x512_0_0_0) := by
    unfold kernelRun0_A.sl.r_3 kernelRun0_A.sl.r
    exact congrArg (fun T => k0_pay10 T _) (temperature_at arg1 harg1 x0 _ _)
  rw [hT, h3]
  exact ⟨gain_piece arg2 harg2 x1 _ 7 inb_S8x96x512_S1x96x512_7_0_0 _, gain_piece arg2 harg2 x1 _ 6 inb_S8x96x512_S1x96x512_6_0_0 _,
    gain_piece arg2 harg2 x1 _ 5 inb_S8x96x512_S1x96x512_5_0_0 _, gain_piece arg2 harg2 x1 _ 4 inb_S8x96x512_S1x96x512_4_0_0 _,
    gain_piece arg2 harg2 x1 _ 3 inb_S8x96x512_S1x96x512_3_0_0 _, gain_piece arg2 harg2 x1 _ 2 inb_S8x96x512_S1x96x512_2_0_0 _,
    gain_piece arg2 harg2 x1 _ 1 inb_S8x96x512_S1x96x512_1_0_0 _, gain_piece arg2 harg2 x1 _ 0 inb_S8x96x512_S1x96x512_0_0_0 _,
    fun _ h => absurd h List.not_mem_nil⟩

theorem out4_eq (i : grid0.Coords) (arg1 : Memref sig .tc .smem S1 .f32) (harg1 : arg1.IsWhole) (arg2 : Memref sig .tc .vmem S8x96x512 .bf16) (harg2 : arg2.IsWhole) (arg3 : Memref sig .tc .vmem S8x96x512 .i8) (harg3 : arg3.IsWhole) (arg4 : Memref sig .tc .vmem S8x512 .f32) (harg4 : arg4.IsWhole) (arg5 : Memref sig .tc .vmem S64x64x128 .bf16) (harg5 : arg5.IsWhole) (arg6 : Memref sig .tc .vmem S64x64x128 .f32) (harg6 : arg6.IsWhole)
    (x0 : Vec Ideal S1 .f32) (x1 : Vec Ideal S8x96x512 .bf16) (y : S64x64x128.Idx) :
    out0_A_4 c i arg1 harg1 arg2 harg2 arg3 harg3 arg4 harg4 arg5 harg5 arg6 harg6 x0 x1 y = wideTile x1 y := by
  refine View.read_writes_apply_of_pieces VO0_4 _ (wideTile x1) _ ?_ y (cover0_A_4 ..)
  unfold kernelRun0_A
  dsimp only
  simp only [List.forall_mem_cons]
  exact ⟨stack_piece arg2 harg2 x1 _, fun _ h => absurd h List.not_mem_nil⟩

/-! ## The arrays -/

theorem user_eq (t : Fin cfg0.N) (r : Fin 64) (s : Fin 8) (h : r.val * 8 + s.val < 512) :
    (⟨t.val * 512 + (⟨r.val * 8 + s.val, h⟩ : Fin 512).val, at_block t _⟩ : Fin 2560)
      = ⟨(⟨t.val * 64 + r.val, at_group t r⟩ : Fin 320).val * 8 + s.val, by have := at_group t r; simp only []; omega⟩ :=
  Fin.ext (by simp only []; omega)

variable (hX : ∀ (u : Fin 8) (d : Fin 96) (b : Fin 2560), (V c main_v0 : Vec Ideal S8x96x2560 .bf16) (ix3 u d b) = X b u d)
include hX

theorem codeTile_at (t : Fin cfg0.N) (u : Fin 8) (d : Fin 96) (q : Fin 512) :
    codeTile (iblk V c 1 t) (ix3 u d q) = codeT X (ix3 u d ⟨t.val * 512 + q.val, at_block t q⟩) := by
  change codeOf ((iblk V c 1 t : Vec Ideal S8x96x512 .bf16) (ix3 u d q))
    (scaleOf (biggest fun d => (iblk V c 1 t : Vec Ideal S8x96x512 .bf16) (ix3 u d q))) = codeAt X ⟨t.val * 512 + q.val, at_block t q⟩ u d
  simp only [block1_at V c X t _ _ _ hX]
  rfl

theorem codes : (Quant.dat V c).arrAt 2 cfg0.N = codeT X := by
  refine (Quant.dat V c).arrAt_eq_of_covers 2 _ (by decide +kernel) fun t hf y => ?_
  rw [after0_2]
  unfold outsAt0
  dsimp only
  rw [out2_eq]
  exact (congrArg (codeTile (iblk V c 1 t)) (eq_ix3 (n0 := 8) (n1 := 96) (n2 := 512) y)).trans
    ((codeTile_at V c X hX t _ _ _).trans (congrArg (codeT X) (emb2 t y)).symm)

theorem scaleTile_at (t : Fin cfg0.N) (u : Fin 8) (q : Fin 512) :
    scaleTile (iblk V c 1 t) (ix2 u q) = scaleT X (ix2 u ⟨t.val * 512 + q.val, at_block t q⟩) := by
  change scaleOf (biggest fun d => (iblk V c 1 t : Vec Ideal S8x96x512 .bf16) (ix3 u d q))
    = scaleAt X ⟨t.val * 512 + q.val, at_block t q⟩ u
  simp only [block1_at V c X t _ _ _ hX]
  rfl

theorem scaleArr : (Quant.dat V c).arrAt 3 cfg0.N = scaleT X := by
  refine (Quant.dat V c).arrAt_eq_of_covers 3 _ (by decide +kernel) fun t hf y => ?_
  rw [after0_3]
  unfold outsAt0
  dsimp only
  rw [out3_eq]
  exact (congrArg (scaleTile (iblk V c 1 t)) (eq_ix2 (n0 := 8) (n1 := 512) y)).trans
    ((scaleTile_at V c X hX t _ _).trans (congrArg (scaleT X) (emb3 t y)).symm)

theorem wideTile_at (t : Fin cfg0.N) (r p : Fin 64) (l : Fin 128) :
    wideTile (iblk V c 1 t) (ix3 r p l) = wideVec X (ix3 ⟨t.val * 64 + r.val, at_group t r⟩ p l) := by
  change wideAt (iblk V c 1 t) r (fold8 p).1 (fold8 p).2 l = wideG X ⟨t.val * 64 + r.val, at_group t r⟩ (fold8 p) l
  unfold wideAt wideG
  split
  · simp only [block1_at V c X t _ _ _ hX]
    rw [user_eq t r (fold8 p).2 (by have := (fold8 p).2.isLt; omega)]
    rfl
  · rfl

theorem wideArr : (Quant.dat V c).arrAt 4 cfg0.N = wideVec X := by
  refine (Quant.dat V c).arrAt_eq_of_covers 4 _ (by decide +kernel) fun t hf y => ?_
  rw [after0_4]
  unfold outsAt0
  dsimp only
  rw [out4_eq]
  exact (congrArg (wideTile (iblk V c 1 t)) (eq_ix3 (n0 := 64) (n1 := 64) (n2 := 128) y)).trans
    ((wideTile_at V c X hX t _ _ _).trans (congrArg (wideVec X) (emb4 t y)).symm)

variable (hT : (V c main_arg3 : Vec Ideal S1 .f32) (ix1 0) = T)
include hT

theorem gainTile_at (t : Fin cfg0.N) (r p : Fin 64) (l : Fin 128) :
    gainTile ((iblk V c 0 t : Vec Ideal S1 .f32) (ix1 0)) (iblk V c 1 t) (ix3 r p l)
      = gainVec X T (ix3 ⟨t.val * 64 + r.val, at_group t r⟩ p l) := by
  rw [block0_at, hT]
  change gainOf T (iblk V c 1 t) r (fold8 p) = gainG X T ⟨t.val * 64 + r.val, at_group t r⟩ (fold8 p)
  unfold gainOf gainG
  simp only [block1_at V c X t _ _ _ hX]
  rw [user_eq t r (fold8 p).2 (by have := (fold8 p).2.isLt; omega)]
  rfl

theorem gainArr : (Quant.dat V c).arrAt 5 cfg0.N = gainVec X T := by
  refine (Quant.dat V c).arrAt_eq_of_covers 5 _ (by decide +kernel) fun t hf y => ?_
  rw [after0_5]
  unfold outsAt0
  dsimp only
  rw [out5_eq]
  exact (congrArg (gainTile ((iblk V c 0 t : Vec Ideal S1 .f32) (ix1 0)) (iblk V c 1 t)) (eq_ix3 (n0 := 64) (n1 := 64) (n2 := 128) y)).trans
    ((gainTile_at V c X T hX hT t _ _ _).trans (congrArg (gainVec X T) (emb5 t y)).symm)

end Cert.KernelIdeal.QuantValue

end
-- ==== Proof.ScoreValue.lean ====
module

public import proofs.«01_k».proof.Proof.ScoreRegion
public import proofs.«01_k».proof.Proof.ScoreTile
public import proofs.«01_k».proof.Proof.QuantValue

@[expose] public section

set_option maxRecDepth 16384

noncomputable section

/-! # What the second call leaves in its two arrays: the scores, and the largest score of each block of items -/

namespace Cert.KernelIdeal.ScoreValue

open Cert.KernelIdeal Cert.KernelIdeal.Gen Cert.KernelIdeal.Score Cert.KernelIdeal.ScoreTile
open Idealize.ShloMosaic Idealize.ShloMosaic.TcCoe
open Idealize.ShloMosaic.Pipeline (Dat)
open Cert.Spec
open Cert.KernelIdeal.QuantValue (wideVec gainVec wideG gainG fold8)

/-! ## One tile -/

section Tile

variable (x0 : Vec Ideal S320x64x128 .bf16) (x1 : Vec Ideal S320x64x128 .f32) (x2 : Vec Ideal S4x96x512 .i8)
  (x3 : Vec Ideal S4x512 .f32) (x4 : Vec Ideal S1x512 .f32) (x5 : Vec Ideal S1x512 .f32)

theorem trip_lt (k : Fin k1_t1_loop.trips) : k.val < 80 := lt_of_lt_of_eq k.isLt trips_eq

theorem rowsOf_at (k : Fin k1_t1_loop.trips) (g : Fin 4) (p : Fin 64) (l : Fin 128) (r : Fin 320) (hr : r.val = 4 * k.val + g.val) :
    rowsOf x0 k (ix3 g p l) = x0 (ix3 r p l) := by
  unfold rowsOf
  refine congrArg x0 ?_
  funext a
  apply Fin.ext
  refine (ValueKit.rect_emb_unit_val _ _ _ _ _).trans ?_
  refine (congrArg (· + _) (congrFun (k1_off1_eq k) a)).trans ?_
  fin_cases a
  · exact hr.symm
  · exact Nat.zero_add _
  · exact Nat.zero_add _

theorem gainsOf_at (k : Fin k1_t1_loop.trips) (g : Fin 4) (p : Fin 64) (l : Fin 128) (r : Fin 320) (hr : r.val = 4 * k.val + g.val) :
    gainsOf x1 k (ix3 g p l) = x1 (ix3 r p l) := by
  unfold gainsOf
  refine congrArg x1 ?_
  funext a
  apply Fin.ext
  refine (ValueKit.rect_emb_unit_val _ _ _ _ _).trans ?_
  refine (congrArg (· + _) (congrFun (k1_off1_eq k) a)).trans ?_
  fin_cases a
  · exact hr.symm
  · exact Nat.zero_add _
  · exact Nat.zero_add _

theorem oldOf_at (x7 : Vec Ideal S2560x128 .f32) (k : Fin k1_t1_loop.trips) (g : Fin 4) (s : Fin 8) (l : Fin 128) (b : Fin 2560)
    (hb : b.val = 32 * k.val + 8 * g.val + s.val) : oldOf x7 k g (ix2 s l) = x7 (ix2 b l) := by
  unfold oldOf
  refine congrArg x7 ?_
  funext a
  apply Fin.ext
  refine (ValueKit.rect_emb_unit_val _ _ _ _ _).trans ?_
  refine (congrArg (· + _) (congrFun (k1_off3_eq k g) a)).trans ?_
  fin_cases a
  · exact hb.symm
  · exact Nat.zero_add _

theorem codesOf_at (k : Fin 4) (d : Fin 96) (n : Fin 512) : codesOf x2 k (ix3 0 d n) = x2 (ix3 k d n) := by
  unfold codesOf
  refine congrArg x2 ?_
  funext a
  apply Fin.ext
  refine (ValueKit.rect_emb_unit_val _ _ _ _ _).trans ?_
  fin_cases a
  · rfl
  · exact Nat.zero_add _
  · exact Nat.zero_add _

theorem matsOf_at (k : Fin 4) (d : Fin 96) (n : Fin 512) :
    matsOf x2 k (ix2 d n) = FloatOps.sitofp (F := Ideal) .bf16 (x2 (ix3 k d n)) := by
  rw [← codesOf_at x2 k d n]
  have e : matsOf x2 k = k1_pay1112 (F := Ideal) (codesOf x2 k) := by
    unfold matsOf
    fin_cases k <;> rfl
  rw [e]
  exact codes_at _ d n

theorem scalesOf_at (k c : Fin 4) (j : Fin 128) (n : Fin 512) (hn : n.val = 128 * c.val + j.val) :
    scalesOf x3 k c (ix2 0 j) = x3 (ix2 k n) := by
  unfold scalesOf
  refine congrArg x3 ?_
  funext a
  apply Fin.ext
  refine (ValueKit.rect_emb_unit_val _ _ _ _ _).trans ?_
  fin_cases a
  · rfl
  · exact hn.symm

theorem lanesOf_at (c : Fin 4) (j : Fin 128) (n : Fin 512) (hn : n.val = 128 * c.val + j.val) :
    lanesOf x5 c (ix2 0 j) = x5 (ix2 0 n) := by
  unfold lanesOf
  refine congrArg x5 ?_
  funext a
  apply Fin.ext
  refine (ValueKit.rect_emb_unit_val _ _ _ _ _).trans ?_
  fin_cases a
  · rfl
  · exact hn.symm

/-- The 32 scaled products of user `b` and item `n` of a tile. -/
def tileProd (b : Fin 2560) (n : Fin 512) (u : Fin 8) (k : Fin 4) : EReal :=
  (∑ d : Fin 96, x0 (ix3 ⟨b.val / 8, by omega⟩ ⟨8 * u.val + b.val % 8, by omega⟩ ⟨d.val, by omega⟩)
      * FloatOps.sitofp (F := Ideal) .bf16 (x2 (ix3 k d n)))
    * x1 (ix3 ⟨b.val / 8, by omega⟩ ⟨8 * u.val + b.val % 8, by omega⟩ ⟨n.val % 128, by omega⟩) * x3 (ix2 k n)

theorem prods_at (t : Fin k1_t1_loop.trips) (g c : Fin 4) (s : Fin 8) (j : Fin 128) (b : Fin 2560) (n : Fin 512)
    (hb : b.val = 32 * t.val + 8 * g.val + s.val) (hn : n.val = 128 * c.val + j.val) :
    prods (matsOf x2) (rowsOf x0 t) (gainsOf x1 t) (scalesOf x3) g c s j = tileProd x0 x1 x2 x3 b n := by
  funext u k
  unfold prods tileProd
  have h1 : (⟨8 * u.val + s.val, by omega⟩ : Fin 64) = ⟨8 * u.val + b.val % 8, by omega⟩ := Fin.ext (by simp only []; omega)
  have h2 : (⟨128 * c.val + j.val, by omega⟩ : Fin 512) = n := Fin.ext hn.symm
  have h3 : j = (⟨n.val % 128, by omega⟩ : Fin 128) := Fin.ext (by simp only []; omega)
  rw [term_at, h1, h2, scalesOf_at x3 k c j n hn, gainsOf_at x1 t g _ j ⟨b.val / 8, by omega⟩ (by simp only []; omega)]
  simp only [matsOf_at, rowsOf_at x0 t g _ _ ⟨b.val / 8, by omega⟩ (by simp only []; omega)]
  rw [← h3]

/-- The score of user `b` and item `n` of a tile, before the mask. -/
def tileRaw (b : Fin 2560) (n : Fin 512) : EReal := scoreOf (tileProd x0 x1 x2 x3 b n) (x4 (ix2 0 n))

theorem within_eq {K : ℕ} (b : Fin 2560) (n : Fin K) :
    withinOf (ix2 b n : (⟨2, ![2560, K]⟩ : Shape).Idx) = (ix2 ⟨b.val % 8, by omega⟩ n : (⟨2, ![8, K]⟩ : Shape).Idx) := by
  funext a; apply Fin.ext; fin_cases a <;> rfl

theorem place_eq {K : ℕ} (b : Fin 2560) (n : Fin K) : b.val = 32 * (tripOf (ix2 b n : (⟨2, ![2560, K]⟩ : Shape).Idx)).val
    + 8 * (groupOf (ix2 b n : (⟨2, ![2560, K]⟩ : Shape).Idx)).val + b.val % 8 := by
  change b.val = 32 * (b.val / 32) + 8 * (b.val % 32 / 8) + b.val % 8
  omega

theorem scoreTile_at (b : Fin 2560) (n : Fin 512) : scoreTile x0 x1 x2 x3 x4 x5 (ix2 b n)
    = Scalar.select (isValid (x5 (ix2 0 n))) (tileRaw x0 x1 x2 x3 x4 b n) 0 := by
  have hn : n.val = 128 * (n.val / 128) + n.val % 128 := by omega
  unfold scoreTile tileRaw
  rw [within_eq, rows_at, shown_at, prods_at x0 x1 x2 x3 _ _ _ _ _ b n (place_eq b n) hn, lanesOf_at x5 _ _ n hn,
    lanesOf_at x4 _ _ n hn]

/-- The same, minus infinity for an item that is not valid. -/
def tileRank (b : Fin 2560) (n : Fin 512) : EReal :=
  Scalar.select (isValid (x5 (ix2 0 n))) (tileRaw x0 x1 x2 x3 x4 b n) ⊥

theorem ranked_eq (t : Fin k1_t1_loop.trips) (g c : Fin 4) (s : Fin 8) (j : Fin 128) (b : Fin 2560) (n : Fin 512)
    (hb : b.val = 32 * t.val + 8 * g.val + s.val) (hn : n.val = 128 * c.val + j.val) :
    ranked (matsOf x2) (rowsOf x0 t) (gainsOf x1 t) (scalesOf x3) (lanesOf x5) (lanesOf x4) g c (ix2 s j)
      = tileRank x0 x1 x2 x3 x4 x5 b n := by
  unfold tileRank tileRaw
  rw [ranked_at, prods_at x0 x1 x2 x3 t g c s j b n hb hn, lanesOf_at x5 _ _ n hn, lanesOf_at x4 _ _ n hn]

theorem lane_at (s : Fin 8) (l : Fin 128) :
    (iota .tc S8x128 32 [1] iota_S8x128_d1_w32 : IVec S8x128 32) (ix2 s l) = BitVec.ofNat 32 l.val := by
  pointwise

theorem topTile_le (i : BitVec 32) (x7 : Vec Ideal S2560x128 .f32) (b : Fin 2560) (l : Fin 128) (a : EReal) :
    topTile x0 x1 x2 x3 x4 x5 i x7 (ix2 b l) ≤ a
      ↔ x7 (ix2 b l) ≤ a ∧ (BitVec.ofNat 32 l.val = i → ∀ n : Fin 512, tileRank x0 x1 x2 x3 x4 x5 b n ≤ a) := by
  unfold topTile
  rw [within_eq, raised_at, lane_at, oldOf_at x7 _ _ _ _ b (place_eq b l)]
  have hb : best (matsOf x2) (rowsOf x0 (tripOf (ix2 b l : S2560x128.Idx))) (gainsOf x1 (tripOf (ix2 b l : S2560x128.Idx)))
      (scalesOf x3) (lanesOf x5) (lanesOf x4) (groupOf (ix2 b l : S2560x128.Idx)) (ix2 ⟨b.val % 8, by omega⟩ 0) ≤ a
      ↔ ∀ n : Fin 512, tileRank x0 x1 x2 x3 x4 x5 b n ≤ a := by
    rw [best_le]
    constructor
    · intro h n
      have := h ⟨n.val / 128, by omega⟩ ⟨n.val % 128, by omega⟩
      rwa [ranked_eq x0 x1 x2 x3 x4 x5 _ _ _ _ _ b n (place_eq b l) (by simp only []; omega)] at this
    · intro h c j
      rw [ranked_eq x0 x1 x2 x3 x4 x5 _ _ _ _ _ b ⟨128 * c.val + j.val, by omega⟩ (place_eq b l) rfl]
      exact h _
  by_cases h : BitVec.ofNat 32 l.val = i
  · rw [show IntOp.cmpi CmpIPredicate.eq (BitVec.ofNat 32 l.val) i = 1#1 by simp [IntOp.cmpi, h]]
    rw [show ∀ p q : EReal, Scalar.select 1#1 p q = p from fun _ _ => rfl, max_le_iff, hb]
    exact and_congr Iff.rfl ⟨fun h' _ => h', fun h' => h' h⟩
  · rw [show IntOp.cmpi CmpIPredicate.eq (BitVec.ofNat 32 l.val) i = 0#1 by simp [IntOp.cmpi, beq_eq_false_iff_ne.mpr h]]
    rw [show ∀ p q : EReal, Scalar.select 0#1 p q = q from fun _ _ => rfl]
    exact ⟨fun h' => ⟨h', fun h'' => absurd h'' h⟩, fun h' => h'.1⟩

end Tile

/-! ## The arrays: tile `t` holds items `512 t` to `512 t + 511` -/

section Array

variable (V : (c : Dev nD) → (b : Ref sig .tc) → Buf (Elt Ideal) ((c : Thread nD τ).loc b)) (c : Dev nD)
  (X : Fin 2560 → Fin 8 → Fin 96 → EReal) (C : Fin 73728 → Fin 4 → Fin 96 → BitVec 8) (S : Fin 73728 → Fin 4 → EReal) (T : EReal)
  (P : Fin 73728 → EReal) (W : Fin 2304 → BitVec 32)

theorem index0 : ∀ t : Fin cfg1.N, win1_0.index t 0 = 0 ∧ win1_0.index t 1 = 0 ∧ win1_0.index t 2 = 0 := by decide +kernel

theorem index1 : ∀ t : Fin cfg1.N, win1_1.index t 0 = 0 ∧ win1_1.index t 1 = 0 ∧ win1_1.index t 2 = 0 := by decide +kernel

theorem index2 : ∀ t : Fin cfg1.N, win1_2.index t 0 = 0 ∧ win1_2.index t 1 = 0 ∧ win1_2.index t 2 = t.val := by decide +kernel

theorem index3 : ∀ t : Fin cfg1.N, win1_3.index t 0 = 0 ∧ win1_3.index t 1 = t.val := by decide +kernel

theorem index4 : ∀ t : Fin cfg1.N, win1_4.index t 0 = 0 ∧ win1_4.index t 1 = t.val := by decide +kernel

theorem index5 : ∀ t : Fin cfg1.N, win1_5.index t 0 = 0 ∧ win1_5.index t 1 = t.val := by decide +kernel

theorem index6 : ∀ t : Fin cfg1.N, win1_6.index t 0 = 0 ∧ win1_6.index t 1 = t.val := by decide +kernel

theorem index7 : ∀ t : Fin cfg1.N, win1_7.index t 0 = 0 ∧ win1_7.index t 1 = 0 := by decide +kernel

/-- The block of items tile `t` belongs to. -/
theorem block_eq : ∀ t : Fin cfg1.N, blockOf (grid1.coords t) = BitVec.ofNat 32 (t.val / 2) := by decide +kernel

theorem tiles : cfg1.N = 144 := N_1

theorem at_items (t : Fin cfg1.N) (q : Fin 512) : t.val * 512 + q.val < 73728 := by
  have := lt_of_lt_of_eq t.isLt tiles
  omega

theorem emb0 (t : Fin cfg1.N) (y : S320x64x128.Idx) : (win1_0.blk t).view.emb y = (ix3 (y 0) (y 1) (y 2) : S320x64x128.Idx) := by
  obtain ⟨h0, h1, h2⟩ := index0 t
  funext a
  apply Fin.ext
  fin_cases a <;> blk_simp
  · rw [h0, Nat.zero_mul, Nat.zero_add]; rfl
  · rw [h1, Nat.zero_mul, Nat.zero_add]; rfl
  · rw [h2, Nat.zero_mul, Nat.zero_add]; rfl

theorem emb1 (t : Fin cfg1.N) (y : S320x64x128.Idx) : (win1_1.blk t).view.emb y = (ix3 (y 0) (y 1) (y 2) : S320x64x128.Idx) := by
  obtain ⟨h0, h1, h2⟩ := index1 t
  funext a
  apply Fin.ext
  fin_cases a <;> blk_simp
  · rw [h0, Nat.zero_mul, Nat.zero_add]; rfl
  · rw [h1, Nat.zero_mul, Nat.zero_add]; rfl
  · rw [h2, Nat.zero_mul, Nat.zero_add]; rfl

theorem emb2 (t : Fin cfg1.N) (y : S4x96x512.Idx) :
    (win1_2.blk t).view.emb y = (ix3 (y 0) (y 1) ⟨t.val * 512 + (y 2).val, at_items t (y 2)⟩ : S4x96x73728.Idx) := by
  obtain ⟨h0, h1, h2⟩ := index2 t
  funext a
  apply Fin.ext
  fin_cases a <;> blk_simp
  · rw [h0, Nat.zero_mul, Nat.zero_add]; rfl
  · rw [h1, Nat.zero_mul, Nat.zero_add]; rfl
  · rw [h2]; rfl

theorem emb3 (t : Fin cfg1.N) (y : S4x512.Idx) :
    (win1_3.blk t).view.emb y = (ix2 (y 0) ⟨t.val * 512 + (y 1).val, at_items t (y 1)⟩ : S4x73728.Idx) := by
  obtain ⟨h0, h1⟩ := index3 t
  funext a
  apply Fin.ext
  fin_cases a <;> blk_simp
  · rw [h0, Nat.zero_mul, Nat.zero_add]; rfl
  · rw [h1]; rfl

theorem emb4 (t : Fin cfg1.N) (y : S1x512.Idx) :
    (win1_4.blk t).view.emb y = (ix2 (y 0) ⟨t.val * 512 + (y 1).val, at_items t (y 1)⟩ : S1x73728.Idx) := by
  obtain ⟨h0, h1⟩ := index4 t
  funext a
  apply Fin.ext
  fin_cases a <;> blk_simp
  · rw [h0]
  · rw [h1]; rfl

theorem emb5 (t : Fin cfg1.N) (y : S1x512.Idx) :
    (win1_5.blk t).view.emb y = (ix2 (y 0) ⟨t.val * 512 + (y 1).val, at_items t (y 1)⟩ : S1x73728.Idx) := by
  obtain ⟨h0, h1⟩ := index5 t
  funext a
  apply Fin.ext
  fin_cases a <;> blk_simp
  · rw [h0]
  · rw [h1]; rfl

theorem emb6 (t : Fin cfg1.N) (y : S2560x512.Idx) :
    (win1_6.blk t).view.emb y = (ix2 (y 0) ⟨t.val * 512 + (y 1).val, at_items t (y 1)⟩ : S2560x73728.Idx) := by
  obtain ⟨h0, h1⟩ := index6 t
  funext a
  apply Fin.ext
  fin_cases a <;> blk_simp
  · rw [h0, Nat.zero_mul, Nat.zero_add]; rfl
  · rw [h1]; rfl

theorem emb7 (t : Fin cfg1.N) (y : S2560x128.Idx) : (win1_7.blk t).view.emb y = (ix2 (y 0) (y 1) : S2560x128.Idx) := by
  obtain ⟨h0, h1⟩ := index7 t
  funext a
  apply Fin.ext
  fin_cases a <;> blk_simp
  · rw [h0, Nat.zero_mul, Nat.zero_add]; rfl
  · rw [h1, Nat.zero_mul, Nat.zero_add]; rfl

variable (hL : (V c main_v3_2 : Vec Ideal S320x64x128 .bf16) = wideVec X)
  (hG : (V c main_v3_3 : Vec Ideal S320x64x128 .f32) = gainVec X T)
  (hC : ∀ (k : Fin 4) (d : Fin 96) (n : Fin 73728), (V c main_v1 : Vec Ideal S4x96x73728 .i8) (ix3 k d n) = C n k d)
  (hS : ∀ (k : Fin 4) (n : Fin 73728), (V c main_v2 : Vec Ideal S4x73728 .f32) (ix2 k n) = S n k)
  (hP : ∀ n : Fin 73728, (V c main_v18 : Vec Ideal S1x73728 .f32) (ix2 0 n) = P n)
  (hV : ∀ n : Fin 73728, isValid ((V c main_v13 : Vec Ideal S1x73728 .f32) (ix2 0 n)) = validAt W n)

include hL in
theorem block0_at (t : Fin cfg1.N) (b : Fin 2560) (u : Fin 8) (d : Fin 96) :
    (iblk V c 0 t : Vec Ideal S320x64x128 .bf16) (ix3 ⟨b.val / 8, by omega⟩ ⟨8 * u.val + b.val % 8, by omega⟩ ⟨d.val, by omega⟩)
      = levelAt X b u d := by
  unfold iblk
  refine (congrArg (V c main_v3_2 : Vec Ideal S320x64x128 .bf16) (emb0 t _)).trans ((congrFun hL _).trans ?_)
  change wideG X ⟨b.val / 8, by omega⟩ (fold8 ⟨8 * u.val + b.val % 8, by omega⟩) ⟨d.val, by omega⟩ = _
  unfold wideG
  rw [dif_pos d.isLt]
  exact congrArg₂ (fun b u => levelAt X b u d) (Fin.ext (by simp only [fold8]; omega)) (Fin.ext (by simp only [fold8]; omega))

include hG in
theorem block1_at (t : Fin cfg1.N) (b : Fin 2560) (u : Fin 8) (l : Fin 128) :
    (iblk V c 1 t : Vec Ideal S320x64x128 .f32) (ix3 ⟨b.val / 8, by omega⟩ ⟨8 * u.val + b.val % 8, by omega⟩ l)
      = gainAt X T b u := by
  unfold iblk
  refine (congrArg (V c main_v3_3 : Vec Ideal S320x64x128 .f32) (emb1 t _)).trans ((congrFun hG _).trans ?_)
  change gainG X T ⟨b.val / 8, by omega⟩ (fold8 ⟨8 * u.val + b.val % 8, by omega⟩) = _
  unfold gainG
  exact congrArg₂ (fun b u => gainAt X T b u) (Fin.ext (by simp only [fold8]; omega)) (Fin.ext (by simp only [fold8]; omega))

include hC in
theorem block2_at (t : Fin cfg1.N) (k : Fin 4) (d : Fin 96) (q : Fin 512) :
    (iblk V c 2 t : Vec Ideal S4x96x512 .i8) (ix3 k d q) = C ⟨t.val * 512 + q.val, at_items t q⟩ k d := by
  unfold iblk
  exact (congrArg (V c main_v1 : Vec Ideal S4x96x73728 .i8) (emb2 t (ix3 k d q))).trans (hC _ _ _)

include hS in
theorem block3_at (t : Fin cfg1.N) (k : Fin 4) (q : Fin 512) :
    (iblk V c 3 t : Vec Ideal S4x512 .f32) (ix2 k q) = S ⟨t.val * 512 + q.val, at_items t q⟩ k := by
  unfold iblk
  exact (congrArg (V c main_v2 : Vec Ideal S4x73728 .f32) (emb3 t (ix2 k q))).trans (hS _ _)

include hP in
theorem block4_at (t : Fin cfg1.N) (q : Fin 512) :
    (iblk V c 4 t : Vec Ideal S1x512 .f32) (ix2 0 q) = P ⟨t.val * 512 + q.val, at_items t q⟩ := by
  unfold iblk
  exact (congrArg (V c main_v18 : Vec Ideal S1x73728 .f32) (emb4 t (ix2 0 q))).trans (hP _)

include hV in
theorem block5_at (t : Fin cfg1.N) (q : Fin 512) :
    isValid ((iblk V c 5 t : Vec Ideal S1x512 .f32) (ix2 0 q)) = validAt W ⟨t.val * 512 + q.val, at_items t q⟩ := by
  unfold iblk
  exact (congrArg (fun y => isValid ((V c main_v13 : Vec Ideal S1x73728 .f32) y)) (emb5 t (ix2 0 q))).trans (hV _)

include hL hG hC hS hP in
theorem raw_at (t : Fin cfg1.N) (b : Fin 2560) (q : Fin 512) :
    tileRaw (iblk V c 0 t) (iblk V c 1 t) (iblk V c 2 t) (iblk V c 3 t) (iblk V c 4 t) b q
      = rawAt X C S T P b ⟨t.val * 512 + q.val, at_items t q⟩ := by
  unfold tileRaw rawAt
  rw [block4_at V c P hP]
  refine congrArg (fun s => scoreOf s _) (funext fun u => funext fun k => ?_)
  unfold tileProd prodAt dot
  rw [block1_at V c X T hG, block3_at V c S hS]
  simp only [block0_at V c X hL, block2_at V c C hC]

include hL hG hC hS hP hV in
theorem scoresAt_at (t : Fin cfg1.N) (b : Fin 2560) (q : Fin 512) :
    scoresAt V c t (ix2 b q) = scoreVec X C S T P W (ix2 b ⟨t.val * 512 + q.val, at_items t q⟩) := by
  have e : scoreVec X C S T P W (ix2 b ⟨t.val * 512 + q.val, at_items t q⟩) = scoreAt X C S T P W b ⟨t.val * 512 + q.val, at_items t q⟩ := rfl
  rw [e]
  unfold scoresAt scoreAt
  rw [scoreTile_at, raw_at V c X C S T P hL hG hC hS hP, block5_at V c W hV]

include hL hG hC hS hP hV in
/-- The array of scores. -/
theorem scores : (Score.dat V c).arrAt 6 cfg1.N = scoreVec X C S T P W := by
  refine (Score.dat V c).arrAt_eq_of_covers 6 _ (by decide +kernel) fun t hf y => ?_
  rw [after1_6]
  exact (congrArg (scoresAt V c t) (eq_ix2 (n0 := 2560) (n1 := 512) y)).trans
    ((scoresAt_at V c X C S T P W hL hG hC hS hP hV t _ _).trans (congrArg (scoreVec X C S T P W) (emb6 t y)).symm)

/-- The score of a valid item, minus infinity for the others. -/
def rankAt (b : Fin 2560) (n : Fin 73728) : EReal := Scalar.select (validAt W n) (rawAt X C S T P b n) ⊥

include hL hG hC hS hP hV in
theorem tops_le (b : Fin 2560) (l : Fin 128) (a : EReal) (m : ℕ) (hm : m ≤ 144) : topsBefore V c m (ix2 b l) ≤ a
    ↔ ∀ n : Fin 73728, n.val / 512 < m → n.val / 1024 = l.val → rankAt X C S T P W b n ≤ a := by
  induction m with
  | zero =>
      have e : topsBefore V c 0 (ix2 b l) = ⊥ := (show topsBefore V c 0 (ix2 b l) = Ideal.ofBits .f32 0xFF800000#32 from rfl).trans bottom
      rw [e]
      exact ⟨fun _ n h => absurd h (by omega), fun _ => bot_le⟩
  | succ m ih =>
      have hN : m < cfg1.N := by rw [tiles]; omega
      have e : topsBefore V c (m + 1) = raiseAt V c ⟨m, hN⟩ (topsBefore V c m) := topsBefore_succ V c ⟨m, hN⟩
      rw [e]
      unfold raiseAt
      rw [topTile_le, ih (by omega), block_eq]
      have hl : BitVec.ofNat 32 l.val = BitVec.ofNat 32 (m / 2) ↔ l.val = m / 2 := by
        rw [← BitVec.toNat_inj, BitVec.toNat_ofNat, BitVec.toNat_ofNat, Nat.mod_eq_of_lt (by omega), Nat.mod_eq_of_lt (by omega)]
      rw [hl]
      have hr : ∀ q : Fin 512, tileRank (iblk V c 0 ⟨m, hN⟩) (iblk V c 1 ⟨m, hN⟩) (iblk V c 2 ⟨m, hN⟩) (iblk V c 3 ⟨m, hN⟩)
          (iblk V c 4 ⟨m, hN⟩) (iblk V c 5 ⟨m, hN⟩) b q = rankAt X C S T P W b ⟨m * 512 + q.val, by omega⟩ := fun q => by
        unfold tileRank rankAt
        rw [raw_at V c X C S T P hL hG hC hS hP, block5_at V c W hV]
      simp only [hr]
      constructor
      · rintro ⟨h1, h2⟩ n hn hl'
        rcases Nat.lt_or_ge (n.val / 512) m with h | h
        · exact h1 n h hl'
        · have := h2 (by omega) ⟨n.val % 512, by omega⟩
          rwa [show (⟨m * 512 + n.val % 512, by omega⟩ : Fin 73728) = n from Fin.ext (by simp only []; omega)] at this
      · exact fun h => ⟨fun n hn hl' => h n (by omega) hl', fun hl' q => h _ (by simp only []; omega) (by simp only []; omega)⟩

/-- The largest score of each block of items, minus infinity in the lanes past the last block. -/
def topG (b : Fin 2560) (l : Fin 128) : EReal := if h : l.val < 72 then bestAt X C S T P W b ⟨l.val, h⟩ else ⊥

def topT : Vec Ideal S2560x128 .f32 := fun y => topG X C S T P W (y 0) (y 1)

include hL hG hC hS hP hV in
theorem tops_at (b : Fin 2560) (l : Fin 128) : topsBefore V c 144 (ix2 b l) = topG X C S T P W b l := by
  refine eq_of_forall_ge_iff fun a => ?_
  rw [tops_le V c X C S T P W hL hG hC hS hP hV b l a 144 le_rfl]
  unfold topG
  split_ifs with h
  · unfold bestAt
    rw [Finset.fold_max_le]
    constructor
    · exact fun h' => ⟨bot_le, fun i _ => h' ⟨l.val * 1024 + i.val, by omega⟩ (by simp only []; omega) (by simp only []; omega)⟩
    · rintro ⟨-, h'⟩ n - hl
      have := h' ⟨n.val % 1024, by omega⟩ (Finset.mem_univ _)
      have e : (⟨l.val * 1024 + n.val % 1024, by omega⟩ : Fin 73728) = n := Fin.ext (by simp only []; omega)
      simp only [] at this
      rwa [e] at this
  · exact ⟨fun _ => bot_le, fun _ n _ hl => absurd n.isLt (by omega)⟩

include hL hG hC hS hP hV in
/-- The array of block maxima. -/
theorem tops : (Score.dat V c).arrAt 7 cfg1.N = topT X C S T P W := by
  refine (Score.dat V c).arrAt_eq_of_covers 7 _ (by decide +kernel) fun t hf y => ?_
  have ht : t.val + 1 = 144 := by
    have h1 := (flush1_7 t).1 hf
    have h2 := lt_of_lt_of_eq t.isLt tiles
    omega
  rw [after1_7, ht]
  exact (congrArg (topsBefore V c 144) (eq_ix2 (n0 := 2560) (n1 := 128) y)).trans
    ((tops_at V c X C S T P W hL hG hC hS hP hV _ _).trans (congrArg (topT X C S T P W) (emb7 t y)).symm)

end Array

end Cert.KernelIdeal.ScoreValue

end
-- ==== Proof.ShowValue.lean ====
module

public import proofs.«01_k».proof.Proof.ShowRegion
public import proofs.«01_k».proof.Proof.QuantValue

@[expose] public section

set_option maxRecDepth 16384

noncomputable section

/-! # What the third call leaves in its array: the logits of the shown items, users last -/

namespace Cert.KernelIdeal.ShowValue

open Cert.KernelIdeal Cert.KernelIdeal.Gen Cert.KernelIdeal.Show
open Idealize.ShloMosaic Idealize.ShloMosaic.TcCoe
open Idealize.ShloMosaic.Pipeline (Dat)
open Cert.Spec
open Cert.KernelIdeal.QuantValue (codeT scaleT temperature_at)

/-! ## One interest of one tile -/

/-- The logits of a tile: 288 item vectors against one interest of 256 users. -/
def tile (A : FVec Ideal S288x96 .bf16) (B : FVec Ideal S96x256 .bf16) (s : FVec Ideal S1x256 .f32) (I : FVec Ideal S288x128 .f32)
    (T : EReal) : FVec Ideal S72x4x256 .f32 :=
  shapeCast S72x4x256 (divf (mulf (mulf
      (matmul (F := Ideal) dot_S288x96_S96x256_S288x256_1_0_0_1_n_n none A B (constant S288x256 .f32 0x00000000#32))
      (broadcastTo S288x256 (shapeCast S1x256 s shapeCasts_S1x256_S1x256) broadcasts_S1x256_S288x256))
      (broadcastTo S288x256 (extractStridedSlice S288x1 ![0, 0] I slices_S288x128_o0_0_S288x1) broadcasts_S288x1_S288x256))
    (broadcast S288x256 T)) shapeCasts_S288x256_S72x4x256

theorem tile_at (A : FVec Ideal S288x96 .bf16) (B : FVec Ideal S96x256 .bf16) (s : FVec Ideal S1x256 .f32)
    (I : FVec Ideal S288x128 .f32) (T : EReal) (p : Fin 72) (k : Fin 4) (q : Fin 256) :
    tile A B s I T (ix3 p k q)
      = Ideal.div ((∑ d : Fin 96, A (ix2 ⟨p.val * 4 + k.val, by omega⟩ d) * B (ix2 d q)) * s (ix2 0 q)
        * I (ix2 ⟨p.val * 4 + k.val, by omega⟩ 0)) T := by
  unfold tile
  pointwise

theorem pay5_eq (A : Vec Ideal S288x96 .i8) (I : Vec Ideal S288x128 .f32) (B : Vec Ideal S1x96x256 .i8) (s : Vec Ideal S1x256 .f32)
    (T : EReal) : k2_pay5 (F := Ideal) A I B s T = tile (k2_pay3 A) (k2_pay11 B) s (k2_pay4 I) T := by
  unfold k2_pay5 tile k2_pay11
  rfl

theorem items_at (A : Vec Ideal S288x96 .i8) (r : Fin 288) (d : Fin 96) :
    k2_pay3 (F := Ideal) A (ix2 r d) = FloatOps.sitofp (F := Ideal) .bf16 (A (ix2 r d)) := by
  pointwise [k2_pay3]

theorem codes_at (B : Vec Ideal S1x96x256 .i8) (d : Fin 96) (q : Fin 256) :
    k2_pay11 (F := Ideal) B (ix2 d q) = FloatOps.sitofp (F := Ideal) .bf16 (B (ix3 0 d q)) := by
  pointwise [k2_pay11]

theorem item_scales_at (I : Vec Ideal S288x128 .f32) (r : Fin 288) (l : Fin 128) :
    k2_pay4 (F := Ideal) I (ix2 r l) = I (ix2 r l) := by
  pointwise [k2_pay4]

section Pieces

variable (arg2 : Memref sig .tc .smem S1 .f32) (harg2 : arg2.IsWhole) (arg3 : Memref sig .tc .vmem S288x96 .i8) (harg3 : arg3.IsWhole)
  (arg4 : Memref sig .tc .vmem S288x128 .f32) (harg4 : arg4.IsWhole) (arg5 : Memref sig .tc .vmem S8x96x256 .i8) (harg5 : arg5.IsWhole)
  (arg6 : Memref sig .tc .vmem S8x256 .f32) (harg6 : arg6.IsWhole)
  (x0 : Vec Ideal S1 .f32) (x1 : Vec Ideal S288x96 .i8) (x2 : Vec Ideal S288x128 .f32) (x3 : Vec Ideal S8x96x256 .i8)
  (x4 : Vec Ideal S8x256 .f32)

/-- The logit of interest `u` of user `q` and vector `k` of item `p` of a tile. -/
def logit (p : Fin 72) (uk : Fin 8 × Fin 4) (q : Fin 256) : EReal :=
  Ideal.div (dot (fun d => FloatOps.sitofp (F := Ideal) .bf16 (x3 (ix3 uk.1 d q))) (fun d => x1 (ix2 ⟨p.val * 4 + uk.2.val, by omega⟩ d))
    * x4 (ix2 uk.1 q) * x2 (ix2 ⟨p.val * 4 + uk.2.val, by omega⟩ 0)) (x0 (ix1 0))

/-- The logits of a tile. -/
def showTile : Vec Ideal S72x32x256 .f32 := fun y => logit x0 x1 x2 x3 x4 (y 0) (lane (y 1)) (y 2)

theorem lane_mk (u : Fin 8) (k : Fin 4) (h : u.val * 4 + k.val < 32) : lane ⟨u.val * 4 + k.val, h⟩ = (u, k) :=
  Prod.ext (Fin.ext (by simp only [lane]; omega)) (Fin.ext (by simp only [lane]; omega))

abbrev itemsL (h : ∀ a, (![0, 0] : Fin 2 → ℕ) a + S288x96.size a ≤ S288x96.size a) : Vec Ideal S288x96 .i8 :=
  View.readAt (Elt Ideal) arg3.view (Rect.unit (s := S288x96) ![0, 0] S288x96.size h).toLoadRect (harg3.unread x1)

abbrev scalesL (h : ∀ a, (![0, 0] : Fin 2 → ℕ) a + S288x128.size a ≤ S288x128.size a) : Vec Ideal S288x128 .f32 :=
  View.readAt (Elt Ideal) arg4.view (Rect.unit (s := S288x128) ![0, 0] S288x128.size h).toLoadRect (harg4.unread x2)

abbrev codesL (u : Fin 8) (h : ∀ a, (![u.val, 0, 0] : Fin 3 → ℕ) a + (![1, 96, 256] : Fin 3 → ℕ) a ≤ S8x96x256.size a) :
    Vec Ideal S1x96x256 .i8 :=
  View.readAt (Elt Ideal) arg5.view (Rect.unit (s := S8x96x256) ![u.val, 0, 0] ![1, 96, 256] h).toLoadRect (harg5.unread x3)

abbrev rowL (u : Fin 8) (h : ∀ a, (![u.val, 0] : Fin 2 → ℕ) a + (![1, 256] : Fin 2 → ℕ) a ≤ S8x256.size a) :
    Vec Ideal S1x256 .f32 :=
  View.readAt (Elt Ideal) arg6.view (Rect.unit (s := S8x256) ![u.val, 0] ![1, 256] h).toLoadRect (harg6.unread x4)

theorem itemsL_at (h) (r : Fin 288) (d : Fin 96) : itemsL arg3 harg3 x1 h (ix2 r d) = x1 (ix2 r d) := by
  unfold itemsL
  rw [View.readAt_apply, harg3.read_unread]
  congr 1
  pointwise

theorem scalesL_at (h) (r : Fin 288) (d : Fin 128) : scalesL arg4 harg4 x2 h (ix2 r d) = x2 (ix2 r d) := by
  unfold scalesL
  rw [View.readAt_apply, harg4.read_unread]
  congr 1
  pointwise

theorem codesL_at (u : Fin 8) (h) (d : Fin 96) (q : Fin 256) : codesL arg5 harg5 x3 u h (ix3 0 d q) = x3 (ix3 u d q) := by
  unfold codesL
  rw [View.readAt_apply, harg5.read_unread]
  congr 1
  pointwise

theorem rowL_at (u : Fin 8) (h) (q : Fin 256) : rowL arg6 harg6 x4 u h (ix2 0 q) = x4 (ix2 u q) := by
  unfold rowL
  rw [View.readAt_apply, harg6.read_unread]
  congr 1
  pointwise

theorem logit_piece (u : Fin 8) (h3 h4 h5 h6 hT hf h) (x : S72x4x256.Idx) :
    k2_pay5 (F := Ideal) (itemsL arg3 harg3 x1 h3) (scalesL arg4 harg4 x2 h4) (codesL arg5 harg5 x3 u h5) (rowL arg6 harg6 x4 u h6)
        (View.readAt (Elt Ideal) arg2.view (Rect.unit (s := S1) ![0] S1.size hT).toLoadRect (harg2.unread x0) (Shape.Idx.first hf)) x
      = showTile x0 x1 x2 x3 x4 ((Rect.unit (s := S72x32x256) ![0, u.val * 4, 0] ![72, 4, 256] h).emb x) := by
  obtain ⟨p, k, q, rfl⟩ : ∃ (p : Fin 72) (k : Fin 4) (q : Fin 256), x = ix3 p k q :=
    ⟨x 0, x 1, x 2, eq_ix3 (n0 := 72) (n1 := 4) (n2 := 256) x⟩
  have e : (Rect.unit (s := S72x32x256) ![0, u.val * 4, 0] ![72, 4, 256] h).emb (ix3 p k q)
      = (ix3 p ⟨u.val * 4 + k.val, by omega⟩ q : S72x32x256.Idx) := by
    funext a; apply Fin.ext; refine (ValueKit.rect_emb_unit_val _ _ _ _ _).trans ?_; fin_cases a <;> simp [ix3]
  rw [e, temperature_at, pay5_eq, tile_at, item_scales_at, scalesL_at, rowL_at]
  simp only [items_at, codes_at, itemsL_at, codesL_at]
  refine Eq.trans ?_ (congrArg (fun uk => logit x0 x1 x2 x3 x4 p uk q) (lane_mk u k (by omega))).symm
  unfold logit dot
  simp only [mul_comm]

end Pieces

theorem out5_eq (c : Dev nD) (i : grid2.Coords) (arg2 : Memref sig .tc .smem S1 .f32) (harg2 : arg2.IsWhole) (arg3 : Memref sig .tc .vmem S288x96 .i8) (harg3 : arg3.IsWhole) (arg4 : Memref sig .tc .vmem S288x128 .f32) (harg4 : arg4.IsWhole) (arg5 : Memref sig .tc .vmem S8x96x256 .i8) (harg5 : arg5.IsWhole) (arg6 : Memref sig .tc .vmem S8x256 .f32) (harg6 : arg6.IsWhole) (arg7 : Memref sig .tc .vmem S72x32x256 .f32) (harg7 : arg7.IsWhole)
    (x0 : Vec Ideal S1 .f32) (x1 : Vec Ideal S288x96 .i8) (x2 : Vec Ideal S288x128 .f32) (x3 : Vec Ideal S8x96x256 .i8) (x4 : Vec Ideal S8x256 .f32) (y : S72x32x256.Idx) :
    out2_A_5 c i arg2 harg2 arg3 harg3 arg4 harg4 arg5 harg5 arg6 harg6 arg7 harg7 x0 x1 x2 x3 x4 y = showTile x0 x1 x2 x3 x4 y := by
  have P := logit_piece arg2 harg2 arg3 harg3 arg4 harg4 arg5 harg5 arg6 harg6 x0 x1 x2 x3 x4
  refine View.read_writes_apply_of_pieces VO2_5 _ (showTile x0 x1 x2 x3 x4) _ ?_ y (cover2_A_5 ..)
  unfold kernelRun2_A
  dsimp only
  simp only [List.forall_mem_cons]
  exact ⟨P 7 _ _ _ _ _ _ _, P 6 _ _ _ _ _ _ _, P 5 _ _ _ _ _ _ _, P 4 _ _ _ _ _ _ _, P 3 _ _ _ _ _ _ _, P 2 _ _ _ _ _ _ _,
    P 1 _ _ _ _ _ _ _, P 0 _ _ _ _ _ _ _, fun _ h => absurd h List.not_mem_nil⟩

/-! ## The blocks of point `t`: item tile `t / 10`, user tile `t % 10` -/

section Array

variable (V : (c : Dev nD) → (b : Ref sig .tc) → Buf (Elt Ideal) ((c : Thread nD τ).loc b)) (c : Dev nD)
  (X : Fin 2560 → Fin 8 → Fin 96 → EReal) (C : Fin 73728 → Fin 4 → Fin 96 → BitVec 8) (S : Fin 73728 → Fin 4 → EReal) (T : EReal)

/-- The vector a row of the shown items holds: its item and which of the item's four it is. -/
def pick (r : Fin 864) : Fin 73728 × Fin 4 := (⟨r.val / 12 * 1024 + r.val / 4 % 3, by omega⟩, ⟨r.val % 4, by omega⟩)

/-- The block of a shown item and its place in the block. -/
def place (p : Fin 216) : Fin 72 × Fin 3 := (⟨p.val / 3, by omega⟩, ⟨p.val % 3, by omega⟩)

/-- The logits, users last. -/
def showT : Vec Ideal S216x32x2560 .f32 := fun y =>
  showAt X C S T (y 2) (place (y 0)).1 (place (y 0)).2 (lane (y 1)).1 (lane (y 1)).2

theorem index1 : ∀ t : Fin cfg2.N, win2_1.index t 0 = t.val / 10 ∧ win2_1.index t 1 = 0 := by decide +kernel

theorem index2 : ∀ t : Fin cfg2.N, win2_2.index t 0 = t.val / 10 ∧ win2_2.index t 1 = 0 := by decide +kernel

theorem index3 : ∀ t : Fin cfg2.N, win2_3.index t 0 = 0 ∧ win2_3.index t 1 = 0 ∧ win2_3.index t 2 = t.val % 10 := by
  decide +kernel

theorem index4 : ∀ t : Fin cfg2.N, win2_4.index t 0 = 0 ∧ win2_4.index t 1 = t.val % 10 := by decide +kernel

theorem index5 : ∀ t : Fin cfg2.N, win2_5.index t 0 = t.val / 10 ∧ win2_5.index t 1 = 0 ∧ win2_5.index t 2 = t.val % 10 := by
  decide +kernel

theorem at_items (t : Fin cfg2.N) (r : Fin 288) : t.val / 10 * 288 + r.val < 864 := by
  have := t.isLt
  change t.val < 30 at this
  omega

theorem at_shown (t : Fin cfg2.N) (r : Fin 72) : t.val / 10 * 72 + r.val < 216 := by
  have := t.isLt
  change t.val < 30 at this
  omega

theorem at_users (t : Fin cfg2.N) (q : Fin 256) : t.val % 10 * 256 + q.val < 2560 := by omega

theorem emb1 (t : Fin cfg2.N) (y : S288x96.Idx) :
    (win2_1.blk t).view.emb y = (ix2 ⟨t.val / 10 * 288 + (y 0).val, at_items t (y 0)⟩ (y 1) : S864x96.Idx) := by
  obtain ⟨h0, h1⟩ := index1 t
  funext a
  apply Fin.ext
  fin_cases a <;> blk_simp
  · rw [h0]; rfl
  · rw [h1, Nat.zero_mul, Nat.zero_add]; rfl

theorem emb2 (t : Fin cfg2.N) (y : S288x128.Idx) :
    (win2_2.blk t).view.emb y = (ix2 ⟨t.val / 10 * 288 + (y 0).val, at_items t (y 0)⟩ (y 1) : S864x128.Idx) := by
  obtain ⟨h0, h1⟩ := index2 t
  funext a
  apply Fin.ext
  fin_cases a <;> blk_simp
  · rw [h0]; rfl
  · rw [h1, Nat.zero_mul, Nat.zero_add]; rfl

theorem emb3 (t : Fin cfg2.N) (y : S8x96x256.Idx) :
    (win2_3.blk t).view.emb y = (ix3 (y 0) (y 1) ⟨t.val % 10 * 256 + (y 2).val, at_users t (y 2)⟩ : S8x96x2560.Idx) := by
  obtain ⟨h0, h1, h2⟩ := index3 t
  funext a
  apply Fin.ext
  fin_cases a <;> blk_simp
  · rw [h0, Nat.zero_mul, Nat.zero_add]; rfl
  · rw [h1, Nat.zero_mul, Nat.zero_add]; rfl
  · rw [h2]; rfl

theorem emb4 (t : Fin cfg2.N) (y : S8x256.Idx) :
    (win2_4.blk t).view.emb y = (ix2 (y 0) ⟨t.val % 10 * 256 + (y 1).val, at_users t (y 1)⟩ : S8x2560.Idx) := by
  obtain ⟨h0, h1⟩ := index4 t
  funext a
  apply Fin.ext
  fin_cases a <;> blk_simp
  · rw [h0, Nat.zero_mul, Nat.zero_add]; rfl
  · rw [h1]; rfl

theorem emb5 (t : Fin cfg2.N) (y : S72x32x256.Idx) :
    (win2_5.blk t).view.emb y = (ix3 ⟨t.val / 10 * 72 + (y 0).val, at_shown t (y 0)⟩ (y 1)
      ⟨t.val % 10 * 256 + (y 2).val, at_users t (y 2)⟩ : S216x32x2560.Idx) := by
  obtain ⟨h0, h1, h2⟩ := index5 t
  funext a
  apply Fin.ext
  fin_cases a <;> blk_simp
  · rw [h0]; rfl
  · rw [h1, Nat.zero_mul, Nat.zero_add]; rfl
  · rw [h2]; rfl

variable (hC : ∀ (r : Fin 864) (d : Fin 96), (V c main_v24 : Vec Ideal S864x96 .i8) (ix2 r d) = C (pick r).1 (pick r).2 d)
  (hS : ∀ (r : Fin 864) (l : Fin 128), (V c main_v28 : Vec Ideal S864x128 .f32) (ix2 r l) = S (pick r).1 (pick r).2)
  (hQ : (V c main_v3_0 : Vec Ideal S8x96x2560 .i8) = codeT X) (hs : (V c main_v3_1 : Vec Ideal S8x2560 .f32) = scaleT X)
  (hT : (V c main_arg3 : Vec Ideal S1 .f32) (ix1 0) = T)

include hT in
theorem block0_at (t : Fin cfg2.N) : (iblk V c 0 t : Vec Ideal S1 .f32) (ix1 0) = T := by
  unfold iblk
  exact (congrArg (V c main_arg3 : Vec Ideal S1 .f32) ((eq_ix1 (n0 := 1) _).trans (congrArg ix1 (Subsingleton.elim _ _)))).trans hT

include hC in
theorem block1_at (t : Fin cfg2.N) (r : Fin 288) (d : Fin 96) : (iblk V c 1 t : Vec Ideal S288x96 .i8) (ix2 r d)
    = C (pick ⟨t.val / 10 * 288 + r.val, at_items t r⟩).1 (pick ⟨t.val / 10 * 288 + r.val, at_items t r⟩).2 d := by
  unfold iblk
  exact (congrArg (V c main_v24 : Vec Ideal S864x96 .i8) (emb1 t (ix2 r d))).trans (hC _ _)

include hS in
theorem block2_at (t : Fin cfg2.N) (r : Fin 288) (l : Fin 128) : (iblk V c 2 t : Vec Ideal S288x128 .f32) (ix2 r l)
    = S (pick ⟨t.val / 10 * 288 + r.val, at_items t r⟩).1 (pick ⟨t.val / 10 * 288 + r.val, at_items t r⟩).2 := by
  unfold iblk
  exact (congrArg (V c main_v28 : Vec Ideal S864x128 .f32) (emb2 t (ix2 r l))).trans (hS _ _)

include hQ in
theorem block3_at (t : Fin cfg2.N) (u : Fin 8) (d : Fin 96) (q : Fin 256) : (iblk V c 3 t : Vec Ideal S8x96x256 .i8) (ix3 u d q)
    = codeAt X ⟨t.val % 10 * 256 + q.val, at_users t q⟩ u d := by
  unfold iblk
  exact (congrArg (V c main_v3_0 : Vec Ideal S8x96x2560 .i8) (emb3 t (ix3 u d q))).trans (congrFun hQ _)

include hs in
theorem block4_at (t : Fin cfg2.N) (u : Fin 8) (q : Fin 256) : (iblk V c 4 t : Vec Ideal S8x256 .f32) (ix2 u q)
    = scaleAt X ⟨t.val % 10 * 256 + q.val, at_users t q⟩ u := by
  unfold iblk
  exact (congrArg (V c main_v3_1 : Vec Ideal S8x2560 .f32) (emb4 t (ix2 u q))).trans (congrFun hs _)

theorem pick_eq (r : ℕ) (h : r < 216) (k : Fin 4) (h' : r * 4 + k.val < 864) :
    pick ⟨r * 4 + k.val, h'⟩ = (⟨(place ⟨r, h⟩).1.val * 1024 + (place ⟨r, h⟩).2.val, by omega⟩, k) :=
  Prod.ext (Fin.ext (by simp only [pick, place]; omega)) (Fin.ext (by simp only [pick]; omega))

include hC hS hQ hs hT in
theorem logit_at (t : Fin cfg2.N) (p : Fin 72) (l : Fin 32) (q : Fin 256) :
    logit (iblk V c 0 t) (iblk V c 1 t) (iblk V c 2 t) (iblk V c 3 t) (iblk V c 4 t) p (lane l) q
      = showT X C S T (ix3 ⟨t.val / 10 * 72 + p.val, at_shown t p⟩ l ⟨t.val % 10 * 256 + q.val, at_users t q⟩) := by
  unfold logit
  have e : ∀ h, (⟨t.val / 10 * 288 + (p.val * 4 + (lane l).2.val), h⟩ : Fin 864)
      = ⟨(t.val / 10 * 72 + p.val) * 4 + (lane l).2.val, by omega⟩ := fun h => Fin.ext (by simp only []; omega)
  rw [block0_at V c T hT, block2_at V c S hS, block4_at V c X hs]
  simp only [block1_at V c C hC, block3_at V c X hQ, e, codeAt, code_level]
  rw [pick_eq _ (at_shown t p)]
  rfl

include hC hS hQ hs hT in
/-- The array of logits. -/
theorem shows : (dat V c).arrAt 5 cfg2.N = showT X C S T := by
  refine (dat V c).arrAt_eq_of_covers 5 _ (by decide +kernel) fun t hf y => ?_
  rw [after2_5]
  unfold outsAt2
  rw [out5_eq]
  exact (logit_at V c X C S T hC hS hQ hs hT t (y 0) (y 1) (y 2)).trans (congrArg (showT X C S T) (emb5 t y)).symm

end Array

end Cert.KernelIdeal.ShowValue

end
-- ==== Proof.HostRead.lean ====
module

public import proofs.«01_k».proof.Proof.Gen.KernelIdeal.Regions
public import proofs.«01_k».proof.Proof.ScoreValue
public import proofs.«01_k».proof.Proof.ShowValue
public import Idealize.ShloMosaic.Lib.Claim

@[expose] public section

set_option maxRecDepth 16384

noncomputable section

/-! # What the kernel's host operations compute between the calls -/

namespace Cert.KernelIdeal.HostRead

open Cert.KernelIdeal Cert.KernelIdeal.Gen
open Idealize.ShloMosaic Idealize.ShloMosaic.TcCoe
open Cert.Spec

/-! ## Before the first call: the arguments with the users or the items last -/

theorem users_at (v : Vec Ideal S2560x8x96 .bf16) (u : Fin 8) (d : Fin 96) (b : Fin 2560) :
    transpose S8x96x2560 [1, 2, 0] v transposes_S2560x8x96_S8x96x2560_1_2_0 (ix3 u d b) = v (ix3 b u d) := by
  pointwise

theorem codes_at (v : Vec Ideal S73728x4x96 .i8) (k : Fin 4) (d : Fin 96) (n : Fin 73728) :
    transpose S4x96x73728 [1, 2, 0] v transposes_S73728x4x96_S4x96x73728_1_2_0 (ix3 k d n) = v (ix3 n k d) := by
  pointwise

theorem scales_at (v : Vec Ideal S73728x4 .f32) (k : Fin 4) (n : Fin 73728) :
    transpose S4x73728 [1, 0] v transposes_S73728x4_S4x73728_1_0 (ix2 k n) = v (ix2 n k) := by
  pointwise

/-! ## Between the first two calls: the bits of the validity words, and which blocks have a valid item -/

/-- The bits of the words, one per item. -/
def bits (w : IVec S2304 32) : IVec S1x73728 32 :=
  shapeCast S1x73728 (andi (Host.shrui
      (broadcastInDim S2304x32 ![0, 1] bcast_S2304x1_S2304x32_0_1 (broadcastInDim S2304x1 ![0] bcast_S2304_S2304x1_0 w))
      (broadcastInDim S2304x32 ![0, 1] bcast_S1x32_S2304x32_0_1 (broadcastInDim S1x32 ![1] bcast_S32_S1x32_1 (iotaInDim S32 32 0))))
    (broadcastInDim S2304x32 ![] bcast_S_S2304x32 (constantI S_ 32 1#32))) shapeCasts_S2304x32_S1x73728

theorem bits_at (w : IVec S2304 32) (n : Fin 73728) : bits w (ix2 0 n) = bitAt (fun i => w (ix1 i)) n := by
  unfold bits bitAt
  pointwise

/-- Whether a block has a word that is not zero. -/
def anyWord (w : IVec S2304 32) : IVec S72 1 :=
  Host.reduce IntOp.ori (cmpi .ne (shapeCast S72x32 w shapeCasts_S2304_S72x32)
    (broadcastInDim S72x32 ![] bcast_S_S72x32 (constantI S_ 32 0#32))) (constantI S_ 1 0#1) reducesTo_S72x32_S72_d1 h_S_

theorem anyWord_at (w : IVec S2304 32) (j : Fin 72) : anyWord w (ix1 j)
    = Finset.univ.fold IntOp.ori 0#1 fun i : Fin 32 => IntOp.cmpi CmpIPredicate.ne (w (ix1 ⟨j.val * 32 + i.val, by omega⟩)) 0#32 := by
  unfold anyWord
  pointwise

section Line

variable (V : Valuation τ sig (Elt Ideal))

theorem line0_v0 : StableHlo.after (hostOps0 (F := Ideal)) V main_v0
    = transpose S8x96x2560 [1, 2, 0] (V main_arg0 : Vec Ideal S2560x8x96 .bf16) transposes_S2560x8x96_S8x96x2560_1_2_0 := by
  after_results

theorem line0_v1 : StableHlo.after (hostOps0 (F := Ideal)) V main_v1
    = transpose S4x96x73728 [1, 2, 0] (V main_arg1 : Vec Ideal S73728x4x96 .i8) transposes_S73728x4x96_S4x96x73728_1_2_0 := by
  after_results

theorem line0_v2 : StableHlo.after (hostOps0 (F := Ideal)) V main_v2
    = transpose S4x73728 [1, 0] (V main_arg2 : Vec Ideal S73728x4 .f32) transposes_S73728x4_S4x73728_1_0 := by
  after_results

theorem line1_v13 : StableHlo.after (hostOps1 (F := Ideal)) V main_v13
    = uitofp (F := Ideal) .f32 (bits (V main_arg5 : Vec Ideal S2304 .i32)) := by
  after_results
  rfl

theorem line1_v17 : StableHlo.after (hostOps1 (F := Ideal)) V main_v17 = anyWord (V main_arg5 : Vec Ideal S2304 .i32) := by
  after_results
  rfl

theorem line1_v18 : StableHlo.after (hostOps1 (F := Ideal)) V main_v18
    = shapeCast S1x73728 (V main_arg4 : Vec Ideal S73728 .f32) shapeCasts_S73728_S1x73728 := by
  after_results
  rfl

end Line

/-! ## Around the third call -/

/-- The block maxima, zero for a block without a valid item. -/
def kept (w : IVec S72 1) (t : FVec Ideal S2560x72 .f32) (z : FVec Ideal S_ .f32) : FVec Ideal S2560x72 .f32 :=
  select (broadcastInDim S2560x72 ![1] bcast_S72_S2560x72_1 w) t (broadcastInDim S2560x72 ![] bcast_S_S2560x72 z)

theorem kept_at (w : IVec S72 1) (t : FVec Ideal S2560x72 .f32) (z : FVec Ideal S_ .f32) (b : Fin 2560) (j : Fin 72) :
    kept w t z (ix2 b j) = Scalar.select (w (ix1 j)) (t (ix2 b j)) (z ix0) := by
  unfold kept
  pointwise

/-- The first three items of each block, one row per vector. -/
def cutCodes (v : IVec S73728x4x96 8) : IVec S864x96 8 :=
  shapeCast S864x96 (extractStridedSlice S72x3x4x96 ![0, 0, 0, 0] (shapeCast S72x1024x4x96 v shapeCasts_S73728x4x96_S72x1024x4x96)
    slices_S72x1024x4x96_S72x3x4x96_0_0_0_0) shapeCasts_S72x3x4x96_S864x96

theorem cutCodes_at (v : IVec S73728x4x96 8) (r : Fin 864) (d : Fin 96) :
    cutCodes v (ix2 r d) = v (ix3 (ShowValue.pick r).1 (ShowValue.pick r).2 d) := by
  unfold cutCodes
  pointwise
  rfl

/-- Their scales, along 128 lanes. -/
def cutScales (v : FVec Ideal S73728x4 .f32) : FVec Ideal S864x128 .f32 :=
  broadcastInDim S864x128 ![0, 1] bcast_S864x1_S864x128_0_1 (shapeCast S864x1 (extractStridedSlice S72x3x4 ![0, 0, 0]
    (shapeCast S72x1024x4 v shapeCasts_S73728x4_S72x1024x4) slices_S72x1024x4_S72x3x4_0_0_0) shapeCasts_S72x3x4_S864x1)

theorem cutScales_at (v : FVec Ideal S73728x4 .f32) (r : Fin 864) (l : Fin 128) :
    cutScales v (ix2 r l) = v (ix2 (ShowValue.pick r).1 (ShowValue.pick r).2) := by
  unfold cutScales
  pointwise
  rfl

/-- The logits with the users first and the blocks apart. -/
def laidOut (v : FVec Ideal S216x32x2560 .f32) : FVec Ideal S2560x72x3x32 .f32 :=
  shapeCast S2560x72x3x32 (transpose S2560x216x32 [2, 0, 1] v transposes_S216x32x2560_S2560x216x32_2_0_1) shapeCasts_S2560x216x32_S2560x72x3x32

theorem laidOut_at (v : FVec Ideal S216x32x2560 .f32) (b : Fin 2560) (j : Fin 72) (i : Fin 3) (l : Fin 32) :
    laidOut v (ix4 b j i l) = v (ix3 ⟨j.val * 3 + i.val, by omega⟩ l b) := by
  unfold laidOut
  pointwise

section Line

variable (V : Valuation τ sig (Elt Ideal))

theorem line2_v20 : StableHlo.after (hostOps2 (F := Ideal)) V main_v20
    = extractStridedSlice S2560x72 ![0, 0] (V main_v19_1 : Vec Ideal S2560x128 .f32) slices_S2560x128_S2560x72_0_0 := by
  after_results

theorem line2_cst : StableHlo.after (hostOps2 (F := Ideal)) V main_cst = constant (F := Ideal) S_ .f32 0x00000000#32 := by
  after_results

theorem line3_v21 : StableHlo.after (hostOps2_1 (F := Ideal)) V main_v21
    = kept (V main_v17 : Vec Ideal S72 .i1) (V main_v20 : Vec Ideal S2560x72 .f32) (V main_cst : Vec Ideal S_ .f32) := by
  after_results
  rfl

theorem line4_v24 : StableHlo.after (hostOps2_2 (F := Ideal)) V main_v24 = cutCodes (V main_arg1 : Vec Ideal S73728x4x96 .i8) := by
  after_results
  rfl

theorem line4_v28 : StableHlo.after (hostOps2_2 (F := Ideal)) V main_v28 = cutScales (V main_arg2 : Vec Ideal S73728x4 .f32) := by
  after_results
  rfl

theorem line5_v31 : StableHlo.after (hostOps3 (F := Ideal)) V main_v31 = laidOut (V main_v29 : Vec Ideal S216x32x2560 .f32) := by
  after_results
  rfl

theorem line5_v32 : StableHlo.after (hostOps3 (F := Ideal)) V main_v32
    = transpose S2560x8x96 [2, 0, 1] (V main_v3_0 : Vec Ideal S8x96x2560 .i8) transposes_S8x96x2560_S2560x8x96_2_0_1 := by
  after_results

theorem line5_v33 : StableHlo.after (hostOps3 (F := Ideal)) V main_v33
    = transpose S2560x8 [1, 0] (V main_v3_1 : Vec Ideal S8x2560 .f32) transposes_S8x2560_S2560x8_1_0 := by
  after_results

end Line

/-! ## A word is zero exactly when its 32 bits are -/

theorem bit_ne (w : BitVec 32) (i : ℕ) (h : i < 32) :
    IntOp.andi (IntOp.shrui ArithUnit.host w (BitVec.ofNat 32 i)) 1#32 ≠ 0#32 ↔ w.getLsbD i = true := by
  have e : (BitVec.ofNat 32 i).toNat = i := by rw [BitVec.toNat_ofNat]; omega
  unfold IntOp.shrui IntOp.andi
  rw [e, if_pos h, BitVec.ushiftRight_eq', e]
  constructor
  · intro hn
    by_contra hb
    refine hn (BitVec.eq_of_getLsbD_eq fun k hk => ?_)
    rcases Nat.eq_zero_or_pos k with rfl | hk'
    · simpa using hb
    · have : k ≠ 0 := by omega
      simp [this]
  · intro hb hn
    have := congrArg (fun x : BitVec 32 => x.getLsbD 0) hn
    simp [hb] at this

theorem word_ne (w : BitVec 32) : w ≠ 0#32 ↔ ∃ i : Fin 32, w.getLsbD i.val = true := by
  constructor
  · intro h
    by_contra hn
    refine h (BitVec.eq_of_getLsbD_eq fun k hk => ?_)
    have := fun hk' => hn ⟨⟨k, hk⟩, hk'⟩
    simpa using this
  · rintro ⟨i, hi⟩ rfl
    simp at hi

theorem cmp_ne (w v : BitVec 32) : IntOp.cmpi CmpIPredicate.ne w v ≠ 0#1 ↔ w ≠ v := by
  by_cases h : w = v
  · subst h; simp [IntOp.cmpi]
  · have h' : (w != v) = true := by simpa using h
    simp [IntOp.cmpi, h, h']

theorem fold_or {n : ℕ} (f : Fin n → BitVec 1) (s : Finset (Fin n)) : s.fold IntOp.ori 0#1 f ≠ 0#1 ↔ ∃ i ∈ s, f i ≠ 0#1 := by
  induction s using Finset.induction_on with
  | empty => simp
  | insert a s ha ih =>
      rw [Finset.fold_insert ha]
      have h : ∀ x y : BitVec 1, IntOp.ori x y ≠ 0#1 ↔ x ≠ 0#1 ∨ y ≠ 0#1 := by decide
      rw [h, ih]
      simp only [Finset.mem_insert, exists_eq_or_imp]

theorem anyAt_pos (W : Fin 2304 → BitVec 32) (j : Fin 72) :
    0 < anyAt W j ↔ ∃ i : Fin 1024, validAt W ⟨j.val * 1024 + i.val, by omega⟩ ≠ 0#1 := by
  unfold anyAt
  rw [Finset.lt_fold_max]
  constructor
  · rintro (h | ⟨i, -, h⟩)
    · exact absurd h not_lt_bot
    · refine ⟨i, fun h0 => ?_⟩
      rw [h0] at h
      exact lt_irrefl _ h
  · rintro ⟨i, h⟩
    refine Or.inr ⟨i, Finset.mem_univ _, ?_⟩
    have h1 : ∀ x : BitVec 1, x ≠ 0#1 → x = 1#1 := by decide
    rw [h1 _ h]
    exact zero_lt_one

theorem anyWord_ne (w : IVec S2304 32) (j : Fin 72) : anyWord w (ix1 j) ≠ 0#1 ↔ 0 < anyAt (fun i => w (ix1 i)) j := by
  rw [anyWord_at, fold_or, anyAt_pos]
  simp only [Finset.mem_univ, true_and, cmp_ne, word_ne, validAt, bitAt, bit_ne _ _ (Nat.mod_lt _ (by norm_num : 0 < 32))]
  constructor
  · rintro ⟨i, k, h⟩
    refine ⟨⟨i.val * 32 + k.val, by omega⟩, ?_⟩
    have e1 : (j.val * 1024 + (i.val * 32 + k.val)) / 32 = j.val * 32 + i.val := by omega
    have e2 : (j.val * 1024 + (i.val * 32 + k.val)) % 32 = k.val := by omega
    simp only [e1, e2]
    exact h
  · rintro ⟨i, h⟩
    refine ⟨⟨i.val / 32, by omega⟩, ⟨i.val % 32, by omega⟩, ?_⟩
    have e1 : (j.val * 1024 + i.val) / 32 = j.val * 32 + i.val / 32 := by omega
    have e2 : (j.val * 1024 + i.val) % 32 = i.val % 32 := by omega
    simp only [e1, e2] at h
    exact h

/-- The bits converted to floats mark the valid items. -/
theorem bits_valid (w : IVec S2304 32) (n : Fin 73728) :
    ScoreTile.isValid (uitofp (F := Ideal) .f32 (bits w) (ix2 0 n)) = validAt (fun i => w (ix1 i)) n := by
  have e : uitofp (F := Ideal) .f32 (bits w) (ix2 0 n) = (((bitAt (fun i => w (ix1 i)) n).toNat : ℝ) : EReal) := by
    rw [← bits_at]
    rfl
  rw [e]
  unfold validAt ScoreTile.isValid
  generalize bitAt (fun i => w (ix1 i)) n = v
  by_cases h : v = 0#32
  · subst h
    simp [IntOp.cmpi]
  · have h1 : v.toNat ≠ 0 := fun h' => h (BitVec.eq_of_toNat_eq (by simpa using h'))
    have h2 : (((v.toNat : ℝ)) : EReal) ≠ 0 := by exact_mod_cast h1
    have h3 : (v != 0#32) = true := by simpa using h
    rw [decide_eq_true h2]
    simp [IntOp.cmpi, h3]

end Cert.KernelIdeal.HostRead

end
-- ==== Proof.KernelValue.lean ====
module

public import proofs.«01_k».proof.Proof.Run
public import proofs.«01_k».proof.Proof.HostRead

@[expose] public section

set_option maxRecDepth 16384

noncomputable section

/-! # The results of the whole kernel

The arrays of the three calls and the host operations between them, put together: each result of the kernel in terms of
its arguments. -/

namespace Cert.KernelIdeal.KernelValue

open Cert.KernelIdeal Cert.KernelIdeal.Gen Cert.KernelIdeal.Run
open Idealize.ShloMosaic Idealize.ShloMosaic.TcCoe
open Idealize.ShloMosaic.Pipeline (afterRegion)
open Cert.Spec
open Cert.KernelIdeal.QuantValue (codeT scaleT wideVec gainVec)
open Cert.KernelIdeal.ShowValue (pick showT)
open Cert.KernelIdeal.ScoreValue (topT topG)

variable (m : (ℓ : Loc nD τ sig) → Buf (Elt Ideal) ℓ)

/-! ## The arguments -/

abbrev X (c : Dev nD) (b : Fin 2560) (u : Fin 8) (d : Fin 96) : EReal :=
  (m ((c : Thread nD τ).loc main_arg0) : Vec Ideal S2560x8x96 .bf16) (ix3 b u d)
abbrev C (c : Dev nD) (n : Fin 73728) (k : Fin 4) (d : Fin 96) : BitVec 8 :=
  (m ((c : Thread nD τ).loc main_arg1) : Vec Ideal S73728x4x96 .i8) (ix3 n k d)
abbrev S (c : Dev nD) (n : Fin 73728) (k : Fin 4) : EReal :=
  (m ((c : Thread nD τ).loc main_arg2) : Vec Ideal S73728x4 .f32) (ix2 n k)
abbrev T (c : Dev nD) : EReal := (m ((c : Thread nD τ).loc main_arg3) : Vec Ideal S1 .f32) (ix1 0)
abbrev P (c : Dev nD) (n : Fin 73728) : EReal := (m ((c : Thread nD τ).loc main_arg4) : Vec Ideal S73728 .f32) (ix1 n)
abbrev W (c : Dev nD) (n : Fin 2304) : BitVec 32 := (m ((c : Thread nD τ).loc main_arg5) : Vec Ideal S2304 .i32) (ix1 n)

variable (c : Dev nD)

/-! ## A buffer no item up to there writes -/

theorem at1 (r : Ref sig .tc) (h1 : r ∉ hostOps0_W) : V1 m c r = m ((c : Thread nD τ).loc r) :=
  (V1_of m c r h1).trans rfl

theorem at2 (r : Ref sig .tc) (h1 : r ∉ hostOps0_W) (h2 : r ∉ ([main_v3_0, main_v3_1, main_v3_2, main_v3_3] : List (Ref sig .tc))) :
    V2 m (outs m) c r = m ((c : Thread nD τ).loc r) :=
  (V2_of m (outs m) c r h2).trans (at1 m c r h1)

/-- From the second call to the entry of the third. -/
theorem at6 (r : Ref sig .tc) (h4 : r ∉ ([main_v19_0, main_v19_1] : List (Ref sig .tc))) (h5 : r ∉ hostOps2_W)
    (h6 : r ∉ hostOps2_1_W) : V6 m (outs m) c r = V3 m (outs m) c r :=
  (V6_of m (outs m) c r h6).trans ((V5_of m (outs m) c r h5).trans (V4_of m (outs m) c r h4))

/-! ## The first call -/

theorem users (u : Fin 8) (d : Fin 96) (b : Fin 2560) : (V1 m c main_v0 : Vec Ideal S8x96x2560 .bf16) (ix3 u d b) = X m c b u d := by
  rw [show V1 m c main_v0 = _ from HostRead.line0_v0 (V0 m c)]
  exact HostRead.users_at _ u d b

theorem temperature : (V1 m c main_arg3 : Vec Ideal S1 .f32) (ix1 0) = T m c :=
  congrFun (at1 m c main_arg3 (by decide)) (ix1 0)

theorem quant_codes : V2 m (outs m) c main_v3_0 = codeT (X m c) :=
  (after_quant m c _ (mem_uc main_v3_0 (by decide))).symm.trans
    ((Pipeline.afterRegion_arr (quantDat m c) (V1 m c) launch0.win.arr_inj 2).trans
      (QuantValue.codes (atRefs (V1 m)) c (X m c) (users m c)))

theorem quant_scales : V2 m (outs m) c main_v3_1 = scaleT (X m c) :=
  (after_quant m c _ (mem_uc main_v3_1 (by decide))).symm.trans
    ((Pipeline.afterRegion_arr (quantDat m c) (V1 m c) launch0.win.arr_inj 3).trans
      (QuantValue.scaleArr (atRefs (V1 m)) c (X m c) (users m c)))

theorem quant_wide : V2 m (outs m) c main_v3_2 = wideVec (X m c) :=
  (after_quant m c _ (mem_uc main_v3_2 (by decide))).symm.trans
    ((Pipeline.afterRegion_arr (quantDat m c) (V1 m c) launch0.win.arr_inj 4).trans
      (QuantValue.wideArr (atRefs (V1 m)) c (X m c) (users m c)))

theorem quant_gains : V2 m (outs m) c main_v3_3 = gainVec (X m c) (T m c) :=
  (after_quant m c _ (mem_uc main_v3_3 (by decide))).symm.trans
    ((Pipeline.afterRegion_arr (quantDat m c) (V1 m c) launch0.win.arr_inj 5).trans
      (QuantValue.gainArr (atRefs (V1 m)) c (X m c) (T m c) (users m c) (temperature m c)))

/-! ## The second call -/

theorem entry (r : Ref sig .tc) : V3 m (outsQuant m) c r = V3 m (outs m) c r := congrFun (V3_outs m c).symm r

theorem score_wide : V3 m (outsQuant m) c main_v3_2 = wideVec (X m c) :=
  (entry m c main_v3_2).trans ((V3_of m (outs m) c main_v3_2 (by decide)).trans (quant_wide m c))

theorem score_gains : V3 m (outsQuant m) c main_v3_3 = gainVec (X m c) (T m c) :=
  (entry m c main_v3_3).trans ((V3_of m (outs m) c main_v3_3 (by decide)).trans (quant_gains m c))

theorem v1_eq : V3 m (outsQuant m) c main_v1 = transpose S4x96x73728 [1, 2, 0] (m ((c : Thread nD τ).loc main_arg1) : Vec Ideal S73728x4x96 .i8) transposes_S73728x4x96_S4x96x73728_1_2_0 :=
  (entry m c main_v1).trans ((V3_of m (outs m) c main_v1 (by decide)).trans
    ((V2_of m (outs m) c main_v1 (by decide)).trans (HostRead.line0_v1 (V0 m c))))

theorem score_items (k : Fin 4) (d : Fin 96) (n : Fin 73728) :
    (V3 m (outsQuant m) c main_v1 : Vec Ideal S4x96x73728 .i8) (ix3 k d n) = C m c n k d :=
  (congrFun (v1_eq m c) (ix3 k d n)).trans (HostRead.codes_at _ k d n)

theorem v2_eq : V3 m (outsQuant m) c main_v2 = transpose S4x73728 [1, 0] (m ((c : Thread nD τ).loc main_arg2) : Vec Ideal S73728x4 .f32) transposes_S73728x4_S4x73728_1_0 :=
  (entry m c main_v2).trans ((V3_of m (outs m) c main_v2 (by decide)).trans
    ((V2_of m (outs m) c main_v2 (by decide)).trans (HostRead.line0_v2 (V0 m c))))

theorem score_scales (k : Fin 4) (n : Fin 73728) : (V3 m (outsQuant m) c main_v2 : Vec Ideal S4x73728 .f32) (ix2 k n) = S m c n k :=
  (congrFun (v2_eq m c) (ix2 k n)).trans (HostRead.scales_at _ k n)

theorem v18_eq : V3 m (outsQuant m) c main_v18 = shapeCast S1x73728 (V2 m (outs m) c main_arg4 : Vec Ideal S73728 .f32) shapeCasts_S73728_S1x73728 :=
  (entry m c main_v18).trans (HostRead.line1_v18 (V2 m (outs m) c))

theorem row_at (v : FVec Ideal S73728 .f32) (n : Fin 73728) :
    shapeCast S1x73728 v shapeCasts_S73728_S1x73728 (ix2 0 n) = v (ix1 n) := by
  pointwise

theorem score_penalty (n : Fin 73728) : (V3 m (outsQuant m) c main_v18 : Vec Ideal S1x73728 .f32) (ix2 0 n) = P m c n :=
  (congrFun (v18_eq m c) (ix2 0 n)).trans ((row_at _ n).trans (congrFun (at2 m c main_arg4 (by decide) (by decide)) (ix1 n)))

theorem v13_eq : V3 m (outsQuant m) c main_v13
    = uitofp (F := Ideal) .f32 (HostRead.bits (m ((c : Thread nD τ).loc main_arg5) : Vec Ideal S2304 .i32)) :=
  (entry m c main_v13).trans ((HostRead.line1_v13 (V2 m (outs m) c)).trans
    (congrArg (fun w : Vec Ideal S2304 .i32 => uitofp (F := Ideal) .f32 (HostRead.bits w)) (at2 m c main_arg5 (by decide) (by decide))))

theorem score_valid (n : Fin 73728) :
    ScoreTile.isValid ((V3 m (outsQuant m) c main_v13 : Vec Ideal S1x73728 .f32) (ix2 0 n)) = validAt (W m c) n :=
  (congrArg ScoreTile.isValid (congrFun (v13_eq m c) (ix2 0 n))).trans (HostRead.bits_valid _ n)

theorem score_scores : V4 m (outs m) c main_v19_0 = scoreVec (X m c) (C m c) (S m c) (T m c) (P m c) (W m c) :=
  (after_score m c _ (mem_uc main_v19_0 (by decide))).symm.trans
    ((Pipeline.afterRegion_arr (scoreDat m c) (V3 m (outsQuant m) c) launch1.win.arr_inj 6).trans
      (ScoreValue.scores (atRefs (V3 m (outsQuant m))) c (X m c) (C m c) (S m c) (T m c) (P m c) (W m c)
        (score_wide m c) (score_gains m c) (score_items m c) (score_scales m c) (score_penalty m c) (score_valid m c)))

theorem score_tops : V4 m (outs m) c main_v19_1 = topT (X m c) (C m c) (S m c) (T m c) (P m c) (W m c) :=
  (after_score m c _ (mem_uc main_v19_1 (by decide))).symm.trans
    ((Pipeline.afterRegion_arr (scoreDat m c) (V3 m (outsQuant m) c) launch1.win.arr_inj 7).trans
      (ScoreValue.tops (atRefs (V3 m (outsQuant m))) c (X m c) (C m c) (S m c) (T m c) (P m c) (W m c)
        (score_wide m c) (score_gains m c) (score_items m c) (score_scales m c) (score_penalty m c) (score_valid m c)))

/-! ## The third call -/

theorem entry7 (r : Ref sig .tc) : V7 m (outsScore m) c r = V7 m (outs m) c r := congrFun (V7_outs m c).symm r

theorem at7 (r : Ref sig .tc) (h3 : r ∉ hostOps1_W) (h4 : r ∉ ([main_v19_0, main_v19_1] : List (Ref sig .tc))) (h5 : r ∉ hostOps2_W)
    (h6 : r ∉ hostOps2_1_W) (h7 : r ∉ hostOps2_2_W) : V7 m (outsScore m) c r = V2 m (outs m) c r :=
  (entry7 m c r).trans ((V7_of m (outs m) c r h7).trans ((at6 m c r h4 h5 h6).trans (V3_of m (outs m) c r h3)))

theorem arg6 (r : Ref sig .tc) (h1 : r ∉ hostOps0_W) (h2 : r ∉ ([main_v3_0, main_v3_1, main_v3_2, main_v3_3] : List (Ref sig .tc)))
    (h3 : r ∉ hostOps1_W) (h4 : r ∉ ([main_v19_0, main_v19_1] : List (Ref sig .tc))) (h5 : r ∉ hostOps2_W)
    (h6 : r ∉ hostOps2_1_W) : V6 m (outs m) c r = m ((c : Thread nD τ).loc r) :=
  (at6 m c r h4 h5 h6).trans ((V3_of m (outs m) c r h3).trans (at2 m c r h1 h2))

theorem v24_eq : V7 m (outsScore m) c main_v24 = HostRead.cutCodes (m ((c : Thread nD τ).loc main_arg1) : Vec Ideal S73728x4x96 .i8) :=
  (entry7 m c main_v24).trans ((HostRead.line4_v24 (V6 m (outs m) c)).trans
    (congrArg HostRead.cutCodes (arg6 m c main_arg1 (by decide) (by decide) (by decide) (by decide) (by decide) (by decide))))

theorem show_items (r : Fin 864) (d : Fin 96) :
    (V7 m (outsScore m) c main_v24 : Vec Ideal S864x96 .i8) (ix2 r d) = C m c (pick r).1 (pick r).2 d :=
  (congrFun (v24_eq m c) (ix2 r d)).trans (HostRead.cutCodes_at _ r d)

theorem v28_eq : V7 m (outsScore m) c main_v28 = HostRead.cutScales (m ((c : Thread nD τ).loc main_arg2) : Vec Ideal S73728x4 .f32) :=
  (entry7 m c main_v28).trans ((HostRead.line4_v28 (V6 m (outs m) c)).trans
    (congrArg HostRead.cutScales (arg6 m c main_arg2 (by decide) (by decide) (by decide) (by decide) (by decide) (by decide))))

theorem show_scales (r : Fin 864) (l : Fin 128) :
    (V7 m (outsScore m) c main_v28 : Vec Ideal S864x128 .f32) (ix2 r l) = S m c (pick r).1 (pick r).2 :=
  (congrFun (v28_eq m c) (ix2 r l)).trans (HostRead.cutScales_at _ r l)

theorem show_codes : V7 m (outsScore m) c main_v3_0 = codeT (X m c) :=
  (at7 m c main_v3_0 (by decide) (by decide) (by decide) (by decide) (by decide)).trans (quant_codes m c)

theorem show_user_scales : V7 m (outsScore m) c main_v3_1 = scaleT (X m c) :=
  (at7 m c main_v3_1 (by decide) (by decide) (by decide) (by decide) (by decide)).trans (quant_scales m c)

theorem show_temperature : (V7 m (outsScore m) c main_arg3 : Vec Ideal S1 .f32) (ix1 0) = T m c :=
  congrFun ((at7 m c main_arg3 (by decide) (by decide) (by decide) (by decide) (by decide)).trans
    (at2 m c main_arg3 (by decide) (by decide))) (ix1 0)

theorem show_shows : V8 m (outs m) c main_v29 = showT (X m c) (C m c) (S m c) (T m c) :=
  (after_show m c _ (mem_uc main_v29 (by decide))).symm.trans
    ((Pipeline.afterRegion_arr (showDat m c) (V7 m (outsScore m) c) launch2.win.arr_inj 5).trans
      (ShowValue.shows (atRefs (V7 m (outsScore m))) c (X m c) (C m c) (S m c) (T m c)
        (show_items m c) (show_scales m c) (show_codes m c) (show_user_scales m c) (show_temperature m c)))

/-! ## The results -/

/-- From the third call to the end. -/
theorem at8 (r : Ref sig .tc) (h5 : r ∉ hostOps2_W) (h6 : r ∉ hostOps2_1_W) (h7 : r ∉ hostOps2_2_W)
    (h8 : r ∉ ([main_v29] : List (Ref sig .tc))) : V8 m (outs m) c r = V4 m (outs m) c r :=
  (V8_of m (outs m) c r h8).trans ((V7_of m (outs m) c r h7).trans ((V6_of m (outs m) c r h6).trans (V5_of m (outs m) c r h5)))

theorem at8' (r : Ref sig .tc) (h3 : r ∉ hostOps1_W) (h4 : r ∉ ([main_v19_0, main_v19_1] : List (Ref sig .tc)))
    (h5 : r ∉ hostOps2_W) (h6 : r ∉ hostOps2_1_W) (h7 : r ∉ hostOps2_2_W)
    (h8 : r ∉ ([main_v29] : List (Ref sig .tc))) : V8 m (outs m) c r = V2 m (outs m) c r :=
  (at8 m c r h5 h6 h7 h8).trans ((V4_of m (outs m) c r h4).trans (V3_of m (outs m) c r h3))

/-- Result 1, the scores. -/
theorem scores : V9 m (outs m) c main_v19_0 = scoreVec (X m c) (C m c) (S m c) (T m c) (P m c) (W m c) :=
  (V9_of m (outs m) c main_v19_0 (by decide)).trans
    ((at8 m c main_v19_0 (by decide) (by decide) (by decide) (by decide)).trans (score_scores m c))

theorem v17_eq : V5 m (outs m) c main_v17 = HostRead.anyWord (m ((c : Thread nD τ).loc main_arg5) : Vec Ideal S2304 .i32) :=
  (V5_of m (outs m) c main_v17 (by decide)).trans ((V4_of m (outs m) c main_v17 (by decide)).trans
    ((HostRead.line1_v17 (V2 m (outs m) c)).trans (congrArg HostRead.anyWord (at2 m c main_arg5 (by decide) (by decide)))))

/-- The block maxima as the second call leaves them, on the lanes that are blocks. -/
theorem cut_at (t : FVec Ideal S2560x128 .f32) (b : Fin 2560) (j : Fin 72) :
    extractStridedSlice S2560x72 ![0, 0] t slices_S2560x128_S2560x72_0_0 (ix2 b j) = t (ix2 b ⟨j.val, by omega⟩) := by
  pointwise

/-- The masked block maximum. -/
theorem kept_top (w : IVec S2304 32) (X : Fin 2560 → Fin 8 → Fin 96 → EReal) (C : Fin 73728 → Fin 4 → Fin 96 → BitVec 8)
    (S : Fin 73728 → Fin 4 → EReal) (T : EReal) (P : Fin 73728 → EReal) (b : Fin 2560) (j : Fin 72) :
    HostRead.kept (HostRead.anyWord w)
      (extractStridedSlice S2560x72 ![0, 0] (topT X C S T P fun n => w (ix1 n)) slices_S2560x128_S2560x72_0_0)
      (constant (F := Ideal) S_ .f32 0x00000000#32) (ix2 b j) = topAt X C S T P (fun n => w (ix1 n)) b j := by
  rw [HostRead.kept_at, cut_at]
  have e : topT X C S T P (fun n => w (ix1 n)) (ix2 b ⟨j.val, by omega⟩) = bestAt X C S T P (fun n => w (ix1 n)) b j := by
    change topG X C S T P (fun n => w (ix1 n)) b ⟨j.val, by omega⟩ = _
    unfold topG
    exact dif_pos j.isLt
  have z : constant (F := Ideal) S_ .f32 0x00000000#32 ix0 = (0 : EReal) := by
    show Ideal.ofBits .f32 0x00000000#32 = 0
    simp
  rw [e, z]
  unfold topAt
  by_cases h : 0 < anyAt (fun n => w (ix1 n)) j
  · have h1 : ∀ x : BitVec 1, x ≠ 0#1 → x = 1#1 := by decide
    rw [if_pos h, h1 _ ((HostRead.anyWord_ne w j).2 h)]
    rfl
  · have h0 : HostRead.anyWord w (ix1 j) = 0#1 := by
      by_contra hn
      exact h ((HostRead.anyWord_ne w j).1 hn)
    rw [if_neg h, h0]
    rfl

theorem kept_congr {w w' : IVec S72 1} {t t' : FVec Ideal S2560x72 .f32} {z z' : FVec Ideal S_ .f32} (hw : w = w') (ht : t = t') (hz : z = z') :
    HostRead.kept w t z = HostRead.kept w' t' z' := by
  rw [hw, ht, hz]

theorem v20_eq : V5 m (outs m) c main_v20 = extractStridedSlice S2560x72 ![0, 0]
    (topT (X m c) (C m c) (S m c) (T m c) (P m c) (W m c)) slices_S2560x128_S2560x72_0_0 :=
  (HostRead.line2_v20 (V4 m (outs m) c)).trans
    (congrArg (fun t : Vec Ideal S2560x128 .f32 => extractStridedSlice S2560x72 ![0, 0] t slices_S2560x128_S2560x72_0_0) (score_tops m c))

theorem v21_eq : V6 m (outs m) c main_v21 = HostRead.kept (HostRead.anyWord (m ((c : Thread nD τ).loc main_arg5) : Vec Ideal S2304 .i32))
    (extractStridedSlice S2560x72 ![0, 0] (topT (X m c) (C m c) (S m c) (T m c) (P m c) (W m c)) slices_S2560x128_S2560x72_0_0)
    (constant (F := Ideal) S_ .f32 0x00000000#32) :=
  (HostRead.line3_v21 (V5 m (outs m) c)).trans (kept_congr (v17_eq m c) (v20_eq m c) (HostRead.line2_cst (V4 m (outs m) c)))

/-- Result 2, the block maxima. -/
theorem tops : V9 m (outs m) c main_v21 = topVec (X m c) (C m c) (S m c) (T m c) (P m c) (W m c) := by
  refine ((V9_of m (outs m) c main_v21 (by decide)).trans ((V8_of m (outs m) c main_v21 (by decide)).trans
    ((V7_of m (outs m) c main_v21 (by decide)).trans (v21_eq m c)))).trans ?_
  refine funext fun (y : S2560x72.Idx) => ?_
  exact (congrArg _ (eq_ix2 (n0 := 2560) (n1 := 72) y)).trans (kept_top _ _ _ _ _ _ (y 0) (y 1))

/-- The logits laid out. -/
theorem laid (X : Fin 2560 → Fin 8 → Fin 96 → EReal) (C : Fin 73728 → Fin 4 → Fin 96 → BitVec 8)
    (S : Fin 73728 → Fin 4 → EReal) (T : EReal) (b : Fin 2560) (j : Fin 72) (i : Fin 3) (l : Fin 32) :
    HostRead.laidOut (showT X C S T) (ix4 b j i l) = showAt X C S T b j i (lane l).1 (lane l).2 := by
  rw [HostRead.laidOut_at]
  change showAt X C S T b (ShowValue.place ⟨j.val * 3 + i.val, by omega⟩).1 (ShowValue.place ⟨j.val * 3 + i.val, by omega⟩).2 _ _ = _
  have e : ShowValue.place ⟨j.val * 3 + i.val, by omega⟩ = (j, i) := by
    refine Prod.ext (Fin.ext ?_) (Fin.ext ?_)
    · show (j.val * 3 + i.val) / 3 = j.val
      omega
    · show (j.val * 3 + i.val) % 3 = i.val
      omega
  rw [e]
  rfl

/-- Result 3, the shown logits. -/
theorem shows : V9 m (outs m) c main_v31 = showVec (X m c) (C m c) (S m c) (T m c) := by
  refine ((HostRead.line5_v31 (V8 m (outs m) c)).trans (congrArg HostRead.laidOut (show_shows m c))).trans ?_
  refine funext fun (y : S2560x72x3x32.Idx) => ?_
  exact (congrArg _ (eq_ix4 (n0 := 2560) (n1 := 72) (n2 := 3) (n3 := 32) y)).trans (laid _ _ _ _ (y 0) (y 1) (y 2) (y 3))

theorem back_codes_at (v : IVec S8x96x2560 8) (b : Fin 2560) (u : Fin 8) (d : Fin 96) :
    transpose S2560x8x96 [2, 0, 1] v transposes_S8x96x2560_S2560x8x96_2_0_1 (ix3 b u d) = v (ix3 u d b) := by
  pointwise

theorem back_scales_at (v : FVec Ideal S8x2560 .f32) (b : Fin 2560) (u : Fin 8) :
    transpose S2560x8 [1, 0] v transposes_S8x2560_S2560x8_1_0 (ix2 b u) = v (ix2 u b) := by
  pointwise

/-- Result 4, the user codes. -/
theorem codes : V9 m (outs m) c main_v32 = codeVec (X m c) := by
  refine ((HostRead.line5_v32 (V8 m (outs m) c)).trans (congrArg (fun v : Vec Ideal S8x96x2560 .i8 =>
    transpose S2560x8x96 [2, 0, 1] v transposes_S8x96x2560_S2560x8x96_2_0_1)
      ((at8' m c main_v3_0 (by decide) (by decide) (by decide) (by decide) (by decide) (by decide)).trans (quant_codes m c)))).trans ?_
  refine funext fun (y : S2560x8x96.Idx) => ?_
  exact (congrArg _ (eq_ix3 (n0 := 2560) (n1 := 8) (n2 := 96) y)).trans (back_codes_at _ (y 0) (y 1) (y 2))

/-- Result 5, the user scales. -/
theorem scales : V9 m (outs m) c main_v33 = scaleVec (X m c) := by
  refine ((HostRead.line5_v33 (V8 m (outs m) c)).trans (congrArg (fun v : Vec Ideal S8x2560 .f32 =>
    transpose S2560x8 [1, 0] v transposes_S8x2560_S2560x8_1_0)
      ((at8' m c main_v3_1 (by decide) (by decide) (by decide) (by decide) (by decide) (by decide)).trans (quant_scales m c)))).trans ?_
  refine funext fun (y : S2560x8.Idx) => ?_
  exact (congrArg _ (eq_ix2 (n0 := 2560) (n1 := 8) y)).trans (back_scales_at _ (y 0) (y 1))

end Cert.KernelIdeal.KernelValue

end
-- ==== Proof.Algebraic.lean ====
module

public import proofs.«01_k».proof.Defs
public import proofs.«01_k».proof.Proof.RefValue
public import proofs.«01_k».proof.Proof.KernelValue

@[expose] public section

set_option maxRecDepth 16384

noncomputable section

/-! # Kernel and reference return the same results -/

namespace Cert.Algebraic

open Idealize.ShloMosaic Idealize.ShloMosaic.TcCoe Idealize.SL.Sem
open Cert.Spec
open Cert.KernelIdeal (main_arg0 main_arg1 main_arg2 main_arg3 main_arg4 main_arg5 main_v19_0 main_v21 main_v31 main_v32 main_v33)
open Cert.KernelIdeal.KernelValue (X C S T P W)

local instance : Cert.KernelIdeal.Facts := Cert.KernelIdeal.Gen.facts
local instance : Cert.ReferenceIdeal.Facts := Cert.ReferenceIdeal.Gen.facts

/-- The kernel's run, every result in terms of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc main_v19_0) = scoreVec (X m c) (C m c) (S m c) (T m c) (P m c) (W m c)
        ∧ r.2.mem ((c.tc : Thread Cert.KernelIdeal.nD Cert.KernelIdeal.τ).loc main_v21) = topVec (X m c) (C m c) (S m c) (T m c) (P m c) (W m c)
        ∧ r.2.mem ((c.tc : Thread Cert.KernelIdeal.nD Cert.KernelIdeal.τ).loc main_v31) = showVec (X m c) (C m c) (S m c) (T m c)
        ∧ r.2.mem ((c.tc : Thread Cert.KernelIdeal.nD Cert.KernelIdeal.τ).loc main_v32) = codeVec (X m c)
        ∧ r.2.mem ((c.tc : Thread Cert.KernelIdeal.nD Cert.KernelIdeal.τ).loc main_v33) = scaleVec (X m c)
        ∧ r.2.mem ((c.tc : Thread Cert.KernelIdeal.nD Cert.KernelIdeal.τ).loc main_arg0) = m ((c.tc : Thread Cert.KernelIdeal.nD Cert.KernelIdeal.τ).loc main_arg0)
        ∧ r.2.mem ((c.tc : Thread Cert.KernelIdeal.nD Cert.KernelIdeal.τ).loc main_arg1) = m ((c.tc : Thread Cert.KernelIdeal.nD Cert.KernelIdeal.τ).loc main_arg1)
        ∧ r.2.mem ((c.tc : Thread Cert.KernelIdeal.nD Cert.KernelIdeal.τ).loc main_arg2) = m ((c.tc : Thread Cert.KernelIdeal.nD Cert.KernelIdeal.τ).loc main_arg2)
        ∧ r.2.mem ((c.tc : Thread Cert.KernelIdeal.nD Cert.KernelIdeal.τ).loc main_arg3) = m ((c.tc : Thread Cert.KernelIdeal.nD Cert.KernelIdeal.τ).loc main_arg3)
        ∧ r.2.mem ((c.tc : Thread Cert.KernelIdeal.nD Cert.KernelIdeal.τ).loc main_arg4) = m ((c.tc : Thread Cert.KernelIdeal.nD Cert.KernelIdeal.τ).loc main_arg4)
        ∧ r.2.mem ((c.tc : Thread Cert.KernelIdeal.nD Cert.KernelIdeal.τ).loc main_arg5) = m ((c.tc : Thread Cert.KernelIdeal.nD Cert.KernelIdeal.τ).loc main_arg5)) :=
  (θ_run _ _ _).mono (fun r h c =>
    ⟨(h.1 c _ (Cert.KernelIdeal.Run.mem_uc main_v19_0 (by decide))).trans (Cert.KernelIdeal.KernelValue.scores m c),
      (h.1 c _ (Cert.KernelIdeal.Run.mem_uc main_v21 (by decide))).trans (Cert.KernelIdeal.KernelValue.tops m c),
      (h.1 c _ (Cert.KernelIdeal.Run.mem_uc main_v31 (by decide))).trans (Cert.KernelIdeal.KernelValue.shows m c),
      (h.1 c _ (Cert.KernelIdeal.Run.mem_uc main_v32 (by decide))).trans (Cert.KernelIdeal.KernelValue.codes m c),
      (h.1 c _ (Cert.KernelIdeal.Run.mem_uc main_v33 (by decide))).trans (Cert.KernelIdeal.KernelValue.scales m c),
      (h.1 c _ (Cert.KernelIdeal.Run.mem_uc main_arg0 (by decide))).trans (Cert.KernelIdeal.Gen.V9_main_arg0 m _ c),
      (h.1 c _ (Cert.KernelIdeal.Run.mem_uc main_arg1 (by decide))).trans (Cert.KernelIdeal.Gen.V9_main_arg1 m _ c),
      (h.1 c _ (Cert.KernelIdeal.Run.mem_uc main_arg2 (by decide))).trans (Cert.KernelIdeal.Gen.V9_main_arg2 m _ c),
      (h.1 c _ (Cert.KernelIdeal.Run.mem_uc main_arg3 (by decide))).trans (Cert.KernelIdeal.Gen.V9_main_arg3 m _ c),
      (h.1 c _ (Cert.KernelIdeal.Run.mem_uc main_arg4 (by decide))).trans (Cert.KernelIdeal.Gen.V9_main_arg4 m _ c),
      (h.1 c _ (Cert.KernelIdeal.Run.mem_uc main_arg5 (by decide))).trans (Cert.KernelIdeal.Gen.V9_main_arg5 m _ c)⟩)
    (Cert.KernelIdeal.Run.run m ρ)

theorem algebraic : Cert.algebraic_KernelIdeal_ReferenceIdeal := by
  intro m g m' g' _ hag
  refine ⟨fun c => scoreVec (X m c) (C m c) (S m c) (T m c) (P m c) (W m c),
    fun c => topVec (X m c) (C m c) (S m c) (T m c) (P m c) (W m c),
    fun c => showVec (X m c) (C m c) (S m c) (T m c), fun c => codeVec (X m c), fun c => scaleVec (X m c), kernel_run m g, ?_⟩
  refine (θ_run _ _ _).mono (fun r h c => ?_) (Cert.ReferenceIdeal.Value.run_blocks (F := Ideal) m' g')
  obtain ⟨a0, a1, a2, a3, a4, a5⟩ := hag c
  obtain ⟨h0, h1, h2, h3, h4, hargs⟩ := h c
  have eX : Cert.ReferenceIdeal.Value.X m' c = X m c :=
    funext fun b => funext fun u => funext fun d => congrFun a0 (ix3 (n0 := 2560) (n1 := 8) (n2 := 96) b u d)
  have eC : Cert.ReferenceIdeal.Value.C m' c = C m c :=
    funext fun n => funext fun k => funext fun d => congrFun a1 (ix3 (n0 := 73728) (n1 := 4) (n2 := 96) n k d)
  have eS : Cert.ReferenceIdeal.Value.S m' c = S m c :=
    funext fun n => funext fun k => congrFun a2 (ix2 (n0 := 73728) (n1 := 4) n k)
  have eT : Cert.ReferenceIdeal.Value.T m' c = T m c := congrFun a3 (ix1 (n0 := 1) 0)
  have eP : Cert.ReferenceIdeal.Value.P m' c = P m c := funext fun n => congrFun a4 (ix1 (n0 := 73728) n)
  have eW : Cert.ReferenceIdeal.Value.W m' c = W m c := funext fun n => congrFun a5 (ix1 (n0 := 2304) n)
  have f0 := Cert.ReferenceIdeal.Value.scores m' c
  have f1 := Cert.ReferenceIdeal.Value.tops m' c
  have f2 := Cert.ReferenceIdeal.Value.shows m' c
  have f3 := Cert.ReferenceIdeal.Value.codes m' c
  have f4 := Cert.ReferenceIdeal.Value.scales m' c
  rw [eX, eC, eS, eT, eP, eW] at f0 f1
  rw [eX, eC, eS, eT] at f2
  rw [eX] at f3 f4
  exact ⟨h0.trans f0, h1.trans f1, h2.trans f2, h3.trans f3, h4.trans f4, hargs⟩

end Cert.Algebraic

end
-- ==== Proof.lean ====
module

public import proofs.«01_k».proof.Defs
public import proofs.«01_k».proof.Proof.Gen.ReferenceIdeal.Value
public import proofs.«01_k».proof.Proof.Run
public import proofs.«01_k».proof.Proof.Machine.Run
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ,
    fun m ρ _ => Cert.ReferenceIdeal.Gen.frame m ρ, trivial, Cert.Algebraic.algebraic⟩

end Cert.Proof

end
